-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 1024]⟩ ⟨2, ![8192, 1024]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v33) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1024x1024 : Shape := ⟨2, ![1024, 1024]⟩
abbrev S4x1024x64x128 : Shape := ⟨4, ![4, 1024, 64, 128]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S4x1024x64x128 : S_.BroadcastsInDim S4x1024x64x128 (![] : Fin 0 → Fin S4x1024x64x128.rank)
  reducesTo_S4x1024x64x128_S_d0_1_2_3 : S4x1024x64x128.ReducesTo [0, 1, 2, 3] S_

variable [Facts]

def fn {F : FTy → Type} [FloatOps F] (main_arg0 : FVec F S1024x1024 .f32) (main_arg1 : FVec F S1024x1024 .f32) (main_arg2 : FVec F S1024x1024 .f32) (main_arg3 : FVec F S4x1024x64x128 .f32) (main_arg4 : FVec F S4x1024x64x128 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S4x1024x64x128 .f32 := Host.absf main_arg3
  let main_cst_2 : FVec F S_ .f32 := constant S_ .f32 0x7F800000#32
  let main_v10 : FVec F S4x1024x64x128 .f32 := broadcastInDim S4x1024x64x128 ![] bcast_S_S4x1024x64x128 main_cst_2
  let main_v11 : IVec S4x1024x64x128 1 := cmpf .olt main_v9 main_v10
  let main_c_3 : IVec S_ 1 := constantI S_ 1 1#1
  let main_v12 : IVec S_ 1 := (fun x v => Host.reduce IntOp.andi x v reducesTo_S4x1024x64x128_S_d0_1_2_3 h_S_) main_v11 main_c_3
  let main_v13 : IVec S_ 1 := andi main_v8 main_v12
  main_v13
-- ==== Pre_finite_ReferenceIdeal.lean ====
abbrev S1024x1024 : Shape := ⟨2, ![1024, 1024]⟩
abbrev S1024x8192 : Shape := ⟨2, ![1024, 8192]⟩
abbrev S8192x1024 : Shape := ⟨2, ![8192, 1024]⟩
abbrev S4x1024x64x128 : Shape := ⟨4, ![4, 1024, 64, 128]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S1024x8192 : S_.BroadcastsInDim S1024x8192 (![] : Fin 0 → Fin S1024x8192.rank)
  reducesTo_S1024x8192_S_d0_1 : S1024x8192.ReducesTo [0, 1] S_
  bcast_S_S4x1024x64x128 : S_.BroadcastsInDim S4x1024x64x128 (![] : Fin 0 → Fin S4x1024x64x128.rank)
  reducesTo_S4x1024x64x128_S_d0_1_2_3 : S4x1024x64x128.ReducesTo [0, 1, 2, 3] S_

variable [Facts]

def fn {F : FTy → Type} [FloatOps F] (main_arg0 : FVec F S1024x1024 .f32) (main_arg1 : FVec F S1024x8192 .f32) (main_arg2 : FVec F S8192x1024 .f32) (main_arg3 : FVec F S4x1024x64x128 .f32) (main_arg4 : FVec F S4x1024x64x128 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S1024x8192 .f32 := Host.absf main_arg1
  let main_cst_0 : FVec F S_ .f32 := constant S_ .f32 0x7F800000#32
  let main_v5 : FVec F S1024x8192 .f32 := broadcastInDim S1024x8192 ![] bcast_S_S1024x8192 main_cst_0
  let main_v6 : IVec S1024x8192 1 := cmpf .olt main_v4 main_v5
  let main_c_1 : IVec S_ 1 := constantI S_ 1 1#1
  let main_v7 : IVec S_ 1 := (fun x v => Host.reduce IntOp.andi x v reducesTo_S1024x8192_S_d0_1 h_S_) main_v6 main_c_1
  let main_v8 : IVec S_ 1 := andi main_v3 main_v7
  let main_v9 : FVec F S4x1024x64x128 .f32 := Host.absf main_arg3
  let main_cst_2 : FVec F S_ .f32 := constant S_ .f32 0x7F800000#32
  let main_v10 : FVec F S4x1024x64x128 .f32 := broadcastInDim S4x1024x64x128 ![] bcast_S_S4x1024x64x128 main_cst_2
  let main_v11 : IVec S4x1024x64x128 1 := cmpf .olt main_v9 main_v10
  let main_c_3 : IVec S_ 1 := constantI S_ 1 1#1
  let main_v12 : IVec S_ 1 := (fun x v => Host.reduce IntOp.andi x v reducesTo_S4x1024x64x128_S_d0_1_2_3 h_S_) main_v11 main_c_3
  let main_v13 : IVec S_ 1 := andi main_v8 main_v12
  main_v13
-- ==== Kernel.lean ====
abbrev S1024x1024 : Shape := ⟨2, ![1024, 1024]⟩
abbrev S4x1024x64x128 : Shape := ⟨4, ![4, 1024, 64, 128]⟩
abbrev S2x8x1024x128 : Shape := ⟨4, ![2, 8, 1024, 128]⟩
abbrev S2x8x1024x256 : Shape := ⟨4, ![2, 8, 1024, 256]⟩
abbrev S256x1024 : Shape := ⟨2, ![256, 1024]⟩
abbrev S2x256x1024 : Shape := ⟨3, ![2, 256, 1024]⟩
abbrev S2x128x1024 : Shape := ⟨3, ![2, 128, 1024]⟩
abbrev S2x2 : Shape := ⟨2, ![2, 2]⟩
abbrev S2x3 : Shape := ⟨2, ![2, 3]⟩
abbrev S_ : Shape := ⟨0, ![]⟩
abbrev S1x1 : Shape := ⟨2, ![1, 1]⟩
abbrev S1x1x1024x128 : Shape := ⟨4, ![1, 1, 1024, 128]⟩
abbrev S1024x128 : Shape := ⟨2, ![1024, 128]⟩
abbrev S1x1024x1x128 : Shape := ⟨4, ![1, 1024, 1, 128]⟩
abbrev S256x128 : Shape := ⟨2, ![256, 128]⟩
abbrev S1x1x1024x256 : Shape := ⟨4, ![1, 1, 1024, 256]⟩
abbrev S1024x256 : Shape := ⟨2, ![1024, 256]⟩
abbrev S256x256 : Shape := ⟨2, ![256, 256]⟩
abbrev S256x1 : Shape := ⟨2, ![256, 1]⟩
abbrev S1x256x1024 : Shape := ⟨3, ![1, 256, 1024]⟩
abbrev S1x128x1024 : Shape := ⟨3, ![1, 128, 1024]⟩
abbrev S128x1024 : Shape := ⟨2, ![128, 1024]⟩

abbrev nBuf : Space → Nat
  | .hbm => 6
  | .vmem => 13
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S4x1024x64x128, .f32⟩
  | .hbm, ⟨4, _⟩ => ⟨S4x1024x64x128, .f32⟩
  | .hbm, ⟨5, _⟩ => ⟨S1024x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .bf16⟩
  | .local _ .vmem, ⟨4, _⟩ => ⟨S2x8x1024x128, .f32⟩
  | .local _ .vmem, ⟨5, _⟩ => ⟨S2x8x1024x256, .f32⟩
  | .local _ .vmem, ⟨6, _⟩ => ⟨S1024x1024, .f32⟩
  | .local _ .vmem, ⟨7, _⟩ => ⟨S256x1024, .bf16⟩
  | .local _ .vmem, ⟨8, _⟩ => ⟨S1024x1024, .bf16⟩
  | .local _ .vmem, ⟨9, _⟩ => ⟨S1024x1024, .bf16⟩
  | .local _ .vmem, ⟨10, _⟩ => ⟨S2x256x1024, .bf16⟩
  | .local _ .vmem, ⟨11, _⟩ => ⟨S2x128x1024, .bf16⟩
  | .local _ .vmem, ⟨12, _⟩ => ⟨S2x128x1024, .bf16⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  (ofTc nBuf bufTy 1 28 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_scratch8 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v2 v5
  let c1_i32_3 : BitVec 32 := 1#32
  let v7 : BitVec 32 := Scalar.xori v6 c1_i32_3
  let c1_i32_4 : BitVec 32 := 1#32
  let v8 : BitVec 32 := Scalar.shrsi v7 c1_i32_4
  let c1_i32_5 : BitVec 32 := 1#32
  let v9 : BitVec 32 := Scalar.andi v8 c1_i32_5
  let v10 : BitVec 32 := Scalar.xori v7 v9
  let c1_i32_16 : BitVec 32 := 1#32
  let v26 : BitVec 32 := Scalar.muli v10 c1_i32_16
  let v27 : BitVec 32 := Scalar.addi c0_i32_17 v26
  v27.toNat
def k0_dev2 (d0 : Dev nD) : Nat :=
  let c0_i32_20 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v2 v5
  let c2_i32 : BitVec 32 := 2#32
  let v11 : BitVec 32 := Scalar.xori v6 c2_i32
  let c1_i32_6 : BitVec 32 := 1#32
  let v12 : BitVec 32 := Scalar.shrsi v11 c1_i32_6
  let c1_i32_7 : BitVec 32 := 1#32
  let v13 : BitVec 32 := Scalar.andi v12 c1_i32_7
  let v14 : BitVec 32 := Scalar.xori v11 v13
  let c1_i32_19 : BitVec 32 := 1#32
  let v28 : BitVec 32 := Scalar.muli v14 c1_i32_19
  let v29 : BitVec 32 := Scalar.addi c0_i32_20 v28
  v29.toNat
def k0_dev3 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v2 v5
  let c4_i32 : BitVec 32 := 4#32
  let v15 : BitVec 32 := Scalar.xori v6 c4_i32
  let c1_i32_8 : BitVec 32 := 1#32
  let v16 : BitVec 32 := Scalar.shrsi v15 c1_i32_8
  let c1_i32_9 : BitVec 32 := 1#32
  let v17 : BitVec 32 := Scalar.andi v16 c1_i32_9
  let v18 : BitVec 32 := Scalar.xori v15 v17
  let c1_i32_22 : BitVec 32 := 1#32
  let v30 : BitVec 32 := Scalar.muli v18 c1_i32_22
  let v31 : BitVec 32 := Scalar.addi c0_i32_23 v30
  v31.toNat
def k0_off1 (d0 : Dev nD) (c1_i32_32 : BitVec 32) (c0_i32 : BitVec 32) (c0_i32_39 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v2 v5
  let v19 : BitVec 32 := Scalar.shrsi v6 c0_i32
  let c1_i32_10 : BitVec 32 := 1#32
  let v20 : BitVec 32 := Scalar.andi v19 c1_i32_10
  let v42 : BitVec 32 := Scalar.subi c1_i32_32 v20
  let c0_i32_58 : BitVec 32 := 0#32
  let c8_i32_0 : BitVec 32 := 8#32
  let v3 : BitVec 32 := Scalar.muli v2 c8_i32_0
  let v54 : BitVec 32 := Scalar.addi v3 c0_i32_39
  let c0_i32_59 : BitVec 32 := 0#32
  ![v42.toNat, 0, v54.toNat, 0]
def k0_off1_at (r : Fin 16) : BitVec 32 × BitVec 32 × BitVec 32 :=
  if r.val < 8 then
    if r.val < 4 then
      if r.val < 2 then
        if r.val < 1 then
          (1#32, 0#32, 0#32)
        else
          (1#32, 0#32, 1#32)
      else
        if r.val < 3 then
          (1#32, 0#32, 2#32)
        else
          (1#32, 0#32, 3#32)
    else
      if r.val < 6 then
        if r.val < 5 then
          (1#32, 0#32, 4#32)
        else
          (1#32, 0#32, 5#32)
      else
        if r.val < 7 then
          (1#32, 0#32, 6#32)
        else
          (1#32, 0#32, 7#32)
  else
    if r.val < 12 then
      if r.val < 10 then
        if r.val < 9 then
          (3#32, 1#32, 0#32)
        else
          (3#32, 1#32, 1#32)
      else
        if r.val < 11 then
          (3#32, 1#32, 2#32)
        else
          (3#32, 1#32, 3#32)
    else
      if r.val < 14 then
        if r.val < 13 then
          (3#32, 1#32, 4#32)
        else
          (3#32, 1#32, 5#32)
      else
        if r.val < 15 then
          (3#32, 1#32, 6#32)
        else
          (3#32, 1#32, 7#32)
def k0_off2 (d0 : Dev nD) (c1_i32_32 : BitVec 32) (c0_i32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v2 v5
  let v19 : BitVec 32 := Scalar.shrsi v6 c0_i32
  let c1_i32_10 : BitVec 32 := 1#32
  let v20 : BitVec 32 := Scalar.andi v19 c1_i32_10
  let v42 : BitVec 32 := Scalar.subi c1_i32_32 v20
  let c256_i32_480 : BitVec 32 := 256#32
  let v408 : BitVec 32 := Scalar.muli v42 c256_i32_480
  let v409 : Index := Scalar.indexCast v408
  let c0_481 : Index := 0#32
  ![v409.toNat, 0]
def k0_off2_at (r : Fin 2) : BitVec 32 × BitVec 32 :=
  if r.val < 1 then
    (1#32, 0#32)
  else
    (3#32, 1#32)
def k0_off3 (d0 : Dev nD) (c1_i32_32 : BitVec 32) (c0_i32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v2 v5
  let v19 : BitVec 32 := Scalar.shrsi v6 c0_i32
  let c1_i32_10 : BitVec 32 := 1#32
  let v20 : BitVec 32 := Scalar.andi v19 c1_i32_10
  let v42 : BitVec 32 := Scalar.subi c1_i32_32 v20
  let c256_i32_480 : BitVec 32 := 256#32
  let v408 : BitVec 32 := Scalar.muli v42 c256_i32_480
  let v426 : Index := Scalar.indexCast v408
  let c128_494 : Index := 128#32
  ![v426.toNat, 128]
def k0_off3_at (r : Fin 2) : BitVec 32 × BitVec 32 :=
  if r.val < 1 then
    (1#32, 0#32)
  else
    (3#32, 1#32)
def k0_off4 (d0 : Dev nD) (c1_i32_32 : BitVec 32) (c0_i32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v2 v5
  let v19 : BitVec 32 := Scalar.shrsi v6 c0_i32
  let c1_i32_10 : BitVec 32 := 1#32
  let v20 : BitVec 32 := Scalar.andi v19 c1_i32_10
  let v42 : BitVec 32 := Scalar.subi c1_i32_32 v20
  let c256_i32_480 : BitVec 32 := 256#32
  let v408 : BitVec 32 := Scalar.muli v42 c256_i32_480
  let v443 : Index := Scalar.indexCast v408
  let c256 : Index := 256#32
  ![v443.toNat, 256]
def k0_off4_at (r : Fin 2) : BitVec 32 × BitVec 32 :=
  if r.val < 1 then
    (1#32, 0#32)
  else
    (3#32, 1#32)
def k0_off5 (d0 : Dev nD) (c1_i32_32 : BitVec 32) (c0_i32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v2 v5
  let v19 : BitVec 32 := Scalar.shrsi v6 c0_i32
  let c1_i32_10 : BitVec 32 := 1#32
  let v20 : BitVec 32 := Scalar.andi v19 c1_i32_10
  let v42 : BitVec 32 := Scalar.subi c1_i32_32 v20
  let c256_i32_480 : BitVec 32 := 256#32
  let v408 : BitVec 32 := Scalar.muli v42 c256_i32_480
  let v460 : Index := Scalar.indexCast v408
  let c384 : Index := 384#32
  ![v460.toNat, 384]
def k0_off5_at (r : Fin 2) : BitVec 32 × BitVec 32 :=
  if r.val < 1 then
    (1#32, 0#32)
  else
    (3#32, 1#32)
def k0_off6 (d0 : Dev nD) (c1_i32_32 : BitVec 32) (c0_i32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v2 v5
  let v19 : BitVec 32 := Scalar.shrsi v6 c0_i32
  let c1_i32_10 : BitVec 32 := 1#32
  let v20 : BitVec 32 := Scalar.andi v19 c1_i32_10
  let v42 : BitVec 32 := Scalar.subi c1_i32_32 v20
  let c256_i32_480 : BitVec 32 := 256#32
  let v408 : BitVec 32 := Scalar.muli v42 c256_i32_480
  let v477 : Index := Scalar.indexCast v408
  let c512 : Index := 512#32
  ![v477.toNat, 512]
def k0_off6_at (r : Fin 2) : BitVec 32 × BitVec 32 :=
  if r.val < 1 then
    (1#32, 0#32)
  else
    (3#32, 1#32)
def k0_off7 (d0 : Dev nD) (c1_i32_32 : BitVec 32) (c0_i32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v2 v5
  let v19 : BitVec 32 := Scalar.shrsi v6 c0_i32
  let c1_i32_10 : BitVec 32 := 1#32
  let v20 : BitVec 32 := Scalar.andi v19 c1_i32_10
  let v42 : BitVec 32 := Scalar.subi c1_i32_32 v20
  let c256_i32_480 : BitVec 32 := 256#32
  let v408 : BitVec 32 := Scalar.muli v42 c256_i32_480
  let v494 : Index := Scalar.indexCast v408
  let c640 : Index := 640#32
  ![v494.toNat, 640]
def k0_off7_at (r : Fin 2) : BitVec 32 × BitVec 32 :=
  if r.val < 1 then
    (1#32, 0#32)
  else
    (3#32, 1#32)
def k0_off8 (d0 : Dev nD) (c1_i32_32 : BitVec 32) (c0_i32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v2 v5
  let v19 : BitVec 32 := Scalar.shrsi v6 c0_i32
  let c1_i32_10 : BitVec 32 := 1#32
  let v20 : BitVec 32 := Scalar.andi v19 c1_i32_10
  let v42 : BitVec 32 := Scalar.subi c1_i32_32 v20
  let c256_i32_480 : BitVec 32 := 256#32
  let v408 : BitVec 32 := Scalar.muli v42 c256_i32_480
  let v511 : Index := Scalar.indexCast v408
  let c768 : Index := 768#32
  ![v511.toNat, 768]
def k0_off8_at (r : Fin 2) : BitVec 32 × BitVec 32 :=
  if r.val < 1 then
    (1#32, 0#32)
  else
    (3#32, 1#32)
def k0_off9 (d0 : Dev nD) (c1_i32_32 : BitVec 32) (c0_i32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v2 v5
  let v19 : BitVec 32 := Scalar.shrsi v6 c0_i32
  let c1_i32_10 : BitVec 32 := 1#32
  let v20 : BitVec 32 := Scalar.andi v19 c1_i32_10
  let v42 : BitVec 32 := Scalar.subi c1_i32_32 v20
  let c256_i32_480 : BitVec 32 := 256#32
  let v408 : BitVec 32 := Scalar.muli v42 c256_i32_480
  let v528 : Index := Scalar.indexCast v408
  let c896 : Index := 896#32
  ![v528.toNat, 896]
def k0_off9_at (r : Fin 2) : BitVec 32 × BitVec 32 :=
  if r.val < 1 then
    (1#32, 0#32)
  else
    (3#32, 1#32)
def k0_off10 (d0 : Dev nD) (c1_i32_32 : BitVec 32) (c0_i32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v2 v5
  let v19 : BitVec 32 := Scalar.shrsi v6 c0_i32
  let c1_i32_10 : BitVec 32 := 1#32
  let v20 : BitVec 32 := Scalar.andi v19 c1_i32_10
  let v42 : BitVec 32 := Scalar.subi c1_i32_32 v20
  let c256_i32_480 : BitVec 32 := 256#32
  let v408 : BitVec 32 := Scalar.muli v42 c256_i32_480
  let v549 : Index := Scalar.indexCast v408
  let c0_577 : Index := 0#32
  ![v549.toNat, 0]
def k0_off10_at (r : Fin 2) : BitVec 32 × BitVec 32 :=
  if r.val < 1 then
    (1#32, 0#32)
  else
    (3#32, 1#32)
def k0_off11 (d0 : Dev nD) (c0_i32_28 : BitVec 32) (c0_i32 : BitVec 32) : Fin 2 → Nat :=
  let c1_i32_26 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v2 v5
  let v19 : BitVec 32 := Scalar.shrsi v6 c0_i32
  let c1_i32_10 : BitVec 32 := 1#32
  let v20 : BitVec 32 := Scalar.andi v19 c1_i32_10
  let v36 : BitVec 32 := Scalar.subi c1_i32_26 v20
  let c256_i32_27 : BitVec 32 := 256#32
  let v37 : BitVec 32 := Scalar.muli v36 c256_i32_27
  let v38 : BitVec 32 := Scalar.addi c0_i32_28 v37
  let c0_i32_587 : BitVec 32 := 0#32
  ![v38.toNat, 0]
def k0_off11_at (r : Fin 2) : BitVec 32 × BitVec 32 :=
  if r.val < 1 then
    (0#32, 0#32)
  else
    (512#32, 1#32)
def k0_dev4 (d0 : Dev nD) : Nat :=
  let c0_i32_584 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v2 v5
  let c1_i32_3 : BitVec 32 := 1#32
  let v7 : BitVec 32 := Scalar.xori v6 c1_i32_3
  let c1_i32_4 : BitVec 32 := 1#32
  let v8 : BitVec 32 := Scalar.shrsi v7 c1_i32_4
  let c1_i32_5 : BitVec 32 := 1#32
  let v9 : BitVec 32 := Scalar.andi v8 c1_i32_5
  let v10 : BitVec 32 := Scalar.xori v7 v9
  let c1_i32_583 : BitVec 32 := 1#32
  let v553 : BitVec 32 := Scalar.muli v10 c1_i32_583
  let v554 : BitVec 32 := Scalar.addi c0_i32_584 v553
  v554.toNat
def k0_off12 (d0 : Dev nD) (c0_i32_588 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v2 v5
  let c0_i32 : BitVec 32 := 0#32
  let v19 : BitVec 32 := Scalar.shrsi v6 c0_i32
  let c1_i32_10 : BitVec 32 := 1#32
  let v20 : BitVec 32 := Scalar.andi v19 c1_i32_10
  let c0_i32_610 : BitVec 32 := 0#32
  let c8_i32_0 : BitVec 32 := 8#32
  let v3 : BitVec 32 := Scalar.muli v2 c8_i32_0
  let v562 : BitVec 32 := Scalar.addi v3 c0_i32_588
  let c0_i32_611 : BitVec 32 := 0#32
  ![v20.toNat, 0, v562.toNat, 0]
def k0_dev5 (d0 : Dev nD) : Nat :=
  let c0_i32_993 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v2 v5
  let c2_i32 : BitVec 32 := 2#32
  let v11 : BitVec 32 := Scalar.xori v6 c2_i32
  let c1_i32_6 : BitVec 32 := 1#32
  let v12 : BitVec 32 := Scalar.shrsi v11 c1_i32_6
  let c1_i32_7 : BitVec 32 := 1#32
  let v13 : BitVec 32 := Scalar.andi v12 c1_i32_7
  let v14 : BitVec 32 := Scalar.xori v11 v13
  let c1_i32_992 : BitVec 32 := 1#32
  let v931 : BitVec 32 := Scalar.muli v14 c1_i32_992
  let v932 : BitVec 32 := Scalar.addi c0_i32_993 v931
  v932.toNat
def k0_off13 (d0 : Dev nD) (c0_i32_997 : BitVec 32) : Fin 4 → Nat :=
  let c2_i32_34 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v2 v5
  let c1_i32_11 : BitVec 32 := 1#32
  let v21 : BitVec 32 := Scalar.shrsi v6 c1_i32_11
  let c1_i32_12 : BitVec 32 := 1#32
  let v22 : BitVec 32 := Scalar.andi v21 c1_i32_12
  let v44 : BitVec 32 := Scalar.addi c2_i32_34 v22
  let c0_i32_1019 : BitVec 32 := 0#32
  let c8_i32_0 : BitVec 32 := 8#32
  let v3 : BitVec 32 := Scalar.muli v2 c8_i32_0
  let v940 : BitVec 32 := Scalar.addi v3 c0_i32_997
  let c0_i32_1020 : BitVec 32 := 0#32
  ![v44.toNat, 0, v940.toNat, 0]
def k0_off14 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v2 v5
  let c0_i32 : BitVec 32 := 0#32
  let v19 : BitVec 32 := Scalar.shrsi v6 c0_i32
  let c1_i32_10 : BitVec 32 := 1#32
  let v20 : BitVec 32 := Scalar.andi v19 c1_i32_10
  let c256_i32_1285 : BitVec 32 := 256#32
  let v1164 : BitVec 32 := Scalar.muli v20 c256_i32_1285
  let v1165 : Index := Scalar.indexCast v1164
  let c0_1286 : Index := 0#32
  ![v1165.toNat, 0]
def k0_off15 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v2 v5
  let c0_i32 : BitVec 32 := 0#32
  let v19 : BitVec 32 := Scalar.shrsi v6 c0_i32
  let c1_i32_10 : BitVec 32 := 1#32
  let v20 : BitVec 32 := Scalar.andi v19 c1_i32_10
  let c256_i32_1285 : BitVec 32 := 256#32
  let v1164 : BitVec 32 := Scalar.muli v20 c256_i32_1285
  let v1182 : Index := Scalar.indexCast v1164
  let c128_1299 : Index := 128#32
  ![v1182.toNat, 128]
def k0_off16 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v2 v5
  let c0_i32 : BitVec 32 := 0#32
  let v19 : BitVec 32 := Scalar.shrsi v6 c0_i32
  let c1_i32_10 : BitVec 32 := 1#32
  let v20 : BitVec 32 := Scalar.andi v19 c1_i32_10
  let c256_i32_1285 : BitVec 32 := 256#32
  let v1164 : BitVec 32 := Scalar.muli v20 c256_i32_1285
  let v1199 : Index := Scalar.indexCast v1164
  let c256_1312 : Index := 256#32
  ![v1199.toNat, 256]
def k0_off17 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v2 v5
  let c0_i32 : BitVec 32 := 0#32
  let v19 : BitVec 32 := Scalar.shrsi v6 c0_i32
  let c1_i32_10 : BitVec 32 := 1#32
  let v20 : BitVec 32 := Scalar.andi v19 c1_i32_10
  let c256_i32_1285 : BitVec 32 := 256#32
  let v1164 : BitVec 32 := Scalar.muli v20 c256_i32_1285
  let v1216 : Index := Scalar.indexCast v1164
  let c384_1325 : Index := 384#32
  ![v1216.toNat, 384]
def k0_off18 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v2 v5
  let c0_i32 : BitVec 32 := 0#32
  let v19 : BitVec 32 := Scalar.shrsi v6 c0_i32
  let c1_i32_10 : BitVec 32 := 1#32
  let v20 : BitVec 32 := Scalar.andi v19 c1_i32_10
  let c256_i32_1285 : BitVec 32 := 256#32
  let v1164 : BitVec 32 := Scalar.muli v20 c256_i32_1285
  let v1233 : Index := Scalar.indexCast v1164
  let c512_1338 : Index := 512#32
  ![v1233.toNat, 512]
def k0_off19 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v2 v5
  let c0_i32 : BitVec 32 := 0#32
  let v19 : BitVec 32 := Scalar.shrsi v6 c0_i32
  let c1_i32_10 : BitVec 32 := 1#32
  let v20 : BitVec 32 := Scalar.andi v19 c1_i32_10
  let c256_i32_1285 : BitVec 32 := 256#32
  let v1164 : BitVec 32 := Scalar.muli v20 c256_i32_1285
  let v1250 : Index := Scalar.indexCast v1164
  let c640_1351 : Index := 640#32
  ![v1250.toNat, 640]
def k0_off20 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v2 v5
  let c0_i32 : BitVec 32 := 0#32
  let v19 : BitVec 32 := Scalar.shrsi v6 c0_i32
  let c1_i32_10 : BitVec 32 := 1#32
  let v20 : BitVec 32 := Scalar.andi v19 c1_i32_10
  let c256_i32_1285 : BitVec 32 := 256#32
  let v1164 : BitVec 32 := Scalar.muli v20 c256_i32_1285
  let v1267 : Index := Scalar.indexCast v1164
  let c768_1364 : Index := 768#32
  ![v1267.toNat, 768]
def k0_off21 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v2 v5
  let c0_i32 : BitVec 32 := 0#32
  let v19 : BitVec 32 := Scalar.shrsi v6 c0_i32
  let c1_i32_10 : BitVec 32 := 1#32
  let v20 : BitVec 32 := Scalar.andi v19 c1_i32_10
  let c256_i32_1285 : BitVec 32 := 256#32
  let v1164 : BitVec 32 := Scalar.muli v20 c256_i32_1285
  let v1284 : Index := Scalar.indexCast v1164
  let c896_1377 : Index := 896#32
  ![v1284.toNat, 896]
def k0_off22 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v2 v5
  let c0_i32 : BitVec 32 := 0#32
  let v19 : BitVec 32 := Scalar.shrsi v6 c0_i32
  let c1_i32_10 : BitVec 32 := 1#32
  let v20 : BitVec 32 := Scalar.andi v19 c1_i32_10
  let c256_i32_1285 : BitVec 32 := 256#32
  let v1164 : BitVec 32 := Scalar.muli v20 c256_i32_1285
  let v1305 : Index := Scalar.indexCast v1164
  let c0_1395 : Index := 0#32
  ![v1305.toNat, 0]
def k0_off23 (d0 : Dev nD) : Fin 2 → Nat :=
  let c2_i32_34 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v2 v5
  let c1_i32_11 : BitVec 32 := 1#32
  let v21 : BitVec 32 := Scalar.shrsi v6 c1_i32_11
  let c1_i32_12 : BitVec 32 := 1#32
  let v22 : BitVec 32 := Scalar.andi v21 c1_i32_12
  let v44 : BitVec 32 := Scalar.addi c2_i32_34 v22
  let c256_i32_1540 : BitVec 32 := 256#32
  let v1421 : BitVec 32 := Scalar.muli v44 c256_i32_1540
  let v1422 : Index := Scalar.indexCast v1421
  let c0_1541 : Index := 0#32
  ![v1422.toNat, 0]
def k0_off24 (d0 : Dev nD) : Fin 2 → Nat :=
  let c2_i32_34 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v2 v5
  let c1_i32_11 : BitVec 32 := 1#32
  let v21 : BitVec 32 := Scalar.shrsi v6 c1_i32_11
  let c1_i32_12 : BitVec 32 := 1#32
  let v22 : BitVec 32 := Scalar.andi v21 c1_i32_12
  let v44 : BitVec 32 := Scalar.addi c2_i32_34 v22
  let c256_i32_1540 : BitVec 32 := 256#32
  let v1421 : BitVec 32 := Scalar.muli v44 c256_i32_1540
  let v1439 : Index := Scalar.indexCast v1421
  let c128_1554 : Index := 128#32
  ![v1439.toNat, 128]
def k0_off25 (d0 : Dev nD) : Fin 2 → Nat :=
  let c2_i32_34 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v2 v5
  let c1_i32_11 : BitVec 32 := 1#32
  let v21 : BitVec 32 := Scalar.shrsi v6 c1_i32_11
  let c1_i32_12 : BitVec 32 := 1#32
  let v22 : BitVec 32 := Scalar.andi v21 c1_i32_12
  let v44 : BitVec 32 := Scalar.addi c2_i32_34 v22
  let c256_i32_1540 : BitVec 32 := 256#32
  let v1421 : BitVec 32 := Scalar.muli v44 c256_i32_1540
  let v1456 : Index := Scalar.indexCast v1421
  let c256_1567 : Index := 256#32
  ![v1456.toNat, 256]
def k0_off26 (d0 : Dev nD) : Fin 2 → Nat :=
  let c2_i32_34 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v2 v5
  let c1_i32_11 : BitVec 32 := 1#32
  let v21 : BitVec 32 := Scalar.shrsi v6 c1_i32_11
  let c1_i32_12 : BitVec 32 := 1#32
  let v22 : BitVec 32 := Scalar.andi v21 c1_i32_12
  let v44 : BitVec 32 := Scalar.addi c2_i32_34 v22
  let c256_i32_1540 : BitVec 32 := 256#32
  let v1421 : BitVec 32 := Scalar.muli v44 c256_i32_1540
  let v1473 : Index := Scalar.indexCast v1421
  let c384_1580 : Index := 384#32
  ![v1473.toNat, 384]
def k0_off27 (d0 : Dev nD) : Fin 2 → Nat :=
  let c2_i32_34 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v2 v5
  let c1_i32_11 : BitVec 32 := 1#32
  let v21 : BitVec 32 := Scalar.shrsi v6 c1_i32_11
  let c1_i32_12 : BitVec 32 := 1#32
  let v22 : BitVec 32 := Scalar.andi v21 c1_i32_12
  let v44 : BitVec 32 := Scalar.addi c2_i32_34 v22
  let c256_i32_1540 : BitVec 32 := 256#32
  let v1421 : BitVec 32 := Scalar.muli v44 c256_i32_1540
  let v1490 : Index := Scalar.indexCast v1421
  let c512_1593 : Index := 512#32
  ![v1490.toNat, 512]
def k0_off28 (d0 : Dev nD) : Fin 2 → Nat :=
  let c2_i32_34 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v2 v5
  let c1_i32_11 : BitVec 32 := 1#32
  let v21 : BitVec 32 := Scalar.shrsi v6 c1_i32_11
  let c1_i32_12 : BitVec 32 := 1#32
  let v22 : BitVec 32 := Scalar.andi v21 c1_i32_12
  let v44 : BitVec 32 := Scalar.addi c2_i32_34 v22
  let c256_i32_1540 : BitVec 32 := 256#32
  let v1421 : BitVec 32 := Scalar.muli v44 c256_i32_1540
  let v1507 : Index := Scalar.indexCast v1421
  let c640_1606 : Index := 640#32
  ![v1507.toNat, 640]
def k0_off29 (d0 : Dev nD) : Fin 2 → Nat :=
  let c2_i32_34 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v2 v5
  let c1_i32_11 : BitVec 32 := 1#32
  let v21 : BitVec 32 := Scalar.shrsi v6 c1_i32_11
  let c1_i32_12 : BitVec 32 := 1#32
  let v22 : BitVec 32 := Scalar.andi v21 c1_i32_12
  let v44 : BitVec 32 := Scalar.addi c2_i32_34 v22
  let c256_i32_1540 : BitVec 32 := 256#32
  let v1421 : BitVec 32 := Scalar.muli v44 c256_i32_1540
  let v1524 : Index := Scalar.indexCast v1421
  let c768_1619 : Index := 768#32
  ![v1524.toNat, 768]
def k0_off30 (d0 : Dev nD) : Fin 2 → Nat :=
  let c2_i32_34 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v2 v5
  let c1_i32_11 : BitVec 32 := 1#32
  let v21 : BitVec 32 := Scalar.shrsi v6 c1_i32_11
  let c1_i32_12 : BitVec 32 := 1#32
  let v22 : BitVec 32 := Scalar.andi v21 c1_i32_12
  let v44 : BitVec 32 := Scalar.addi c2_i32_34 v22
  let c256_i32_1540 : BitVec 32 := 256#32
  let v1421 : BitVec 32 := Scalar.muli v44 c256_i32_1540
  let v1541 : Index := Scalar.indexCast v1421
  let c896_1632 : Index := 896#32
  ![v1541.toNat, 896]
def k0_off31 (d0 : Dev nD) : Fin 2 → Nat :=
  let c2_i32_34 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v2 v5
  let c1_i32_11 : BitVec 32 := 1#32
  let v21 : BitVec 32 := Scalar.shrsi v6 c1_i32_11
  let c1_i32_12 : BitVec 32 := 1#32
  let v22 : BitVec 32 := Scalar.andi v21 c1_i32_12
  let v44 : BitVec 32 := Scalar.addi c2_i32_34 v22
  let c256_i32_1540 : BitVec 32 := 256#32
  let v1421 : BitVec 32 := Scalar.muli v44 c256_i32_1540
  let v1562 : Index := Scalar.indexCast v1421
  let c0_1650 : Index := 0#32
  ![v1562.toNat, 0]
def k0_off32 (d0 : Dev nD) (c0_i32_24 : BitVec 32) (c0_i32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v2 v5
  let v19 : BitVec 32 := Scalar.shrsi v6 c0_i32
  let c1_i32_10 : BitVec 32 := 1#32
  let v20 : BitVec 32 := Scalar.andi v19 c1_i32_10
  let c256_i32 : BitVec 32 := 256#32
  let v32 : BitVec 32 := Scalar.muli v20 c256_i32
  let v33 : BitVec 32 := Scalar.addi c0_i32_24 v32
  let v1578 : Index := Scalar.indexCast v33
  let c0_1670 : Index := 0#32
  ![v1578.toNat, 0]
def k0_off32_at (r : Fin 2) : BitVec 32 × BitVec 32 :=
  if r.val < 1 then
    (0#32, 0#32)
  else
    (512#32, 1#32)
def k0_off33 (d0 : Dev nD) (c0_i32_24 : BitVec 32) (c0_i32 : BitVec 32) (c1_i32_11 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v2 v5
  let v19 : BitVec 32 := Scalar.shrsi v6 c0_i32
  let c1_i32_10 : BitVec 32 := 1#32
  let v20 : BitVec 32 := Scalar.andi v19 c1_i32_10
  let c256_i32 : BitVec 32 := 256#32
  let v32 : BitVec 32 := Scalar.muli v20 c256_i32
  let v33 : BitVec 32 := Scalar.addi c0_i32_24 v32
  let c1_i32_1700 : BitVec 32 := 1#32
  let v21 : BitVec 32 := Scalar.shrsi v6 c1_i32_11
  let c1_i32_12 : BitVec 32 := 1#32
  let v22 : BitVec 32 := Scalar.andi v21 c1_i32_12
  let v1612 : BitVec 32 := Scalar.subi c1_i32_1700 v22
  let c128_i32_1701 : BitVec 32 := 128#32
  let v1613 : BitVec 32 := Scalar.muli v1612 c128_i32_1701
  let v1614 : BitVec 32 := Scalar.addi v33 v1613
  let c0_i32_1711 : BitVec 32 := 0#32
  ![v1614.toNat, 0]
def k0_off33_at (r : Fin 2) : BitVec 32 × BitVec 32 × BitVec 32 :=
  if r.val < 1 then
    (0#32, 0#32, 1#32)
  else
    (512#32, 1#32, 2#32)
def k0_dev6 (d0 : Dev nD) : Nat :=
  let c0_i32_1708 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v2 v5
  let c2_i32 : BitVec 32 := 2#32
  let v11 : BitVec 32 := Scalar.xori v6 c2_i32
  let c1_i32_6 : BitVec 32 := 1#32
  let v12 : BitVec 32 := Scalar.shrsi v11 c1_i32_6
  let c1_i32_7 : BitVec 32 := 1#32
  let v13 : BitVec 32 := Scalar.andi v12 c1_i32_7
  let v14 : BitVec 32 := Scalar.xori v11 v13
  let c1_i32_1707 : BitVec 32 := 1#32
  let v1615 : BitVec 32 := Scalar.muli v14 c1_i32_1707
  let v1616 : BitVec 32 := Scalar.addi c0_i32_1708 v1615
  v1616.toNat
def k0_dev7 (d0 : Dev nD) : Nat :=
  let c0_i32_1720 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v2 v5
  let c4_i32 : BitVec 32 := 4#32
  let v15 : BitVec 32 := Scalar.xori v6 c4_i32
  let c1_i32_8 : BitVec 32 := 1#32
  let v16 : BitVec 32 := Scalar.shrsi v15 c1_i32_8
  let c1_i32_9 : BitVec 32 := 1#32
  let v17 : BitVec 32 := Scalar.andi v16 c1_i32_9
  let v18 : BitVec 32 := Scalar.xori v15 v17
  let c1_i32_1719 : BitVec 32 := 1#32
  let v1627 : BitVec 32 := Scalar.muli v18 c1_i32_1719
  let v1628 : BitVec 32 := Scalar.addi c0_i32_1720 v1627
  v1628.toNat
def k0_off34 (d0 : Dev nD) (c0_i32_24 : BitVec 32) (c0_i32 : BitVec 32) (c1_i32_11 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v2 v5
  let v19 : BitVec 32 := Scalar.shrsi v6 c0_i32
  let c1_i32_10 : BitVec 32 := 1#32
  let v20 : BitVec 32 := Scalar.andi v19 c1_i32_10
  let c256_i32 : BitVec 32 := 256#32
  let v32 : BitVec 32 := Scalar.muli v20 c256_i32
  let v33 : BitVec 32 := Scalar.addi c0_i32_24 v32
  let v21 : BitVec 32 := Scalar.shrsi v6 c1_i32_11
  let c1_i32_12 : BitVec 32 := 1#32
  let v22 : BitVec 32 := Scalar.andi v21 c1_i32_12
  let c128_i32 : BitVec 32 := 128#32
  let v1608 : BitVec 32 := Scalar.muli v22 c128_i32
  let v1609 : BitVec 32 := Scalar.addi v33 v1608
  let v1648 : Index := Scalar.indexCast v1609
  let c0_1743 : Index := 0#32
  ![v1648.toNat, 0]
def k0_off34_at (r : Fin 2) : BitVec 32 × BitVec 32 × BitVec 32 :=
  if r.val < 1 then
    (0#32, 0#32, 1#32)
  else
    (512#32, 1#32, 2#32)
def k0_off35 (d0 : Dev nD) (c0_i32_24 : BitVec 32) (c0_i32 : BitVec 32) (c1_i32_11 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v2 v5
  let v19 : BitVec 32 := Scalar.shrsi v6 c0_i32
  let c1_i32_10 : BitVec 32 := 1#32
  let v20 : BitVec 32 := Scalar.andi v19 c1_i32_10
  let c256_i32 : BitVec 32 := 256#32
  let v32 : BitVec 32 := Scalar.muli v20 c256_i32
  let v33 : BitVec 32 := Scalar.addi c0_i32_24 v32
  let v21 : BitVec 32 := Scalar.shrsi v6 c1_i32_11
  let c1_i32_12 : BitVec 32 := 1#32
  let v22 : BitVec 32 := Scalar.andi v21 c1_i32_12
  let c128_i32 : BitVec 32 := 128#32
  let v1608 : BitVec 32 := Scalar.muli v22 c128_i32
  let v1609 : BitVec 32 := Scalar.addi v33 v1608
  let c0_i32_1781 : BitVec 32 := 0#32
  ![v1609.toNat, 0]
def k0_off35_at (r : Fin 2) : BitVec 32 × BitVec 32 × BitVec 32 :=
  if r.val < 1 then
    (0#32, 0#32, 1#32)
  else
    (512#32, 1#32, 2#32)
def k0_dev8 (d0 : Dev nD) : Nat :=
  let c0_i32_1778 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v2 v5
  let c4_i32 : BitVec 32 := 4#32
  let v15 : BitVec 32 := Scalar.xori v6 c4_i32
  let c1_i32_8 : BitVec 32 := 1#32
  let v16 : BitVec 32 := Scalar.shrsi v15 c1_i32_8
  let c1_i32_9 : BitVec 32 := 1#32
  let v17 : BitVec 32 := Scalar.andi v16 c1_i32_9
  let v18 : BitVec 32 := Scalar.xori v15 v17
  let c1_i32_1777 : BitVec 32 := 1#32
  let v1678 : BitVec 32 := Scalar.muli v18 c1_i32_1777
  let v1679 : BitVec 32 := Scalar.addi c0_i32_1778 v1678
  v1679.toNat
def k0_dev9 (d0 : Dev nD) : Nat :=
  let c0_i32_1788 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v2 v5
  let c1_i32_3 : BitVec 32 := 1#32
  let v7 : BitVec 32 := Scalar.xori v6 c1_i32_3
  let c1_i32_4 : BitVec 32 := 1#32
  let v8 : BitVec 32 := Scalar.shrsi v7 c1_i32_4
  let c1_i32_5 : BitVec 32 := 1#32
  let v9 : BitVec 32 := Scalar.andi v8 c1_i32_5
  let v10 : BitVec 32 := Scalar.xori v7 v9
  let c1_i32_1787 : BitVec 32 := 1#32
  let v1687 : BitVec 32 := Scalar.muli v10 c1_i32_1787
  let v1688 : BitVec 32 := Scalar.addi c0_i32_1788 v1687
  v1688.toNat
def k0_dev10 (d0 : Dev nD) : Nat :=
  let c0_i32_1845 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v2 v5
  let c2_i32 : BitVec 32 := 2#32
  let v11 : BitVec 32 := Scalar.xori v6 c2_i32
  let c1_i32_6 : BitVec 32 := 1#32
  let v12 : BitVec 32 := Scalar.shrsi v11 c1_i32_6
  let c1_i32_7 : BitVec 32 := 1#32
  let v13 : BitVec 32 := Scalar.andi v12 c1_i32_7
  let v14 : BitVec 32 := Scalar.xori v11 v13
  let c1_i32_1844 : BitVec 32 := 1#32
  let v1734 : BitVec 32 := Scalar.muli v14 c1_i32_1844
  let v1735 : BitVec 32 := Scalar.addi c0_i32_1845 v1734
  v1735.toNat
def k0_dev11 (d0 : Dev nD) : Nat :=
  let c0_i32_1853 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v2 v5
  let c4_i32 : BitVec 32 := 4#32
  let v15 : BitVec 32 := Scalar.xori v6 c4_i32
  let c1_i32_8 : BitVec 32 := 1#32
  let v16 : BitVec 32 := Scalar.shrsi v15 c1_i32_8
  let c1_i32_9 : BitVec 32 := 1#32
  let v17 : BitVec 32 := Scalar.andi v16 c1_i32_9
  let v18 : BitVec 32 := Scalar.xori v15 v17
  let c1_i32_1852 : BitVec 32 := 1#32
  let v1742 : BitVec 32 := Scalar.muli v18 c1_i32_1852
  let v1743 : BitVec 32 := Scalar.addi c0_i32_1853 v1742
  v1743.toNat
def k0_off36 (d0 : Dev nD) (c0_i32_24 : BitVec 32) (c0_i32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v2 v5
  let v19 : BitVec 32 := Scalar.shrsi v6 c0_i32
  let c1_i32_10 : BitVec 32 := 1#32
  let v20 : BitVec 32 := Scalar.andi v19 c1_i32_10
  let c256_i32 : BitVec 32 := 256#32
  let v32 : BitVec 32 := Scalar.muli v20 c256_i32
  let v33 : BitVec 32 := Scalar.addi c0_i32_24 v32
  let c0_i32_1892 : BitVec 32 := 0#32
  ![v33.toNat, 0]
def k0_off36_at (r : Fin 2) : BitVec 32 × BitVec 32 :=
  if r.val < 1 then
    (0#32, 0#32)
  else
    (512#32, 1#32)
def k0_dev12 (d0 : Dev nD) : Nat :=
  let c0_i32_1891 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v2 v5
  let c1_i32_3 : BitVec 32 := 1#32
  let v7 : BitVec 32 := Scalar.xori v6 c1_i32_3
  let c1_i32_4 : BitVec 32 := 1#32
  let v8 : BitVec 32 := Scalar.shrsi v7 c1_i32_4
  let c1_i32_5 : BitVec 32 := 1#32
  let v9 : BitVec 32 := Scalar.andi v8 c1_i32_5
  let v10 : BitVec 32 := Scalar.xori v7 v9
  let c1_i32_1890 : BitVec 32 := 1#32
  let v1770 : BitVec 32 := Scalar.muli v10 c1_i32_1890
  let v1771 : BitVec 32 := Scalar.addi c0_i32_1891 v1770
  v1771.toNat
def k0_dev13 (d0 : Dev nD) : Nat :=
  let c0_i32_1899 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v2 v5
  let c2_i32 : BitVec 32 := 2#32
  let v11 : BitVec 32 := Scalar.xori v6 c2_i32
  let c1_i32_6 : BitVec 32 := 1#32
  let v12 : BitVec 32 := Scalar.shrsi v11 c1_i32_6
  let c1_i32_7 : BitVec 32 := 1#32
  let v13 : BitVec 32 := Scalar.andi v12 c1_i32_7
  let v14 : BitVec 32 := Scalar.xori v11 v13
  let c1_i32_1898 : BitVec 32 := 1#32
  let v1778 : BitVec 32 := Scalar.muli v14 c1_i32_1898
  let v1779 : BitVec 32 := Scalar.addi c0_i32_1899 v1778
  v1779.toNat
abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1024x1024 : Shape := ⟨2, ![1024, 1024]⟩
abbrev S1024x8192 : Shape := ⟨2, ![1024, 8192]⟩
abbrev S8192x1024 : Shape := ⟨2, ![8192, 1024]⟩
abbrev S4x1024x64x128 : Shape := ⟨4, ![4, 1024, 64, 128]⟩
abbrev S4x256x1024 : Shape := ⟨3, ![4, 256, 1024]⟩
abbrev S4x256x8192 : Shape := ⟨3, ![4, 256, 8192]⟩
abbrev S4x256x64x128 : Shape := ⟨4, ![4, 256, 64, 128]⟩
abbrev S_ : Shape := ⟨0, ![]⟩
abbrev S4x64x256x1 : Shape := ⟨4, ![4, 64, 256, 1]⟩
abbrev S4x64x256x1024 : Shape := ⟨4, ![4, 64, 256, 1024]⟩
abbrev S4x64x256 : Shape := ⟨3, ![4, 64, 256]⟩
abbrev S4x256x64x1 : Shape := ⟨4, ![4, 256, 64, 1]⟩
abbrev S4x64x128x256 : Shape := ⟨4, ![4, 64, 128, 256]⟩

abbrev nBuf : Space → Nat
  | .hbm => 45
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x8192, .f32⟩
  | .hbm, ⟨2, _⟩ => ⟨S8192x1024, .f32⟩
  | .hbm, ⟨3, _⟩ => ⟨S4x1024x64x128, .f32⟩
  | .hbm, ⟨4, _⟩ => ⟨S4x1024x64x128, .f32⟩
  | .hbm, ⟨5, _⟩ => ⟨S4x256x1024, .f32⟩
  | .hbm, ⟨6, _⟩ => ⟨S4x256x8192, .f32⟩
  | .hbm, ⟨7, _⟩ => ⟨S4x256x64x128, .f32⟩
  | .hbm, ⟨8, _⟩ => ⟨S_, .f32⟩
  | .hbm, ⟨9, _⟩ => ⟨S4x256x64x128, .f32⟩
  | .hbm, ⟨10, _⟩ => ⟨S_, .f32⟩
  | .hbm, ⟨11, _⟩ => ⟨S4x64x256x1, .f32⟩
  | .hbm, ⟨12, _⟩ => ⟨S_, .f32⟩
  | .hbm, ⟨13, _⟩ => ⟨S4x64x256x1, .f32⟩
  | .hbm, ⟨14, _⟩ => ⟨S4x64x256x1024, .f32⟩
  | .hbm, ⟨15, _⟩ => ⟨S_, .f32⟩
  | .hbm, ⟨16, _⟩ => ⟨S4x64x256x1024, .f32⟩
  | .hbm, ⟨17, _⟩ => ⟨S4x64x256x1024, .f32⟩
  | .hbm, ⟨18, _⟩ => ⟨S_, .f32⟩
  | .hbm, ⟨19, _⟩ => ⟨S4x64x256, .f32⟩
  | .hbm, ⟨20, _⟩ => ⟨S4x64x256x1, .f32⟩
  | .hbm, ⟨21, _⟩ => ⟨S4x64x256x1, .f32⟩
  | .hbm, ⟨22, _⟩ => ⟨S4x64x256x1, .f32⟩
  | .hbm, ⟨23, _⟩ => ⟨S4x64x256x1, .f32⟩
  | .hbm, ⟨24, _⟩ => ⟨S4x64x256x1024, .f32⟩
  | .hbm, ⟨25, _⟩ => ⟨S4x64x256x1024, .f32⟩
  | .hbm, ⟨26, _⟩ => ⟨S4x64x256x1024, .f32⟩
  | .hbm, ⟨27, _⟩ => ⟨S4x64x256x1, .f32⟩
  | .hbm, ⟨28, _⟩ => ⟨S_, .f32⟩
  | .hbm, ⟨29, _⟩ => ⟨S4x64x256, .f32⟩
  | .hbm, ⟨30, _⟩ => ⟨S4x64x256x1, .f32⟩
  | .hbm, ⟨31, _⟩ => ⟨S4x64x256x1, .f32⟩
  | .hbm, ⟨32, _⟩ => ⟨S4x256x64x1, .f32⟩
  | .hbm, ⟨33, _⟩ => ⟨S4x256x64x128, .f32⟩
  | .hbm, ⟨34, _⟩ => ⟨S4x256x64x128, .f32⟩
  | .hbm, ⟨35, _⟩ => ⟨S4x64x128x256, .f32⟩
  | .hbm, ⟨36, _⟩ => ⟨S4x256x64x128, .f32⟩
  | .hbm, ⟨37, _⟩ => ⟨S4x256x64x128, .f32⟩
  | .hbm, ⟨38, _⟩ => ⟨S4x256x64x1, .f32⟩
  | .hbm, ⟨39, _⟩ => ⟨S4x256x64x128, .f32⟩
  | .hbm, ⟨40, _⟩ => ⟨S4x256x64x128, .f32⟩
  | .hbm, ⟨41, _⟩ => ⟨S4x256x8192, .f32⟩
  | .hbm, ⟨42, _⟩ => ⟨S4x256x1024, .f32⟩
  | .hbm, ⟨43, _⟩ => ⟨S1024x1024, .f32⟩
  | .hbm, ⟨44, _⟩ => ⟨S1024x1024, .bf16⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== Proof.Prog.lean ====
/-
The kernel's body, written again with its repetitions named: the copies of a block of keys and values (one pair of
copies per head), one head's attention, one block's projection, the ten exchanges with partner devices and the
additions after them. `body_eq` states that the printed body, run on the call's buffers, is this program.
-/
module

public import proofs.«01_k».proof.Proof.Gen.KernelIdeal
public import proofs.«01_k».proof.Proof.Gen.KernelIdeal.Launch

@[expose] public section

noncomputable section

namespace Cert.KernelIdeal.Hand

open Cert.KernelIdeal Cert.KernelIdeal.Gen
open Idealize.ShloMosaic
open Idealize.ShloMosaic.TcCoe
open Idealize.SL.Sem

/-! ## The device's place: bits of its Gray code -/

/-- The Gray code of a device's number. -/
def gray (n : Nat) : Nat := n ^^^ ((n >>> 1) &&& 1)

/-- The bit `r` of a device's Gray code. -/
def bt (c : Dev nD) (r : Fin 3) : Nat := (gray c.val >>> r.val) &&& 1

theorem bt_lt (c : Dev nD) (r : Fin 3) : bt c r < 2 := by revert c r; decide

/-- The partner of a device along bit `r` of the Gray code. -/
def par (r : Fin 3) (c : Dev nD) : Dev nD := ⟨gray (gray c.val ^^^ (1 <<< r.val)) % 8, Nat.mod_lt _ (by decide)⟩

/-- The batch element handled at place `p` of a device's order. -/
def bo (c : Dev nD) (p : Fin 4) : Nat :=
  match p with
  | 0 => 1 - bt c 0
  | 1 => 3 - bt c 1
  | 2 => bt c 0
  | 3 => 2 + bt c 1

theorem bo_lt (c : Dev nD) (p : Fin 4) : bo c p < 4 := by revert c p; decide

/-! ## The buffers -/

abbrev bX : Memref sig .tc .vmem S1024x1024 .f32 := Memref.whole cc0_stg0_0
abbrev bWq : Memref sig .tc .vmem S1024x1024 .f32 := Memref.whole cc0_stg1_0
abbrev bWo : Memref sig .tc .vmem S1024x1024 .f32 := Memref.whole cc0_stg2_0
abbrev bK : Memref sig .tc .hbm S4x1024x64x128 .f32 := Memref.whole main_arg3
abbrev bV : Memref sig .tc .hbm S4x1024x64x128 .f32 := Memref.whole main_arg4
abbrev bOut : Memref sig .tc .vmem S1024x1024 .bf16 := Memref.whole cc0_stg3_0
abbrev bKs : Memref sig .tc .vmem S2x8x1024x128 .f32 := Memref.whole cc0_scratch0
abbrev bVs : Memref sig .tc .vmem S2x8x1024x256 .f32 := Memref.whole cc0_scratch1
abbrev bQ : Memref sig .tc .vmem S1024x1024 .f32 := Memref.whole cc0_scratch2
abbrev bAt : Memref sig .tc .vmem S256x1024 .bf16 := Memref.whole cc0_scratch3
abbrev bWb : Memref sig .tc .vmem S1024x1024 .bf16 := Memref.whole cc0_scratch4
abbrev bAcc : Memref sig .tc .vmem S1024x1024 .bf16 := Memref.whole cc0_scratch5
abbrev bP0 : Memref sig .tc .vmem S2x256x1024 .bf16 := Memref.whole cc0_scratch6
abbrev bP1 : Memref sig .tc .vmem S2x128x1024 .bf16 := Memref.whole cc0_scratch7
abbrev bP2 : Memref sig .tc .vmem S2x128x1024 .bf16 := Memref.whole cc0_scratch8

/-! ## The offsets, by place and head -/

/-- The head's number as the word the program adds. -/
abbrev hw (h : Fin 8) : BitVec 32 := BitVec.ofNat 32 h.val

/-- Where the keys (and the values) of head `h` at place `p` lie in the cache. -/
def kvOff (c : Dev nD) (p : Fin 4) (h : Fin 8) : Fin 4 → Nat :=
  match p with
  | 0 => k0_off1 c 1#32 0#32 (hw h)
  | 1 => k0_off1 c 3#32 1#32 (hw h)
  | 2 => k0_off12 c (hw h)
  | 3 => k0_off13 c (hw h)

theorem kvOff_eq : ∀ (c : Dev nD) (p : Fin 4) (h : Fin 8), kvOff c p h = ![bo c p, 0, 8 * c.val + h.val, 0] := by
  decide +kernel

/-- Where the queries of head `h` at place `p` lie. -/
def qOff (c : Dev nD) (p : Fin 4) (h : Fin 8) : Fin 2 → Nat :=
  match p with
  | 0 => match h with
    | 0 => k0_off2 c 1#32 0#32 | 1 => k0_off3 c 1#32 0#32 | 2 => k0_off4 c 1#32 0#32 | 3 => k0_off5 c 1#32 0#32
    | 4 => k0_off6 c 1#32 0#32 | 5 => k0_off7 c 1#32 0#32 | 6 => k0_off8 c 1#32 0#32 | 7 => k0_off9 c 1#32 0#32
  | 1 => match h with
    | 0 => k0_off2 c 3#32 1#32 | 1 => k0_off3 c 3#32 1#32 | 2 => k0_off4 c 3#32 1#32 | 3 => k0_off5 c 3#32 1#32
    | 4 => k0_off6 c 3#32 1#32 | 5 => k0_off7 c 3#32 1#32 | 6 => k0_off8 c 3#32 1#32 | 7 => k0_off9 c 3#32 1#32
  | 2 => match h with
    | 0 => k0_off14 c | 1 => k0_off15 c | 2 => k0_off16 c | 3 => k0_off17 c
    | 4 => k0_off18 c | 5 => k0_off19 c | 6 => k0_off20 c | 7 => k0_off21 c
  | 3 => match h with
    | 0 => k0_off23 c | 1 => k0_off24 c | 2 => k0_off25 c | 3 => k0_off26 c
    | 4 => k0_off27 c | 5 => k0_off28 c | 6 => k0_off29 c | 7 => k0_off30 c

theorem qOff_eq : ∀ (c : Dev nD) (p : Fin 4) (h : Fin 8), qOff c p h = ![256 * bo c p, 128 * h.val] := by
  decide +kernel

/-- Where the projection of place `p` is stored. -/
def aOff (c : Dev nD) (p : Fin 4) : Fin 2 → Nat :=
  match p with
  | 0 => k0_off10 c 1#32 0#32
  | 1 => k0_off10 c 3#32 1#32
  | 2 => k0_off22 c
  | 3 => k0_off31 c

theorem aOff_eq : ∀ (c : Dev nD) (p : Fin 4), aOff c p = ![256 * bo c p, 0] := by decide +kernel

/-- The slot of the key and value buffers used at place `p`. -/
abbrev slot (p : Fin 4) : Nat := p.val % 2

theorem kvOff_inb (c : Dev nD) (p : Fin 4) (h : Fin 8) (a : Fin 4) :
    kvOff c p h a + S1x1024x1x128.size a ≤ S4x1024x64x128.size a := by
  rw [kvOff_eq]; revert c p h a; decide +kernel

theorem qOff_inb (c : Dev nD) (p : Fin 4) (h : Fin 8) (a : Fin 2) :
    qOff c p h a + S256x128.size a ≤ S1024x1024.size a := by
  rw [qOff_eq]; revert c p h a; decide +kernel

theorem aOff_inb (c : Dev nD) (p : Fin 4) (a : Fin 2) : aOff c p a + S256x1024.size a ≤ S1024x1024.size a := by
  rw [aOff_eq]; revert c p a; decide +kernel

theorem aOff_packed (c : Dev nD) (p : Fin 4) :
    (Rect.unit (s := S1024x1024) (aOff c p) S256x1024.size (aOff_inb c p)).PackedRows (EltTy.packing .bf16) :=
  match p with
  | 0 => k0_off10_packedbf16 c 0
  | 1 => k0_off10_packedbf16 c 1
  | 2 => k0_off22_packedbf16 c
  | 3 => k0_off31_packedbf16 c

theorem ks_inb (p : Fin 4) (h : Fin 8) (a : Fin 4) :
    (![slot p, h.val, 0, 0] : Fin 4 → Nat) a + S1x1x1024x128.size a ≤ S2x8x1024x128.size a := by
  revert p h a; decide

theorem vs_inb (p : Fin 4) (h : Fin 8) (a : Fin 4) :
    (![slot p, h.val, 0, 0] : Fin 4 → Nat) a + S1x1x1024x128.size a ≤ S2x8x1024x256.size a := by
  revert p h a; decide

theorem vl_inb (p : Fin 4) (h : Fin 8) (a : Fin 4) :
    (![slot p, h.val, 0, 0] : Fin 4 → Nat) a + S1x1x1024x256.size a ≤ S2x8x1024x256.size a := by
  revert p h a; decide

theorem kvsem_inb (p : Fin 4) (j : Fin 2) (a : Fin 2) :
    (![slot p, j.val] : Fin 2 → Nat) a + S1x1.size a ≤ S2x2.size a := by
  revert p j a; decide

theorem at_inb (h : Fin 8) (a : Fin 2) : (![0, 128 * h.val] : Fin 2 → Nat) a + S256x128.size a ≤ S256x1024.size a := by
  revert h a; decide

theorem at_packed (h : Fin 8) :
    (Rect.unit (s := S256x1024) ![0, 128 * h.val] S256x128.size (at_inb h)).PackedRows (EltTy.packing .bf16) :=
  match h with
  | 0 => packedbf16_S256x1024_S256x128_0_0
  | 1 => packedbf16_S256x1024_S256x128_0_128
  | 2 => packedbf16_S256x1024_S256x128_0_256
  | 3 => packedbf16_S256x1024_S256x128_0_384
  | 4 => packedbf16_S256x1024_S256x128_0_512
  | 5 => packedbf16_S256x1024_S256x128_0_640
  | 6 => packedbf16_S256x1024_S256x128_0_768
  | 7 => packedbf16_S256x1024_S256x128_0_896

/-! ## The copies of keys and values -/

/-- Keys of head `h` at place `p`, where they lie. -/
abbrev kSrc (c : Dev nD) (p : Fin 4) (h : Fin 8) : Memref sig .tc .hbm S1024x128 .f32 :=
  (bK.slice (Rect.unit (s := S4x1024x64x128) (kvOff c p h) S1x1024x1x128.size (kvOff_inb c p h)) (fun _ => rfl)).squeeze
    S1024x128 squeezes_S1x1024x1x128_S1024x128
/-- Values of head `h` at place `p`, where they lie. -/
abbrev vSrc (c : Dev nD) (p : Fin 4) (h : Fin 8) : Memref sig .tc .hbm S1024x128 .f32 :=
  (bV.slice (Rect.unit (s := S4x1024x64x128) (kvOff c p h) S1x1024x1x128.size (kvOff_inb c p h)) (fun _ => rfl)).squeeze
    S1024x128 squeezes_S1x1024x1x128_S1024x128
/-- Where the keys of head `h` land. -/
abbrev kDst (p : Fin 4) (h : Fin 8) : Memref sig .tc .vmem S1024x128 .f32 :=
  (bKs.slice (Rect.unit (s := S2x8x1024x128) ![slot p, h.val, 0, 0] S1x1x1024x128.size (ks_inb p h)) (fun _ => rfl)).squeeze
    S1024x128 squeezes_S1x1x1024x128_S1024x128
/-- Where the values of head `h` land. -/
abbrev vDst (p : Fin 4) (h : Fin 8) : Memref sig .tc .vmem S1024x128 .f32 :=
  (bVs.slice (Rect.unit (s := S2x8x1024x256) ![slot p, h.val, 0, 0] S1x1x1024x128.size (vs_inb p h)) (fun _ => rfl)).squeeze
    S1024x128 squeezes_S1x1x1024x128_S1024x128
/-- The semaphore the keys' copies (`j = 0`) or the values' (`j = 1`) signal. -/
abbrev kvSem (p : Fin 4) (j : Fin 2) : DmaSem sig :=
  ((cc0_scratch9.slice (Rect.unit (s := S2x2) ![slot p, j.val] S1x1.size (kvsem_inb p j))).squeeze S_ squeezes_S1x1_S_).sem

variable {F : FTy → Type} [FloatOps F]

/-- The programs of a device's core. -/
abbrev PR (F : FTy → Type) (α : Type) := Prog (TpuEff nD τ sig (Elt F) Λ₀ .tc) α

/-- Eight programs, one after the other. -/
def seq8 (f : Fin 8 → PR F PUnit → PR F PUnit) (k : PR F PUnit) : PR F PUnit :=
  f 0 <| f 1 <| f 2 <| f 3 <| f 4 <| f 5 <| f 6 <| f 7 k

/-- Head `h`'s two copies started. -/
def startKV (c : Dev nD) (p : Fin 4) (h : Fin 8) (k : PR F PUnit) : PR F PUnit :=
  .op (.enqueueDma (kSrc c p h) (.here (kDst p h)) (.dma (kvSem p 0)) ((View.wordExact_bits rfl).reshape _ _)
    ((View.wordExact_bits rfl).reshape _ _) ⟨Or.inl rfl, trivial⟩) fun _ =>
  .op (.enqueueDma (vSrc c p h) (.here (vDst p h)) (.dma (kvSem p 1)) ((View.wordExact_bits rfl).reshape _ _)
    ((View.wordExact_bits rfl).reshape _ _) ⟨Or.inl rfl, trivial⟩) fun _ =>
  k

/-- Head `h`'s two copies waited for. -/
def waitKV (c : Dev nD) (p : Fin 4) (h : Fin 8) (k : PR F PUnit) : PR F PUnit :=
  .op (.waitDma2 (kvSem p 0) (kSrc c p h) (kDst p h) ((View.wordExact_bits rfl).reshape _ _)
    ((View.wordExact_bits rfl).reshape _ _)) fun _ =>
  .op (.waitDma2 (kvSem p 1) (vSrc c p h) (vDst p h) ((View.wordExact_bits rfl).reshape _ _)
    ((View.wordExact_bits rfl).reshape _ _)) fun _ =>
  k

/-! ## The set-up: the ones beside the values, the queries, the output weights -/

/-- The columns beside the values: ones in the first, zeros after. -/
def onesVal : FVec F S2x8x1024x128 .f32 :=
  select (cmpi .eq (iota .tc S2x8x1024x128 32 [3] iota_S2x8x1024x128_d3_w32) (broadcast S2x8x1024x128 0#32))
    (broadcast S2x8x1024x128 (Scalar.ofBits (F := F) .f32 0x3F800000#32))
    (broadcast S2x8x1024x128 (Scalar.ofBits (F := F) .f32 0x00000000#32))

def onesU (k : PR F PUnit) : PR F PUnit :=
  .op (.load bVs (Rect.unit (s := S2x8x1024x256) ![0, 0, 0, 128] S2x8x1024x128.size inb_S2x8x1024x256_S2x8x1024x128_0_0_0_128).toLoadRect (View.loadsAt_vmem h_S2x8x1024x128)) fun (v51 : Vec F S2x8x1024x128 .f32) =>
  .op (.store bVs (Rect.unit (s := S2x8x1024x256) ![0, 0, 0, 128] S2x8x1024x128.size inb_S2x8x1024x256_S2x8x1024x128_0_0_0_128) (shapeCast S2x8x1024x128 (onesVal (F := F)) shapeCasts_S2x8x1024x128_S2x8x1024x128) Finset.univ (View.stores_vmem_bits_univ h_S2x8x1024x128 rfl) (.inl rfl)) fun _ =>
  k

/-- The queries, scaled. -/
def qVal (x wq : FVec F S1024x1024 .f32) : FVec F S1024x1024 .f32 :=
  mulf (matmul dot_S1024x1024_S1024x1024_S1024x1024_1_0_0_1_n_n none
    (truncf .bf16 (shapeCast S1024x1024 x shapeCasts_S1024x1024_S1024x1024) bitsLt_bf16_f32)
    (truncf .bf16 (shapeCast S1024x1024 wq shapeCasts_S1024x1024_S1024x1024) bitsLt_bf16_f32)
    (constant S1024x1024 .f32 0x00000000#32)) (broadcast S1024x1024 (Scalar.ofBits .f32 0x3DB504F3#32))

/-- A weight block rounded to bf16. -/
def wobVal (wo : FVec F S1024x1024 .f32) : FVec F S1024x1024 .bf16 :=
  truncf .bf16 (shapeCast S1024x1024 wo shapeCasts_S1024x1024_S1024x1024) bitsLt_bf16_f32

/-- The whole of a square buffer. -/
abbrev sqR : Rect S1024x1024 := Rect.unit (s := S1024x1024) ![0, 0] S1024x1024.size inb_S1024x1024_S1024x1024_0_0
/-- The whole of a block's buffer. -/
abbrev blR : Rect S256x1024 := Rect.unit (s := S256x1024) ![0, 0] S256x1024.size inb_S256x1024_S256x1024_0_0

def qU (k : PR F PUnit) : PR F PUnit :=
  .op (.load bX sqR.toLoadRect (View.loadsAt_vmem h_S1024x1024)) fun (v166 : Vec F S1024x1024 .f32) =>
  .op (.load bWq sqR.toLoadRect (View.loadsAt_vmem h_S1024x1024)) fun (v169 : Vec F S1024x1024 .f32) =>
  .op (.load bQ sqR.toLoadRect (View.loadsAt_vmem h_S1024x1024)) fun (v175 : Vec F S1024x1024 .f32) =>
  .op (.store bQ sqR (shapeCast S1024x1024 (qVal v166 v169) shapeCasts_S1024x1024_S1024x1024) Finset.univ (View.stores_vmem_bits_univ h_S1024x1024 rfl) (.inl rfl)) fun _ =>
  k

def woU (k : PR F PUnit) : PR F PUnit :=
  .op (.load bWo sqR.toLoadRect (View.loadsAt_vmem h_S1024x1024)) fun (v178 : Vec F S1024x1024 .f32) =>
  .op (.load bWb sqR.toLoadRect (View.loadsAt_vmem h_S1024x1024)) fun (v181 : Vec F S1024x1024 .bf16) =>
  .op (.store bWb sqR (shapeCast S1024x1024 (wobVal v178) shapeCasts_S1024x1024_S1024x1024) Finset.univ (View.stores_vmem h_S1024x1024 ((Memref.isWhole_whole _).storeExact_slice rfl _ packedbf16_S1024x1024_S1024x1024_0_0) (fun _ => rfl)) (.inl rfl)) fun _ =>
  k

/-! ## One head's attention and one block's projection -/

/-- A head's rows of attention: exponentials of the scores against the values beside their ones, the head's columns
    divided by the column of sums. -/
def headVal (q : FVec F S256x128 .f32) (k : FVec F S1024x128 .f32) (v : FVec F S1024x256 .f32) :
    FVec F S256x128 .bf16 :=
  have ov : FVec F S256x256 .f32 := matmul dot_S256x1024_S1024x256_S256x256_1_0_0_1_n_n none
    (exp (matmul dot_S256x128_S1024x128_S256x1024_1_1_0_0_n_n none q k (constant S256x1024 .f32 0x00000000#32)))
    v (constant S256x256 .f32 0x00000000#32)
  truncf .bf16 (divf (extractStridedSlice S256x128 ![0, 0] ov slices_S256x256_o0_0_S256x128)
    (broadcastTo S256x128 (extractStridedSlice S256x1 ![0, 128] ov slices_S256x256_o0_128_S256x1)
      broadcasts_S256x1_S256x128)) bitsLt_bf16_f32

abbrev qR (c : Dev nD) (p : Fin 4) (h : Fin 8) : Rect S1024x1024 :=
  Rect.unit (s := S1024x1024) (qOff c p h) S256x128.size (qOff_inb c p h)
abbrev kR (p : Fin 4) (h : Fin 8) : Rect S2x8x1024x128 :=
  Rect.unit (s := S2x8x1024x128) ![slot p, h.val, 0, 0] S1x1x1024x128.size (ks_inb p h)
abbrev vR (p : Fin 4) (h : Fin 8) : Rect S2x8x1024x256 :=
  Rect.unit (s := S2x8x1024x256) ![slot p, h.val, 0, 0] S1x1x1024x256.size (vl_inb p h)
abbrev atR (h : Fin 8) : Rect S256x1024 :=
  Rect.unit (s := S256x1024) ![0, 128 * h.val] S256x128.size (at_inb h)
abbrev aR (c : Dev nD) (p : Fin 4) : Rect S1024x1024 :=
  Rect.unit (s := S1024x1024) (aOff c p) S256x1024.size (aOff_inb c p)

def headU (c : Dev nD) (p : Fin 4) (h : Fin 8) (k : PR F PUnit) : PR F PUnit :=
  .op (.load bQ (qR c p h).toLoadRect (View.loadsAt_vmem h_S256x128)) fun (v410 : Vec F S256x128 .f32) =>
  .op (.load bKs (kR p h).toLoadRect (View.loadsAt_vmem h_S1x1x1024x128)) fun (v411 : Vec F S1x1x1024x128 .f32) =>
  .op (.load bVs (vR p h).toLoadRect (View.loadsAt_vmem h_S1x1x1024x256)) fun (v413 : Vec F S1x1x1024x256 .f32) =>
  .op (.load bAt (atR h).toLoadRect (View.loadsAt_vmem h_S256x128)) fun (v423 : Vec F S256x128 .bf16) =>
  .op (.store bAt (atR h) (shapeCast S256x128 (headVal v410
      (shapeCast S1024x128 v411 shapeCasts_S1x1x1024x128_S1024x128)
      (shapeCast S1024x256 v413 shapeCasts_S1x1x1024x256_S1024x256)) shapeCasts_S256x128_S256x128) Finset.univ
    (View.stores_vmem h_S256x128 ((Memref.isWhole_whole _).storeExact_slice rfl _ (at_packed h)) (fun _ => rfl)) (.inl rfl)) fun _ =>
  k

/-- A block's rows of the projection. -/
def projVal (a : FVec F S256x1024 .bf16) (wo : FVec F S1024x1024 .bf16) : FVec F S256x1024 .bf16 :=
  truncf .bf16 (matmul dot_S256x1024_S1024x1024_S256x1024_1_0_0_1_n_n none a wo
    (constant S256x1024 .f32 0x00000000#32)) bitsLt_bf16_f32

def projU (c : Dev nD) (p : Fin 4) (k : PR F PUnit) : PR F PUnit :=
  .op (.load bAt blR.toLoadRect (View.loadsAt_vmem h_S256x1024)) fun (v545 : Vec F S256x1024 .bf16) =>
  .op (.load bWb sqR.toLoadRect (View.loadsAt_vmem h_S1024x1024)) fun (v546 : Vec F S1024x1024 .bf16) =>
  .op (.load bAcc (aR c p).toLoadRect (View.loadsAt_vmem h_S256x1024)) fun (v550 : Vec F S256x1024 .bf16) =>
  .op (.store bAcc (aR c p) (shapeCast S256x1024 (projVal v545 v546) shapeCasts_S256x1024_S256x1024) Finset.univ
    (View.stores_vmem h_S256x1024 ((Memref.isWhole_whole _).storeExact_slice rfl _ (aOff_packed c p)) (fun _ => rfl)) (.inl rfl)) fun _ =>
  k

/-! ## The exchanges: number `2 e + w` is step `e` of half `w` -/

/-- The half of exchange `k`'s rows. -/
abbrev xw (k : Fin 10) : Nat := k.val % 2

/-- The shape of what exchange `k` moves. -/
abbrev xS (k : Fin 10) : Shape :=
  match k with
  | 0 | 1 | 8 | 9 => S256x1024
  | 2 | 3 | 4 | 5 | 6 | 7 => S128x1024

/-- Where exchange `k` takes its rows, on the sender. -/
def xSrc (c : Dev nD) : (k : Fin 10) → Memref sig .tc .vmem (xS k) .bf16
  | 0 => bAcc.slice (Rect.unit (s := S1024x1024) (k0_off11 c 0#32 0#32) S256x1024.size (k0_off11_inb c 0)) (fun _ => rfl)
  | 1 => bAcc.slice (Rect.unit (s := S1024x1024) (k0_off11 c 512#32 1#32) S256x1024.size (k0_off11_inb c 1)) (fun _ => rfl)
  | 2 => bAcc.slice (Rect.unit (s := S1024x1024) (k0_off33 c 0#32 0#32 1#32) S128x1024.size (k0_off33_inb c 0)) (fun _ => rfl)
  | 3 => bAcc.slice (Rect.unit (s := S1024x1024) (k0_off33 c 512#32 1#32 2#32) S128x1024.size (k0_off33_inb c 1)) (fun _ => rfl)
  | 4 => bAcc.slice (Rect.unit (s := S1024x1024) (k0_off35 c 0#32 0#32 1#32) S128x1024.size (k0_off35_inb c 0)) (fun _ => rfl)
  | 5 => bAcc.slice (Rect.unit (s := S1024x1024) (k0_off35 c 512#32 1#32 2#32) S128x1024.size (k0_off35_inb c 1)) (fun _ => rfl)
  | 6 => bOut.slice (Rect.unit (s := S1024x1024) (k0_off35 c 0#32 0#32 1#32) S128x1024.size (k0_off35_inb c 0)) (fun _ => rfl)
  | 7 => bOut.slice (Rect.unit (s := S1024x1024) (k0_off35 c 512#32 1#32 2#32) S128x1024.size (k0_off35_inb c 1)) (fun _ => rfl)
  | 8 => bOut.slice (Rect.unit (s := S1024x1024) (k0_off36 c 0#32 0#32) S256x1024.size (k0_off36_inb c 0)) (fun _ => rfl)
  | 9 => bOut.slice (Rect.unit (s := S1024x1024) (k0_off36 c 512#32 1#32) S256x1024.size (k0_off36_inb c 1)) (fun _ => rfl)

/-- Where exchange `k` puts the sender's rows, on the receiver. -/
def xDst (c : Dev nD) : (k : Fin 10) → Memref sig .tc .vmem (xS k) .bf16
  | 0 => (bP0.slice (Rect.unit (s := S2x256x1024) ![0, 0, 0] S1x256x1024.size inb_S2x256x1024_S1x256x1024_0_0_0) (fun _ => rfl)).squeeze S256x1024 squeezes_S1x256x1024_S256x1024
  | 1 => (bP0.slice (Rect.unit (s := S2x256x1024) ![1, 0, 0] S1x256x1024.size inb_S2x256x1024_S1x256x1024_1_0_0) (fun _ => rfl)).squeeze S256x1024 squeezes_S1x256x1024_S256x1024
  | 2 => (bP1.slice (Rect.unit (s := S2x128x1024) ![0, 0, 0] S1x128x1024.size inb_S2x128x1024_S1x128x1024_0_0_0) (fun _ => rfl)).squeeze S128x1024 squeezes_S1x128x1024_S128x1024
  | 3 => (bP1.slice (Rect.unit (s := S2x128x1024) ![1, 0, 0] S1x128x1024.size inb_S2x128x1024_S1x128x1024_1_0_0) (fun _ => rfl)).squeeze S128x1024 squeezes_S1x128x1024_S128x1024
  | 4 => (bP2.slice (Rect.unit (s := S2x128x1024) ![0, 0, 0] S1x128x1024.size inb_S2x128x1024_S1x128x1024_0_0_0) (fun _ => rfl)).squeeze S128x1024 squeezes_S1x128x1024_S128x1024
  | 5 => (bP2.slice (Rect.unit (s := S2x128x1024) ![1, 0, 0] S1x128x1024.size inb_S2x128x1024_S1x128x1024_1_0_0) (fun _ => rfl)).squeeze S128x1024 squeezes_S1x128x1024_S128x1024
  | 6 => xSrc c 6
  | 7 => xSrc c 7
  | 8 => xSrc c 8
  | 9 => xSrc c 9

theorem xSrc_exact (c : Dev nD) : (k : Fin 10) → (xSrc c k).view.WordExact
  | 0 => (Memref.isWhole_whole _).wordExact_slice rfl _ (k0_off11_wordsbf16 c 0)
  | 1 => (Memref.isWhole_whole _).wordExact_slice rfl _ (k0_off11_wordsbf16 c 1)
  | 2 => (Memref.isWhole_whole _).wordExact_slice rfl _ (k0_off33_wordsbf16 c 0)
  | 3 => (Memref.isWhole_whole _).wordExact_slice rfl _ (k0_off33_wordsbf16 c 1)
  | 4 => (Memref.isWhole_whole _).wordExact_slice rfl _ (k0_off35_wordsbf16 c 0)
  | 5 => (Memref.isWhole_whole _).wordExact_slice rfl _ (k0_off35_wordsbf16 c 1)
  | 6 => (Memref.isWhole_whole _).wordExact_slice rfl _ (k0_off35_wordsbf16 c 0)
  | 7 => (Memref.isWhole_whole _).wordExact_slice rfl _ (k0_off35_wordsbf16 c 1)
  | 8 => (Memref.isWhole_whole _).wordExact_slice rfl _ (k0_off36_wordsbf16 c 0)
  | 9 => (Memref.isWhole_whole _).wordExact_slice rfl _ (k0_off36_wordsbf16 c 1)

theorem xDst_exact (c : Dev nD) : (k : Fin 10) → (xDst c k).view.WordExact
  | 0 => ((Memref.isWhole_whole _).wordExact_slice rfl _ wordsbf16_S2x256x1024_S1x256x1024_0_0_0).reshape _ _
  | 1 => ((Memref.isWhole_whole _).wordExact_slice rfl _ wordsbf16_S2x256x1024_S1x256x1024_1_0_0).reshape _ _
  | 2 => ((Memref.isWhole_whole _).wordExact_slice rfl _ wordsbf16_S2x128x1024_S1x128x1024_0_0_0).reshape _ _
  | 3 => ((Memref.isWhole_whole _).wordExact_slice rfl _ wordsbf16_S2x128x1024_S1x128x1024_1_0_0).reshape _ _
  | 4 => ((Memref.isWhole_whole _).wordExact_slice rfl _ wordsbf16_S2x128x1024_S1x128x1024_0_0_0).reshape _ _
  | 5 => ((Memref.isWhole_whole _).wordExact_slice rfl _ wordsbf16_S2x128x1024_S1x128x1024_1_0_0).reshape _ _
  | 6 => xSrc_exact c 6
  | 7 => xSrc_exact c 7
  | 8 => xSrc_exact c 8
  | 9 => xSrc_exact c 9

/-- The semaphore exchange `k` signals on the sender. -/
def xSend : Fin 10 → DmaSem sig
  | 0 => ((cc0_scratch10.slice (Rect.unit (s := S2x3) ![0, 0] S1x1.size inb_S2x3_S1x1_0_0)).squeeze S_ squeezes_S1x1_S_).sem
  | 1 => ((cc0_scratch10.slice (Rect.unit (s := S2x3) ![1, 0] S1x1.size inb_S2x3_S1x1_1_0)).squeeze S_ squeezes_S1x1_S_).sem
  | 2 => ((cc0_scratch10.slice (Rect.unit (s := S2x3) ![0, 1] S1x1.size inb_S2x3_S1x1_0_1)).squeeze S_ squeezes_S1x1_S_).sem
  | 3 => ((cc0_scratch10.slice (Rect.unit (s := S2x3) ![1, 1] S1x1.size inb_S2x3_S1x1_1_1)).squeeze S_ squeezes_S1x1_S_).sem
  | 4 => ((cc0_scratch10.slice (Rect.unit (s := S2x3) ![0, 2] S1x1.size inb_S2x3_S1x1_0_2)).squeeze S_ squeezes_S1x1_S_).sem
  | 5 => ((cc0_scratch10.slice (Rect.unit (s := S2x3) ![1, 2] S1x1.size inb_S2x3_S1x1_1_2)).squeeze S_ squeezes_S1x1_S_).sem
  | 6 => ((cc0_scratch12.slice (Rect.unit (s := S2x2) ![0, 1] S1x1.size inb_S2x2_S1x1_0_1)).squeeze S_ squeezes_S1x1_S_).sem
  | 7 => ((cc0_scratch12.slice (Rect.unit (s := S2x2) ![1, 1] S1x1.size inb_S2x2_S1x1_1_1)).squeeze S_ squeezes_S1x1_S_).sem
  | 8 => ((cc0_scratch12.slice (Rect.unit (s := S2x2) ![0, 0] S1x1.size inb_S2x2_S1x1_0_0)).squeeze S_ squeezes_S1x1_S_).sem
  | 9 => ((cc0_scratch12.slice (Rect.unit (s := S2x2) ![1, 0] S1x1.size inb_S2x2_S1x1_1_0)).squeeze S_ squeezes_S1x1_S_).sem

/-- The semaphore exchange `k` signals on the receiver. -/
def xRecv : Fin 10 → DmaSem sig
  | 0 => ((cc0_scratch11.slice (Rect.unit (s := S2x3) ![0, 0] S1x1.size inb_S2x3_S1x1_0_0)).squeeze S_ squeezes_S1x1_S_).sem
  | 1 => ((cc0_scratch11.slice (Rect.unit (s := S2x3) ![1, 0] S1x1.size inb_S2x3_S1x1_1_0)).squeeze S_ squeezes_S1x1_S_).sem
  | 2 => ((cc0_scratch11.slice (Rect.unit (s := S2x3) ![0, 1] S1x1.size inb_S2x3_S1x1_0_1)).squeeze S_ squeezes_S1x1_S_).sem
  | 3 => ((cc0_scratch11.slice (Rect.unit (s := S2x3) ![1, 1] S1x1.size inb_S2x3_S1x1_1_1)).squeeze S_ squeezes_S1x1_S_).sem
  | 4 => ((cc0_scratch11.slice (Rect.unit (s := S2x3) ![0, 2] S1x1.size inb_S2x3_S1x1_0_2)).squeeze S_ squeezes_S1x1_S_).sem
  | 5 => ((cc0_scratch11.slice (Rect.unit (s := S2x3) ![1, 2] S1x1.size inb_S2x3_S1x1_1_2)).squeeze S_ squeezes_S1x1_S_).sem
  | 6 => ((cc0_scratch13.slice (Rect.unit (s := S2x2) ![0, 1] S1x1.size inb_S2x2_S1x1_0_1)).squeeze S_ squeezes_S1x1_S_).sem
  | 7 => ((cc0_scratch13.slice (Rect.unit (s := S2x2) ![1, 1] S1x1.size inb_S2x2_S1x1_1_1)).squeeze S_ squeezes_S1x1_S_).sem
  | 8 => ((cc0_scratch13.slice (Rect.unit (s := S2x2) ![0, 0] S1x1.size inb_S2x2_S1x1_0_0)).squeeze S_ squeezes_S1x1_S_).sem
  | 9 => ((cc0_scratch13.slice (Rect.unit (s := S2x2) ![1, 0] S1x1.size inb_S2x2_S1x1_1_0)).squeeze S_ squeezes_S1x1_S_).sem

/-- The device exchange `k` addresses. -/
def xDev (c : Dev nD) : Fin 10 → Dev nD
  | 0 => ⟨k0_dev4 c, k0_dev4_lt c⟩
  | 1 => ⟨k0_dev5 c, k0_dev5_lt c⟩
  | 2 => ⟨k0_dev6 c, k0_dev6_lt c⟩
  | 3 => ⟨k0_dev7 c, k0_dev7_lt c⟩
  | 4 => ⟨k0_dev8 c, k0_dev8_lt c⟩
  | 5 => ⟨k0_dev9 c, k0_dev9_lt c⟩
  | 6 => ⟨k0_dev10 c, k0_dev10_lt c⟩
  | 7 => ⟨k0_dev11 c, k0_dev11_lt c⟩
  | 8 => ⟨k0_dev12 c, k0_dev12_lt c⟩
  | 9 => ⟨k0_dev13 c, k0_dev13_lt c⟩

/-- The Gray-code bit exchange `k` crosses. -/
def xDim : Fin 10 → Fin 3
  | 0 => 0 | 1 => 1 | 2 => 1 | 3 => 2 | 4 => 2 | 5 => 0 | 6 => 1 | 7 => 2 | 8 => 0 | 9 => 1

theorem xDev_eq : ∀ (c : Dev nD) (k : Fin 10), xDev c k = par (xDim k) c := by decide +kernel

def sendU (c : Dev nD) (x : Fin 10) (k : PR F PUnit) : PR F PUnit :=
  .op (.enqueueDma (xSrc c x) (.remote (Dev.tc (xDev c x)) (xDst c x) (.dma (xSend x))) (.dma (xRecv x))
    (xSrc_exact c x) (xDst_exact c x) ⟨⟨rfl, Or.inl rfl⟩, trivial⟩) fun _ =>
  k

def waitU (c : Dev nD) (x : Fin 10) (k : PR F PUnit) : PR F PUnit :=
  .op (.waitDma2 (xSend x) (xDst c x) (xSrc c x) (xDst_exact c x) (xSrc_exact c x)) fun _ =>
  .op (.waitDma2 (xRecv x) (xSrc c x) (xDst c x) (xSrc_exact c x) (xDst_exact c x)) fun _ =>
  k

/-! ## The additions -/

/-- The first of a device's own 256 rows of half `w`, after the first step. -/
def o32 (c : Dev nD) (w : Fin 2) : Fin 2 → Nat :=
  match w with | 0 => k0_off32 c 0#32 0#32 | 1 => k0_off32 c 512#32 1#32
/-- The first of a device's own 128 rows of half `w`, after the second step. -/
def o34 (c : Dev nD) (w : Fin 2) : Fin 2 → Nat :=
  match w with | 0 => k0_off34 c 0#32 0#32 1#32 | 1 => k0_off34 c 512#32 1#32 2#32

theorem o32_inb (c : Dev nD) : (w : Fin 2) → ∀ a, o32 c w a + S256x1024.size a ≤ S1024x1024.size a
  | 0 => k0_off32_inb c 0
  | 1 => k0_off32_inb c 1
theorem o34_inb (c : Dev nD) : (w : Fin 2) → ∀ a, o34 c w a + S128x1024.size a ≤ S1024x1024.size a
  | 0 => k0_off34_inb c 0
  | 1 => k0_off34_inb c 1

abbrev r32 (c : Dev nD) (w : Fin 2) : Rect S1024x1024 := Rect.unit (s := S1024x1024) (o32 c w) S256x1024.size (o32_inb c w)
abbrev r34 (c : Dev nD) (w : Fin 2) : Rect S1024x1024 := Rect.unit (s := S1024x1024) (o34 c w) S128x1024.size (o34_inb c w)

theorem r32_packed (c : Dev nD) : (w : Fin 2) → (r32 c w).PackedRows (EltTy.packing .bf16)
  | 0 => k0_off32_packedbf16 c 0
  | 1 => k0_off32_packedbf16 c 1
theorem r34_packed (c : Dev nD) : (w : Fin 2) → (r34 c w).PackedRows (EltTy.packing .bf16)
  | 0 => k0_off34_packedbf16 c 0
  | 1 => k0_off34_packedbf16 c 1

theorem p0_inb (w : Fin 2) (a : Fin 3) : (![w.val, 0, 0] : Fin 3 → Nat) a + S1x256x1024.size a ≤ S2x256x1024.size a := by
  revert w a; decide
theorem p1_inb (w : Fin 2) (a : Fin 3) : (![w.val, 0, 0] : Fin 3 → Nat) a + S1x128x1024.size a ≤ S2x128x1024.size a := by
  revert w a; decide

abbrev p0R (w : Fin 2) : Rect S2x256x1024 := Rect.unit (s := S2x256x1024) ![w.val, 0, 0] S1x256x1024.size (p0_inb w)
abbrev p1R (w : Fin 2) : Rect S2x128x1024 := Rect.unit (s := S2x128x1024) ![w.val, 0, 0] S1x128x1024.size (p1_inb w)

/-- The first step's addition. -/
def add0U (c : Dev nD) (w : Fin 2) (k : PR F PUnit) : PR F PUnit :=
  .op (.load bAcc (r32 c w).toLoadRect (View.loadsAt_vmem h_S256x1024)) fun (v1579 : Vec F S256x1024 .bf16) =>
  .op (.load bP0 (p0R w).toLoadRect (View.loadsAt_vmem h_S1x256x1024)) fun (v1580 : Vec F S1x256x1024 .bf16) =>
  .op (.load bAcc (r32 c w).toLoadRect (View.loadsAt_vmem h_S256x1024)) fun (v1584 : Vec F S256x1024 .bf16) =>
  .op (.store bAcc (r32 c w) (shapeCast S256x1024 (addf (φ := .bf16) v1579 (shapeCast S256x1024 v1580 shapeCasts_S1x256x1024_S256x1024)) shapeCasts_S256x1024_S256x1024) Finset.univ
    (View.stores_vmem h_S256x1024 ((Memref.isWhole_whole _).storeExact_slice rfl _ (r32_packed c w)) (fun _ => rfl)) (.inl rfl)) fun _ =>
  k

/-- The second step's addition. -/
def add1U (c : Dev nD) (w : Fin 2) (k : PR F PUnit) : PR F PUnit :=
  .op (.load bAcc (r34 c w).toLoadRect (View.loadsAt_vmem h_S128x1024)) fun (v1649 : Vec F S128x1024 .bf16) =>
  .op (.load bP1 (p1R w).toLoadRect (View.loadsAt_vmem h_S1x128x1024)) fun (v1650 : Vec F S1x128x1024 .bf16) =>
  .op (.load bAcc (r34 c w).toLoadRect (View.loadsAt_vmem h_S128x1024)) fun (v1654 : Vec F S128x1024 .bf16) =>
  .op (.store bAcc (r34 c w) (shapeCast S128x1024 (addf (φ := .bf16) v1649 (shapeCast S128x1024 v1650 shapeCasts_S1x128x1024_S128x1024)) shapeCasts_S128x1024_S128x1024) Finset.univ
    (View.stores_vmem h_S128x1024 ((Memref.isWhole_whole _).storeExact_slice rfl _ (r34_packed c w)) (fun _ => rfl)) (.inl rfl)) fun _ =>
  k

/-- The third step's addition, into the result. -/
def add2U (c : Dev nD) (w : Fin 2) (k : PR F PUnit) : PR F PUnit :=
  .op (.load bAcc (r34 c w).toLoadRect (View.loadsAt_vmem h_S128x1024)) fun (v1709 : Vec F S128x1024 .bf16) =>
  .op (.load bP2 (p1R w).toLoadRect (View.loadsAt_vmem h_S1x128x1024)) fun (v1710 : Vec F S1x128x1024 .bf16) =>
  .op (.load bOut (r34 c w).toLoadRect (View.loadsAt_vmem h_S128x1024)) fun (v1714 : Vec F S128x1024 .bf16) =>
  .op (.store bOut (r34 c w) (addf (φ := .bf16) v1709 (shapeCast S128x1024 v1710 shapeCasts_S1x128x1024_S128x1024)) Finset.univ
    (View.stores_vmem h_S128x1024 ((Memref.isWhole_whole _).storeExact_slice rfl _ (r34_packed c w)) (fun _ => rfl)) (.inl rfl)) fun _ =>
  k

/-! ## The whole body -/

/-- The runtime's barrier semaphore. -/
abbrev barS : Sem sig := (SemArray.scalar (sig.barrier 0 rfl) : Sems sig S_).sem

/-- The device the entry's signal number `r` goes to. -/
def hDev (c : Dev nD) : Fin 3 → Dev nD
  | 0 => ⟨k0_dev1 c, k0_dev1_lt c⟩
  | 1 => ⟨k0_dev2 c, k0_dev2_lt c⟩
  | 2 => ⟨k0_dev3 c, k0_dev3_lt c⟩

theorem hDev_eq : ∀ (c : Dev nD) (r : Fin 3), hDev c r = par r c := by decide +kernel

/-- The entry: a signal to each partner, and the wait for the partners' three. -/
def handU (c : Dev nD) (k : PR F PUnit) : PR F PUnit :=
  .op (.semSignal (hDev c 0, .tc) barS (1#32 : BitVec 32).toInt) fun _ =>
  .op (.semSignal (hDev c 1, .tc) barS (1#32 : BitVec 32).toInt) fun _ =>
  .op (.semSignal (hDev c 2, .tc) barS (1#32 : BitVec 32).toInt) fun _ =>
  .op (.semWait barS (3#32 : BitVec 32).toInt) fun _ => k

/-- One block: its eight heads, then its projection. -/
def blockU (c : Dev nD) (p : Fin 4) (k : PR F PUnit) : PR F PUnit :=
  seq8 (headU c p) <| projU c p k

def attnU (c : Dev nD) (k : PR F PUnit) : PR F PUnit :=
  handU c <| onesU <| seq8 (startKV c 0) <| qU <| woU <| seq8 (startKV c 1) <|
  seq8 (waitKV c 0) <| blockU c 0 <| sendU c 0 <| seq8 (startKV c 2) <|
  seq8 (waitKV c 1) <| blockU c 1 <| sendU c 1 <| seq8 (startKV c 3) <|
  seq8 (waitKV c 2) <| blockU c 2 <| seq8 (waitKV c 3) <| blockU c 3 k

def reduceU (c : Dev nD) (k : PR F PUnit) : PR F PUnit :=
  waitU c 0 <| add0U c 0 <| waitU c 1 <| add0U c 1 <|
  sendU c 2 <| sendU c 3 <| waitU c 2 <| add1U c 0 <| waitU c 3 <| add1U c 1 <|
  sendU c 4 <| sendU c 5 <| waitU c 4 <| add2U c 0 <| waitU c 5 <| add2U c 1 <|
  sendU c 6 <| sendU c 7 <| waitU c 6 <| waitU c 7 <|
  sendU c 8 <| sendU c 9 <| waitU c 8 <| waitU c 9 k

def bodyU : PR F PUnit :=
  .op .deviceId fun d0 => attnU d0 <| reduceU d0 <| .ret ⟨⟩

set_option maxRecDepth 65536 in
set_option maxHeartbeats 0 in
theorem body_eq : cc0_body (F := F) bX (Memref.isWhole_whole _) bWq (Memref.isWhole_whole _) bWo (Memref.isWhole_whole _)
    bK (Memref.isWhole_whole _) bV (Memref.isWhole_whole _) bOut (Memref.isWhole_whole _) bKs (Memref.isWhole_whole _)
    bVs (Memref.isWhole_whole _) bQ (Memref.isWhole_whole _) bAt (Memref.isWhole_whole _) bWb (Memref.isWhole_whole _)
    bAcc (Memref.isWhole_whole _) bP0 (Memref.isWhole_whole _) bP1 (Memref.isWhole_whole _) bP2 (Memref.isWhole_whole _)
    cc0_scratch9 cc0_scratch10 cc0_scratch11 cc0_scratch12 cc0_scratch13 = bodyU := by rfl

end Cert.KernelIdeal.Hand
-- ==== Proof.Views.lean ====
/-
Where the windows of whole buffers lie: the coordinates of a window's elements, plain or with its axes of size one
dropped, and what a buffer holds after one of its windows has been overwritten.
-/
module

public import Idealize.ShloMosaic.Lib.Pipeline.Launch
public import Idealize.ShloMosaic.Lib.Pipeline.Kit
public import Idealize.ShloMosaic.Lib.Writes
public import Idealize.ShloMosaic.Lib.Tactic

@[expose] public section

noncomputable section

namespace Cert.Rows

open Idealize.ShloMosaic

/-! ## Indices by their coordinates -/

/-- The index of a matrix at row `a` and column `b`. -/
def ix2 {d : Fin 2 → Nat} (a : Fin (d 0)) (b : Fin (d 1)) : (⟨2, d⟩ : Shape).Idx := fun | 0 => a | 1 => b
/-- The index of a stack of matrices. -/
def ix3 {d : Fin 3 → Nat} (a : Fin (d 0)) (b : Fin (d 1)) (c : Fin (d 2)) : (⟨3, d⟩ : Shape).Idx :=
  fun | 0 => a | 1 => b | 2 => c
/-- The index at four coordinates. -/
def ix4 {d : Fin 4 → Nat} (a : Fin (d 0)) (b : Fin (d 1)) (c : Fin (d 2)) (e : Fin (d 3)) : (⟨4, d⟩ : Shape).Idx :=
  fun | 0 => a | 1 => b | 2 => c | 3 => e

theorem ix2_ext {d : Fin 2 → Nat} {x y : (⟨2, d⟩ : Shape).Idx} (h0 : (x 0).val = (y 0).val) (h1 : (x 1).val = (y 1).val) :
    x = y := funext fun a => match a with | 0 => Fin.ext h0 | 1 => Fin.ext h1
theorem ix3_ext {d : Fin 3 → Nat} {x y : (⟨3, d⟩ : Shape).Idx} (h0 : (x 0).val = (y 0).val) (h1 : (x 1).val = (y 1).val)
    (h2 : (x 2).val = (y 2).val) : x = y := funext fun a => match a with | 0 => Fin.ext h0 | 1 => Fin.ext h1 | 2 => Fin.ext h2
theorem ix4_ext {d : Fin 4 → Nat} {x y : (⟨4, d⟩ : Shape).Idx} (h0 : (x 0).val = (y 0).val) (h1 : (x 1).val = (y 1).val)
    (h2 : (x 2).val = (y 2).val) (h3 : (x 3).val = (y 3).val) : x = y :=
  funext fun a => match a with | 0 => Fin.ext h0 | 1 => Fin.ext h1 | 2 => Fin.ext h2 | 3 => Fin.ext h3

theorem rowMajor2 (d : Fin 2 → Nat) (x : (⟨2, d⟩ : Shape).Idx) :
    ((⟨2, d⟩ : Shape).rowMajor x).val = (x 0).val * d 1 + (x 1).val := by
  show (Shape.rowMajorPi d x).val = _
  rw [Shape.rowMajorPi_succ_val, Shape.rowMajorPi_succ_val]
  simp [Shape.rowMajorPi_zero]

theorem rowMajor3 (d : Fin 3 → Nat) (x : (⟨3, d⟩ : Shape).Idx) :
    ((⟨3, d⟩ : Shape).rowMajor x).val = (x 0).val * (d 1 * d 2) + ((x 1).val * d 2 + (x 2).val) := by
  show (Shape.rowMajorPi d x).val = _
  rw [Shape.rowMajorPi_succ_val, Shape.rowMajorPi_succ_val, Shape.rowMajorPi_succ_val]
  simp [Shape.rowMajorPi_zero, Fin.prod_univ_succ]

theorem rowMajor4 (d : Fin 4 → Nat) (x : (⟨4, d⟩ : Shape).Idx) :
    ((⟨4, d⟩ : Shape).rowMajor x).val
      = (x 0).val * (d 1 * (d 2 * d 3)) + ((x 1).val * (d 2 * d 3) + ((x 2).val * d 3 + (x 3).val)) := by
  show (Shape.rowMajorPi d x).val = _
  rw [Shape.rowMajorPi_succ_val, Shape.rowMajorPi_succ_val, Shape.rowMajorPi_succ_val, Shape.rowMajorPi_succ_val]
  simp [Shape.rowMajorPi_zero, Fin.prod_univ_succ]

/-- A matrix's index as one of a stack of one. -/
theorem reshape_1mn (m n : Nat) (h : (⟨2, ![m, n]⟩ : Shape).numel = (⟨3, ![1, m, n]⟩ : Shape).numel)
    (x : (⟨2, ![m, n]⟩ : Shape).Idx) :
    Shape.reshapeEquiv h x = ix3 (d := ![1, m, n]) (0 : Fin 1) (x 0) (x 1) :=
  Shape.reshapeEquiv_eq_of_rowMajor h (by
    rw [rowMajor2, rowMajor3]
    show 0 * _ + ((x 0).val * n + (x 1).val) = (x 0).val * n + (x 1).val
    omega)

/-- A matrix's index behind two coordinates of size one. -/
theorem reshape_11mn (m n : Nat) (h : (⟨2, ![m, n]⟩ : Shape).numel = (⟨4, ![1, 1, m, n]⟩ : Shape).numel)
    (x : (⟨2, ![m, n]⟩ : Shape).Idx) :
    Shape.reshapeEquiv h x = ix4 (d := ![1, 1, m, n]) (0 : Fin 1) (0 : Fin 1) (x 0) (x 1) :=
  Shape.reshapeEquiv_eq_of_rowMajor h (by
    rw [rowMajor2, rowMajor4]
    show 0 * _ + (0 * _ + ((x 0).val * n + (x 1).val)) = (x 0).val * n + (x 1).val
    omega)

/-- A matrix's index with coordinates of size one before its row and before its column. -/
theorem reshape_1m1n (m n : Nat) (h : (⟨2, ![m, n]⟩ : Shape).numel = (⟨4, ![1, m, 1, n]⟩ : Shape).numel)
    (x : (⟨2, ![m, n]⟩ : Shape).Idx) :
    Shape.reshapeEquiv h x = ix4 (d := ![1, m, 1, n]) (0 : Fin 1) (x 0) (0 : Fin 1) (x 1) :=
  Shape.reshapeEquiv_eq_of_rowMajor h (by
    rw [rowMajor2, rowMajor4]
    show 0 * _ + ((x 0).val * (1 * n) + (0 * n + (x 1).val)) = (x 0).val * n + (x 1).val
    simp)

/-! ## Windows -/

variable {nD : Nat} {τ : Topo} {sig : RefSig} {κ : Kind}

/-- The coordinates of a unit window's elements. -/
theorem unit_emb_val {s : Shape} {off size : Fin s.rank → Nat} (inb : ∀ a, off a + size a ≤ s.size a)
    (x : (Rect.unit (s := s) off size inb).shape.Idx) (a : Fin s.rank) :
    ((Rect.unit (s := s) off size inb).emb x a).val = off a + (x a).val := by
  show off a + 1 * (x a).val = _
  rw [Nat.one_mul]

/-- The same, with the window's first element given by other words. -/
theorem unit_emb_of {s : Shape} {off size : Fin s.rank → Nat} (inb : ∀ a, off a + size a ≤ s.size a)
    (off' : Fin s.rank → Nat) (h : off = off') (x : (Rect.unit (s := s) off size inb).shape.Idx) (a : Fin s.rank) :
    ((Rect.unit off size inb).emb x a).val = off' a + (x a).val := by
  subst h
  exact unit_emb_val inb x a

/-- A buffer overwritten, through a window, with what contents `g` show through it holds `g` on the window. -/
theorem write_eq_of_read {Val : EltTy → Type} {sp : Space} {s : Shape} {e : EltTy} {v : View sig κ sp s e}
    (f g : v.ty.Contents Val) (w : s.Idx → Val e) (h : w = v.read Val g) {i : v.ty.Idx} (hi : i ∈ v.set) :
    v.write Val f w Finset.univ i = g i := by
  subst h
  obtain ⟨x, -, rfl⟩ := Finset.mem_map.1 hi
  rw [View.write_emb_of_mem _ _ (Finset.mem_univ x), View.read_apply]
  simp

end Cert.Rows
-- ==== Proof.Contents.lean ====
/-
What each buffer holds at each stage of the run, as functions of the device and of the arguments' contents at the
start: the queries, a place's keys and values, its attention and projection, the sums after each of the three steps of
the reduction, and the result; and that the exchanges and additions take each of these to the next.
-/
module

public import proofs.«01_k».proof.Proof.Prog
public import proofs.«01_k».proof.Proof.Views

@[expose] public section

noncomputable section

namespace Cert.KernelIdeal.Hand

open Cert.KernelIdeal Cert.KernelIdeal.Gen Cert.Rows
open Idealize.ShloMosaic
open Idealize.ShloMosaic.TcCoe
open Idealize.SL.Sem

variable {F : FTy → Type} [FloatOps F]

/-! ## The row intervals -/

/-- The bit that step `e` of half `w` crosses. -/
def dw (w : Fin 2) (e : Fin 3) : Fin 3 :=
  match w with
  | 0 => e
  | 1 => match e with | 0 => 1 | 1 => 2 | 2 => 0

/-- The first row of a device's 256 rows of half `w`. -/
def row0 (c : Dev nD) (w : Fin 2) : Nat := 512 * w.val + 256 * bt c (dw w 0)
/-- The first row of the other 256 rows of half `w`. -/
def row0' (c : Dev nD) (w : Fin 2) : Nat := 512 * w.val + 256 * (1 - bt c (dw w 0))
/-- The first row of a device's 128 rows of half `w`. -/
def row1 (c : Dev nD) (w : Fin 2) : Nat := row0 c w + 128 * bt c (dw w 1)
/-- The first row of the other 128 rows among its 256. -/
def row1' (c : Dev nD) (w : Fin 2) : Nat := row0 c w + 128 * (1 - bt c (dw w 1))

theorem par_par (r : Fin 3) (c : Dev nD) : par r (par r c) = c := by revert r c; decide
theorem bt_par_self (r : Fin 3) (c : Dev nD) : bt (par r c) r = 1 - bt c r := by revert r c; decide
theorem bt_par_ne (r s : Fin 3) (c : Dev nD) (h : r ≠ s) : bt (par r c) s = bt c s := by revert r s c; decide

theorem row0_par (c : Dev nD) (w : Fin 2) : row0 (par (dw w 0) c) w = row0' c w := by revert c w; decide
theorem row0'_par (c : Dev nD) (w : Fin 2) : row0' (par (dw w 0) c) w = row0 c w := by revert c w; decide
theorem row1_par (c : Dev nD) (w : Fin 2) : row1 (par (dw w 1) c) w = row1' c w := by revert c w; decide
theorem row1'_par (c : Dev nD) (w : Fin 2) : row1' (par (dw w 1) c) w = row1 c w := by revert c w; decide
theorem row1_par2 (c : Dev nD) (w : Fin 2) : row1 (par (dw w 2) c) w = row1 c w := by revert c w; decide

theorem row0_in : ∀ (c : Dev nD) (w : Fin 2), row0 c w / 512 = w.val ∧ row0 c w + 256 ≤ 512 * w.val + 512 := by decide
theorem row1_in : ∀ (c : Dev nD) (w : Fin 2), row1 c w / 512 = w.val ∧ row1 c w + 128 ≤ 512 * w.val + 512 := by decide
theorem row0'_in : ∀ (c : Dev nD) (w : Fin 2), row0' c w + 256 ≤ 512 * w.val + 512 := by decide
theorem row1'_in : ∀ (c : Dev nD) (w : Fin 2), row1' c w + 128 ≤ 512 * w.val + 512 := by decide

theorem off11_eq : ∀ (c : Dev nD), k0_off11 c 0#32 0#32 = ![row0' c 0, 0] ∧ k0_off11 c 512#32 1#32 = ![row0' c 1, 0] := by
  decide +kernel
theorem off33_eq : ∀ (c : Dev nD), k0_off33 c 0#32 0#32 1#32 = ![row1' c 0, 0] ∧ k0_off33 c 512#32 1#32 2#32 = ![row1' c 1, 0] := by
  decide +kernel
theorem off35_eq : ∀ (c : Dev nD), k0_off35 c 0#32 0#32 1#32 = ![row1 c 0, 0] ∧ k0_off35 c 512#32 1#32 2#32 = ![row1 c 1, 0] := by
  decide +kernel
theorem off36_eq : ∀ (c : Dev nD), k0_off36 c 0#32 0#32 = ![row0 c 0, 0] ∧ k0_off36 c 512#32 1#32 = ![row0 c 1, 0] := by
  decide +kernel
theorem o32_eq : ∀ (c : Dev nD) (w : Fin 2), o32 c w = ![row0 c w, 0] := by decide +kernel
theorem o34_eq : ∀ (c : Dev nD) (w : Fin 2), o34 c w = ![row1 c w, 0] := by decide +kernel

/-- The place at which a device handles batch element `b`. -/
def po (c : Dev nD) (b : Nat) : Fin 4 := if b < 2 then (if b = bo c 0 then 0 else 2) else (if b = bo c 1 then 1 else 3)

theorem po_bo (c : Dev nD) (p : Fin 4) : po c (bo c p) = p := by revert c p; decide

/-! ## The contents -/

variable (m : (ℓ : Loc nD τ sig) → Buf (Elt F) ℓ)

/-- The device's copy of `x`. -/
def xC (c : Dev nD) : FVec F S1024x1024 .f32 :=
  (win0_0.blk (0 : Fin 1)).view.read (Elt F) (m ((c : Thread nD τ).loc main_arg0))
/-- The device's block of the query weights. -/
def wqC (c : Dev nD) : FVec F S1024x1024 .f32 :=
  (win0_1.blk (0 : Fin 1)).view.read (Elt F) (m ((c : Thread nD τ).loc main_arg1))
/-- The device's block of the output weights. -/
def woC (c : Dev nD) : FVec F S1024x1024 .f32 :=
  (win0_2.blk (0 : Fin 1)).view.read (Elt F) (m ((c : Thread nD τ).loc main_arg2))
/-- The device's copy of the keys. -/
def keyC (c : Dev nD) : FVec F S4x1024x64x128 .f32 := m ((c : Thread nD τ).loc main_arg3)
/-- The device's copy of the values. -/
def valC (c : Dev nD) : FVec F S4x1024x64x128 .f32 := m ((c : Thread nD τ).loc main_arg4)

/-- The device's queries. -/
def qC (c : Dev nD) : FVec F S1024x1024 .f32 := qVal (xC m c) (wqC m c)
/-- The device's output weights, rounded. -/
def wobC (c : Dev nD) : FVec F S1024x1024 .bf16 := wobVal (woC m c)

/-- The number of the head `h` of a device's eight, among the sixty-four. -/
def hd (c : Dev nD) (h : Fin 8) : Fin 64 := ⟨8 * c.val + h.val, by have : c.val < 8 := c.isLt; have := h.isLt; omega⟩
/-- The batch element of place `p`. -/
def ba (c : Dev nD) (p : Fin 4) : Fin 4 := ⟨bo c p, bo_lt c p⟩

/-- The keys of place `p`, as they lie in either slot. -/
def ksC (c : Dev nD) (p : Fin 4) : FVec F S2x8x1024x128 .f32 := fun i =>
  keyC m c (ix4 (d := ![4, 1024, 64, 128]) (ba c p) (i 2) (hd c (i 1)) (i 3))

/-- The values of place `p` and the columns beside them, as they lie in either slot. -/
def vsC (c : Dev nD) (p : Fin 4) : FVec F S2x8x1024x256 .f32 := fun i =>
  if h : (i 3).val < 128 then valC m c (ix4 (d := ![4, 1024, 64, 128]) (ba c p) (i 2) (hd c (i 1)) (⟨(i 3).val, h⟩ : Fin 128))
  else onesVal (F := F) (ix4 (d := ![2, 8, 1024, 128]) (i 0) (i 1) (i 2)
    (⟨(i 3).val - 128, by have : (i 3).val < 256 := (i 3).isLt; omega⟩ : Fin 128))

/-- A head's attention at a place. -/
def headC (c : Dev nD) (p : Fin 4) (h : Fin 8) : FVec F S256x128 .bf16 :=
  headVal (bQ.view.readAt (Elt F) (qR c p h).toLoadRect (qC m c))
    (shapeCast S1024x128 (bKs.view.readAt (Elt F) (kR p h).toLoadRect (ksC m c p)) shapeCasts_S1x1x1024x128_S1024x128)
    (shapeCast S1024x256 (bVs.view.readAt (Elt F) (vR p h).toLoadRect (vsC m c p)) shapeCasts_S1x1x1024x256_S1024x256)

/-- A place's attention, its heads side by side. -/
def attnC (c : Dev nD) (p : Fin 4) : FVec F S256x1024 .bf16 := fun i =>
  headC m c p ⟨(i 1).val / 128, by have : (i 1).val < 1024 := (i 1).isLt; omega⟩
    (ix2 (d := ![256, 128]) (i 0) (⟨(i 1).val % 128, Nat.mod_lt _ (by decide)⟩ : Fin 128))

/-- A device's own projection. -/
def accA (c : Dev nD) : FVec F S1024x1024 .bf16 := fun i =>
  projVal (attnC m c (po c ((i 0).val / 256))) (wobC m c)
    (ix2 (d := ![256, 1024]) (⟨(i 0).val % 256, Nat.mod_lt _ (by decide)⟩ : Fin 256) (i 1))

/-- The half of a row. -/
def wOf (i : S1024x1024.Idx) : Fin 2 := ⟨(i 0).val / 512, by have : (i 0).val < 1024 := (i 0).isLt; omega⟩

/-- After step `e` of the reduction: a device's rows with its partner's added. -/
def stepC (e : Fin 3) (f : Dev nD → FVec F S1024x1024 .bf16) (c : Dev nD) : FVec F S1024x1024 .bf16 := fun i =>
  addf (f c) (f (par (dw (wOf i) e) c)) i

def acc1 (c : Dev nD) : FVec F S1024x1024 .bf16 := stepC 0 (accA m) c
def acc2 (c : Dev nD) : FVec F S1024x1024 .bf16 := stepC 1 (acc1 m) c
def outC (c : Dev nD) : FVec F S1024x1024 .bf16 := stepC 2 (acc2 m) c

/-- Whose sum the quarter-half `b` (128 rows) of the result is, on a device. -/
def ow (c : Dev nD) (b : Fin 8) : Dev nD :=
  let w : Fin 2 := ⟨b.val / 4, by omega⟩
  let c' := if b.val / 2 % 2 = bt c (dw w 0) then c else par (dw w 0) c
  if b.val % 2 = bt c (dw w 1) then c' else par (dw w 1) c'

/-- The number of a row's quarter-half. -/
def qOf (i : S1024x1024.Idx) : Fin 8 := ⟨(i 0).val / 128, by have : (i 0).val < 1024 := (i 0).isLt; omega⟩

/-- The result on a device. -/
def finC (c : Dev nD) : FVec F S1024x1024 .bf16 := fun i => outC m (ow c (qOf i)) i

/-- Two stacked blocks of 256 rows, each cut from its own matrix at its own first row. -/
def stk256 (f : Fin 2 → FVec F S1024x1024 .bf16) (r : Fin 2 → Nat) : FVec F S2x256x1024 .bf16 := fun i =>
  f (i 0) (ix2 (d := ![1024, 1024]) (Fin.ofNat 1024 (r (i 0) + (i 1).val)) (i 2))
/-- Two stacked blocks of 128 rows. -/
def stk128 (f : Fin 2 → FVec F S1024x1024 .bf16) (r : Fin 2 → Nat) : FVec F S2x128x1024 .bf16 := fun i =>
  f (i 0) (ix2 (d := ![1024, 1024]) (Fin.ofNat 1024 (r (i 0) + (i 1).val)) (i 2))

/-- What arrives at a device in the first step. -/
def p0C (c : Dev nD) : FVec F S2x256x1024 .bf16 := stk256 (fun w => accA m (par (dw w 0) c)) (row0 c)
/-- What arrives in the second step. -/
def p1C (c : Dev nD) : FVec F S2x128x1024 .bf16 := stk128 (fun w => acc1 m (par (dw w 1) c)) (row1 c)
/-- What arrives in the third step. -/
def p2C (c : Dev nD) : FVec F S2x128x1024 .bf16 := stk128 (fun w => acc2 m (par (dw w 2) c)) (row1 c)

/-- What the source of exchange `k` holds. -/
def srcC (c : Dev nD) : (k : Fin 10) → Buf (Elt F) ((xSrc c k).view.loc (c : Thread nD τ))
  | 0 => accA m c | 1 => accA m c
  | 2 => acc1 m c | 3 => acc1 m c
  | 4 => acc2 m c | 5 => acc2 m c
  | 6 => finC m c | 7 => finC m c | 8 => finC m c | 9 => finC m c

/-- What the destination of exchange `k`, sent by `c`, holds after it, on `d`. -/
def dstC (c d : Dev nD) : (k : Fin 10) → Buf (Elt F) ((xDst c k).view.loc (d : Thread nD τ))
  | 0 => p0C m d | 1 => p0C m d
  | 2 => p1C m d | 3 => p1C m d
  | 4 => p2C m d | 5 => p2C m d
  | 6 => finC m d | 7 => finC m d | 8 => finC m d | 9 => finC m d

/-! ## The copies of keys and values -/

theorem ksC_read (c : Dev nD) (p : Fin 4) (h : Fin 8) :
    (kSrc c p h).view.read (Elt F) (keyC m c) = (kDst p h).view.read (Elt F) (ksC m c p) := by
  funext x
  show keyC m c ((Rect.unit (s := S4x1024x64x128) (kvOff c p h) S1x1024x1x128.size (kvOff_inb c p h)).emb
      (Shape.reshapeEquiv squeezes_S1x1024x1x128_S1024x128.numel_eq x))
    = ksC m c p ((Rect.unit (s := S2x8x1024x128) ![slot p, h.val, 0, 0] S1x1x1024x128.size (ks_inb p h)).emb
      (Shape.reshapeEquiv squeezes_S1x1x1024x128_S1024x128.numel_eq x))
  rw [reshape_1m1n 1024 128, reshape_11mn 1024 128]
  unfold ksC
  refine congrArg (keyC m c) (ix4_ext ?_ ?_ ?_ ?_)
  · refine (unit_emb_of _ _ (kvOff_eq c p h) _ 0).trans ?_; rfl
  · refine (unit_emb_of _ _ (kvOff_eq c p h) _ 1).trans (Eq.trans ?_ (unit_emb_val (s := S2x8x1024x128) (ks_inb p h) _ 2).symm); rfl
  · refine (unit_emb_of _ _ (kvOff_eq c p h) _ 2).trans ?_
    refine Eq.trans ?_ (congrArg (fun t => 8 * c.val + t) (unit_emb_val (s := S2x8x1024x128) (ks_inb p h) _ 1).symm); rfl
  · refine (unit_emb_of _ _ (kvOff_eq c p h) _ 3).trans (Eq.trans ?_ (unit_emb_val (s := S2x8x1024x128) (ks_inb p h) _ 3).symm); rfl

theorem vsC_read (c : Dev nD) (p : Fin 4) (h : Fin 8) :
    (vSrc c p h).view.read (Elt F) (valC m c) = (vDst p h).view.read (Elt F) (vsC m c p) := by
  funext x
  show valC m c ((Rect.unit (s := S4x1024x64x128) (kvOff c p h) S1x1024x1x128.size (kvOff_inb c p h)).emb
      (Shape.reshapeEquiv squeezes_S1x1024x1x128_S1024x128.numel_eq x))
    = vsC m c p ((Rect.unit (s := S2x8x1024x256) ![slot p, h.val, 0, 0] S1x1x1024x128.size (vs_inb p h)).emb
      (Shape.reshapeEquiv squeezes_S1x1x1024x128_S1024x128.numel_eq x))
  rw [reshape_1m1n 1024 128, reshape_11mn 1024 128]
  unfold vsC
  rw [dif_pos (show _ < 128 from (unit_emb_val (s := S2x8x1024x256) (vs_inb p h) _ 3).trans_lt (by
    show 0 + (x 1).val < 128
    have : (x 1).val < 128 := (x 1).isLt
    omega))]
  refine congrArg (valC m c) (ix4_ext ?_ ?_ ?_ ?_)
  · refine (unit_emb_of _ _ (kvOff_eq c p h) _ 0).trans ?_; rfl
  · refine (unit_emb_of _ _ (kvOff_eq c p h) _ 1).trans (Eq.trans ?_ (unit_emb_val (s := S2x8x1024x256) (vs_inb p h) _ 2).symm); rfl
  · refine (unit_emb_of _ _ (kvOff_eq c p h) _ 2).trans ?_
    refine Eq.trans ?_ (congrArg (fun t => 8 * c.val + t) (unit_emb_val (s := S2x8x1024x256) (vs_inb p h) _ 1).symm); rfl
  · refine (unit_emb_of _ _ (kvOff_eq c p h) _ 3).trans (Eq.trans ?_ (unit_emb_val (s := S2x8x1024x256) (vs_inb p h) _ 3).symm); rfl

/-! ## The blocks -/

theorem cast_self {e : FTy} {s : Shape} (v : FVec F s e) (h : s.numel = s.numel) : shapeCast s v h = v := by
  funext x
  show v (Shape.reshapeEquiv _ x) = v x
  rw [Shape.reshapeEquiv_self]

theorem head_read (c : Dev nD) (p : Fin 4) (h : Fin 8) :
    headC m c p h = (bAt.access (atR h)).read (Elt F) (attnC m c p) := by
  funext x
  show headC m c p h x = attnC m c p ((atR h).emb x)
  have h0 : ((atR h).emb x 0).val = 0 + (x 0).val := unit_emb_val _ _ 0
  have h1 : ((atR h).emb x 1).val = 128 * h.val + (x 1).val := unit_emb_val _ _ 1
  have hx : (x 1).val < 128 := (x 1).isLt
  unfold attnC
  refine congrArg₂ (headC m c p) (Fin.ext ?_) (ix2_ext ?_ ?_)
  · show h.val = ((atR h).emb x 1).val / 128
    omega
  · show (x 0).val = ((atR h).emb x 0).val
    omega
  · show (x 1).val = ((atR h).emb x 1).val % 128
    omega

theorem proj_read (c : Dev nD) (p : Fin 4) :
    projVal (attnC m c p) (wobC m c) = (bAcc.access (aR c p)).read (Elt F) (accA m c) := by
  funext x
  show projVal (attnC m c p) (wobC m c) x = accA m c ((aR c p).emb x)
  have h0 : ((aR c p).emb x 0).val = 256 * bo c p + (x 0).val := by
    refine (unit_emb_of _ _ (aOff_eq c p) _ 0).trans ?_; rfl
  have h1 : ((aR c p).emb x 1).val = (x 1).val := by
    refine (unit_emb_of _ _ (aOff_eq c p) _ 1).trans ?_; exact Nat.zero_add _
  have hx : (x 0).val < 256 := (x 0).isLt
  unfold accA
  have hp : po c (((aR c p).emb x 0).val / 256) = p := by
    rw [h0, show (256 * bo c p + (x 0).val) / 256 = bo c p by omega]; exact po_bo c p
  rw [hp]
  refine congrArg (projVal _ _) (ix2_ext ?_ ?_)
  · show (x 0).val = ((aR c p).emb x 0).val % 256
    omega
  · exact h1.symm

/-! ## The additions -/

/-- A stacked block of 256 rows, read as a matrix at `w`, is the matrix it was cut from, at its rows. -/
theorem stk256_at (f : Fin 2 → FVec F S1024x1024 .bf16) (r : Fin 2 → Nat) (w : Fin 2)
    (h : (⟨2, ![256, 1024]⟩ : Shape).numel = (⟨3, ![1, 256, 1024]⟩ : Shape).numel)
    (hr : r w + 256 ≤ 1024) (x : S256x1024.Idx) (y : S1024x1024.Idx) (h0 : (y 0).val = r w + (x 0).val)
    (h1 : (y 1).val = (x 1).val) : stk256 f r ((p0R w).emb (Shape.reshapeEquiv h x)) = f w y := by
  have hx : (x 0).val < 256 := (x 0).isLt
  rw [reshape_1mn 256 1024]
  unfold stk256
  have e0 : (p0R w).emb (ix3 (d := ![1, 256, 1024]) (0 : Fin 1) (x 0) (x 1)) 0 = w :=
    Fin.ext ((unit_emb_val _ _ 0).trans (by show w.val + 0 = _; rfl))
  rw [e0]
  refine congrArg (f w) (ix2_ext ?_ ?_)
  · show (r w + ((p0R w).emb (ix3 (d := ![1, 256, 1024]) (0 : Fin 1) (x 0) (x 1)) 1).val) % 1024 = _
    rw [show ((p0R w).emb (ix3 (d := ![1, 256, 1024]) (0 : Fin 1) (x 0) (x 1)) 1).val = 0 + (x 0).val from unit_emb_val _ _ 1, h0]
    omega
  · exact ((unit_emb_val _ _ 2).trans (Nat.zero_add _)).trans h1.symm

/-- The same of a stacked block of 128 rows. -/
theorem stk128_at (f : Fin 2 → FVec F S1024x1024 .bf16) (r : Fin 2 → Nat) (w : Fin 2)
    (h : (⟨2, ![128, 1024]⟩ : Shape).numel = (⟨3, ![1, 128, 1024]⟩ : Shape).numel)
    (hr : r w + 128 ≤ 1024) (x : S128x1024.Idx) (y : S1024x1024.Idx) (h0 : (y 0).val = r w + (x 0).val)
    (h1 : (y 1).val = (x 1).val) : stk128 f r ((p1R w).emb (Shape.reshapeEquiv h x)) = f w y := by
  have hx : (x 0).val < 128 := (x 0).isLt
  rw [reshape_1mn 128 1024]
  unfold stk128
  have e0 : (p1R w).emb (ix3 (d := ![1, 128, 1024]) (0 : Fin 1) (x 0) (x 1)) 0 = w :=
    Fin.ext ((unit_emb_val _ _ 0).trans (by show w.val + 0 = _; rfl))
  rw [e0]
  refine congrArg (f w) (ix2_ext ?_ ?_)
  · show (r w + ((p1R w).emb (ix3 (d := ![1, 128, 1024]) (0 : Fin 1) (x 0) (x 1)) 1).val) % 1024 = _
    rw [show ((p1R w).emb (ix3 (d := ![1, 128, 1024]) (0 : Fin 1) (x 0) (x 1)) 1).val = 0 + (x 0).val from unit_emb_val _ _ 1, h0]
    omega
  · exact ((unit_emb_val _ _ 2).trans (Nat.zero_add _)).trans h1.symm

/-- The coordinates of a window of whole rows, in a square matrix. -/
theorem rows_emb {off size : Fin 2 → Nat} (inb : ∀ a : Fin 2, off a + size a ≤ S1024x1024.size a) (o : Nat)
    (h : off = ![o, 0]) (x : (Rect.unit (s := S1024x1024) off size inb).shape.Idx) :
    ((Rect.unit (s := S1024x1024) off size inb).emb x 0).val = o + (x 0).val
      ∧ ((Rect.unit (s := S1024x1024) off size inb).emb x 1).val = (x 1).val := by
  subst h
  exact ⟨unit_emb_val _ _ 0, (unit_emb_val _ _ 1).trans (Nat.zero_add _)⟩

theorem r32_emb (c : Dev nD) (w : Fin 2) (x : (r32 c w).shape.Idx) :
    ((r32 c w).emb x 0).val = row0 c w + (x 0).val ∧ ((r32 c w).emb x 1).val = (x 1).val := rows_emb (o32_inb c w) _ (o32_eq c w) x
theorem r34_emb (c : Dev nD) (w : Fin 2) (x : (r34 c w).shape.Idx) :
    ((r34 c w).emb x 0).val = row1 c w + (x 0).val ∧ ((r34 c w).emb x 1).val = (x 1).val := rows_emb (o34_inb c w) _ (o34_eq c w) x

theorem add0_read (c : Dev nD) (w : Fin 2) :
    addf (φ := .bf16) (bAcc.view.readAt (Elt F) (r32 c w).toLoadRect (accA m c))
      (shapeCast S256x1024 (bP0.view.readAt (Elt F) (p0R w).toLoadRect (p0C m c)) shapeCasts_S1x256x1024_S256x1024)
      = (bAcc.access (r32 c w)).read (Elt F) (acc1 m c) := by
  funext x
  have hx : (x 0).val < 256 := (x 0).isLt
  obtain ⟨h0, h1⟩ := r32_emb c w x
  have hr := row0_in c w
  have hw : wOf ((r32 c w).emb x) = w := Fin.ext (by show ((r32 c w).emb x 0).val / 512 = w.val; omega)
  have hp : shapeCast S256x1024 (bP0.view.readAt (Elt F) (p0R w).toLoadRect (p0C m c)) shapeCasts_S1x256x1024_S256x1024 x
      = accA m (par (dw w 0) c) ((r32 c w).emb x) :=
    stk256_at (fun w => accA m (par (dw w 0) c)) (row0 c) w shapeCasts_S1x256x1024_S256x1024 (by omega) x _ h0 h1
  show FloatOps.addf _ _ = stepC 0 (accA m) c ((r32 c w).emb x)
  unfold stepC
  rw [hw]
  exact congrArg₂ FloatOps.addf rfl hp

/-- The sum of a device's 128 rows of half `w` and those its partner sent. -/
theorem add128_read (e : Fin 3) (f : Dev nD → FVec F S1024x1024 .bf16) (c : Dev nD) (w : Fin 2) (x : S128x1024.Idx) :
    addf (φ := .bf16) (fun x => f c ((r34 c w).emb x))
      (shapeCast S128x1024 (fun x => stk128 (fun w => f (par (dw w e) c)) (row1 c) ((p1R w).emb x)) shapeCasts_S1x128x1024_S128x1024) x
      = stepC e f c ((r34 c w).emb x) := by
  have hx : (x 0).val < 128 := (x 0).isLt
  obtain ⟨h0, h1⟩ := r34_emb c w x
  have hr := row1_in c w
  have hw : wOf ((r34 c w).emb x) = w := Fin.ext (by show ((r34 c w).emb x 0).val / 512 = w.val; omega)
  have hp := stk128_at (fun w => f (par (dw w e) c)) (row1 c) w shapeCasts_S1x128x1024_S128x1024 (by omega) x _ h0 h1
  show FloatOps.addf _ _ = stepC e f c ((r34 c w).emb x)
  unfold stepC
  rw [hw]
  exact congrArg₂ FloatOps.addf rfl hp

theorem add1_read (c : Dev nD) (w : Fin 2) :
    addf (φ := .bf16) (bAcc.view.readAt (Elt F) (r34 c w).toLoadRect (acc1 m c))
      (shapeCast S128x1024 (bP1.view.readAt (Elt F) (p1R w).toLoadRect (p1C m c)) shapeCasts_S1x128x1024_S128x1024)
      = (bAcc.access (r34 c w)).read (Elt F) (acc2 m c) :=
  funext fun x => add128_read 1 (acc1 m) c w x

theorem own_row1 : ∀ (c : Dev nD) (w : Fin 2) (b : Fin 8), b.val = row1 c w / 128 → ow c b = c := by decide +kernel
theorem row1_dvd : ∀ (c : Dev nD) (w : Fin 2), row1 c w = 128 * (row1 c w / 128) := by decide +kernel
theorem row0_dvd : ∀ (c : Dev nD) (w : Fin 2), row0 c w = 256 * (row0 c w / 256) := by decide +kernel
theorem ow_x6 : ∀ (c : Dev nD) (w : Fin 2) (b : Fin 8), b.val = row1 c w / 128 → ow c b = ow (par (dw w 1) c) b := by decide +kernel
theorem ow_x8 : ∀ (c : Dev nD) (w : Fin 2) (b : Fin 8), b.val / 2 = row0 c w / 256 → ow c b = ow (par (dw w 0) c) b := by decide +kernel

theorem add2_read (c : Dev nD) (w : Fin 2) :
    addf (φ := .bf16) (bAcc.view.readAt (Elt F) (r34 c w).toLoadRect (acc2 m c))
      (shapeCast S128x1024 (bP2.view.readAt (Elt F) (p1R w).toLoadRect (p2C m c)) shapeCasts_S1x128x1024_S128x1024)
      = (bOut.access (r34 c w)).read (Elt F) (finC m c) :=
  funext fun x => (add128_read 2 (acc2 m) c w x).trans (by
    have hx : (x 0).val < 128 := (x 0).isLt
    obtain ⟨h0, h1⟩ := r34_emb c w x
    have hd := row1_dvd c w
    show outC m c _ = outC m (ow c (qOf ((r34 c w).emb x))) _
    rw [own_row1 c w (qOf ((r34 c w).emb x)) (show ((r34 c w).emb x 0).val / 128 = _ by omega)]
    rfl)

/-! ## The exchanges -/

/-- Sent rows of 256, and where they land. -/
theorem read256 (c : Dev nD) (w : Fin 2) {off : Fin 2 → Nat} (inb : ∀ a : Fin 2, off a + S256x1024.size a ≤ S1024x1024.size a)
    (h : off = ![row0' c w, 0]) (hs : (⟨2, ![256, 1024]⟩ : Shape).numel = (⟨3, ![1, 256, 1024]⟩ : Shape).numel)
    (x : S256x1024.Idx) :
    accA m c ((Rect.unit (s := S1024x1024) off S256x1024.size inb).emb x)
      = p0C m (par (dw w 0) c) ((p0R w).emb (Shape.reshapeEquiv hs x)) := by
  obtain ⟨h0, h1⟩ := rows_emb inb _ h x
  have hr := row0'_in c w
  have hp := row0_par c w
  refine Eq.trans ?_ (stk256_at _ (row0 (par (dw w 0) c)) w hs (by omega) x _ (h0.trans (congrArg (· + _) hp.symm)) h1).symm
  show _ = accA m (par (dw w 0) (par (dw w 0) c)) _
  rw [par_par]

/-- Sent rows of 128, and where they land. -/
theorem read128 (e : Fin 3) (f : Dev nD → FVec F S1024x1024 .bf16) (c : Dev nD) (w : Fin 2) {off : Fin 2 → Nat}
    (inb : ∀ a : Fin 2, off a + S128x1024.size a ≤ S1024x1024.size a) (o : Nat) (h : off = ![o, 0])
    (ho : o + 128 ≤ 1024) (hp : row1 (par (dw w e) c) w = o)
    (hs : (⟨2, ![128, 1024]⟩ : Shape).numel = (⟨3, ![1, 128, 1024]⟩ : Shape).numel) (x : S128x1024.Idx) :
    f c ((Rect.unit (s := S1024x1024) off S128x1024.size inb).emb x)
      = stk128 (fun w' => f (par (dw w' e) (par (dw w e) c))) (row1 (par (dw w e) c)) ((p1R w).emb (Shape.reshapeEquiv hs x)) := by
  obtain ⟨h0, h1⟩ := rows_emb inb _ h x
  refine Eq.trans ?_ (stk128_at _ (row1 (par (dw w e) c)) w hs (by omega) x _ (h0.trans (congrArg (· + _) hp.symm)) h1).symm
  show _ = f (par (dw w e) (par (dw w e) c)) _
  rw [par_par]

theorem read_x6 (c : Dev nD) (w : Fin 2) {off : Fin 2 → Nat}
    (inb : ∀ a : Fin 2, off a + S128x1024.size a ≤ S1024x1024.size a) (h : off = ![row1 c w, 0]) (x : S128x1024.Idx) :
    finC m c ((Rect.unit (s := S1024x1024) off S128x1024.size inb).emb x)
      = finC m (par (dw w 1) c) ((Rect.unit (s := S1024x1024) off S128x1024.size inb).emb x) := by
  have hx : (x 0).val < 128 := (x 0).isLt
  have h0 := (rows_emb inb _ h x).1
  have hd := row1_dvd c w
  unfold finC
  rw [ow_x6 c w _ (show ((Rect.unit (s := S1024x1024) off S128x1024.size inb).emb x 0).val / 128 = row1 c w / 128 by
    rw [h0]; have : ∀ t, t < 128 → (row1 c w + t) / 128 = row1 c w / 128 := fun t ht => by omega
    exact this _ hx)]

theorem read_x8 (c : Dev nD) (w : Fin 2) {off : Fin 2 → Nat}
    (inb : ∀ a : Fin 2, off a + S256x1024.size a ≤ S1024x1024.size a) (h : off = ![row0 c w, 0]) (x : S256x1024.Idx) :
    finC m c ((Rect.unit (s := S1024x1024) off S256x1024.size inb).emb x)
      = finC m (par (dw w 0) c) ((Rect.unit (s := S1024x1024) off S256x1024.size inb).emb x) := by
  have hx : (x 0).val < 256 := (x 0).isLt
  have h0 := (rows_emb inb _ h x).1
  have hd := row0_dvd c w
  unfold finC
  rw [ow_x8 c w _ (show ((Rect.unit (s := S1024x1024) off S256x1024.size inb).emb x 0).val / 128 / 2 = row0 c w / 256 by
    rw [h0]; have : ∀ t, t < 256 → (row0 c w + t) / 128 / 2 = row0 c w / 256 := fun t ht => by omega
    exact this _ hx)]

theorem row1'_lt : ∀ (c : Dev nD) (w : Fin 2), row1' c w + 128 ≤ 1024 := by decide
theorem row1_lt : ∀ (c : Dev nD) (w : Fin 2), row1 c w + 128 ≤ 1024 := by decide

theorem src_read0 (c : Dev nD) :
    (xSrc c 0).view.read (Elt F) (srcC m c 0) = (xDst c 0).view.read (Elt F) (dstC m c (par (xDim 0) c) 0) :=
  funext fun x => read256 m c 0 (k0_off11_inb c 0) (off11_eq c).1 squeezes_S1x256x1024_S256x1024.numel_eq x
theorem src_read1 (c : Dev nD) :
    (xSrc c 1).view.read (Elt F) (srcC m c 1) = (xDst c 1).view.read (Elt F) (dstC m c (par (xDim 1) c) 1) :=
  funext fun x => read256 m c 1 (k0_off11_inb c 1) (off11_eq c).2 squeezes_S1x256x1024_S256x1024.numel_eq x
theorem src_read2 (c : Dev nD) :
    (xSrc c 2).view.read (Elt F) (srcC m c 2) = (xDst c 2).view.read (Elt F) (dstC m c (par (xDim 2) c) 2) :=
  funext fun x => read128 1 (acc1 m) c 0 (k0_off33_inb c 0) _ (off33_eq c).1 (row1'_lt c 0) (row1_par c 0) squeezes_S1x128x1024_S128x1024.numel_eq x
theorem src_read3 (c : Dev nD) :
    (xSrc c 3).view.read (Elt F) (srcC m c 3) = (xDst c 3).view.read (Elt F) (dstC m c (par (xDim 3) c) 3) :=
  funext fun x => read128 1 (acc1 m) c 1 (k0_off33_inb c 1) _ (off33_eq c).2 (row1'_lt c 1) (row1_par c 1) squeezes_S1x128x1024_S128x1024.numel_eq x
theorem src_read4 (c : Dev nD) :
    (xSrc c 4).view.read (Elt F) (srcC m c 4) = (xDst c 4).view.read (Elt F) (dstC m c (par (xDim 4) c) 4) :=
  funext fun x => read128 2 (acc2 m) c 0 (k0_off35_inb c 0) _ (off35_eq c).1 (row1_lt c 0) (row1_par2 c 0) squeezes_S1x128x1024_S128x1024.numel_eq x
theorem src_read5 (c : Dev nD) :
    (xSrc c 5).view.read (Elt F) (srcC m c 5) = (xDst c 5).view.read (Elt F) (dstC m c (par (xDim 5) c) 5) :=
  funext fun x => read128 2 (acc2 m) c 1 (k0_off35_inb c 1) _ (off35_eq c).2 (row1_lt c 1) (row1_par2 c 1) squeezes_S1x128x1024_S128x1024.numel_eq x
theorem src_read6 (c : Dev nD) :
    (xSrc c 6).view.read (Elt F) (srcC m c 6) = (xDst c 6).view.read (Elt F) (dstC m c (par (xDim 6) c) 6) :=
  funext fun x => read_x6 m c 0 (k0_off35_inb c 0) (off35_eq c).1 x
theorem src_read7 (c : Dev nD) :
    (xSrc c 7).view.read (Elt F) (srcC m c 7) = (xDst c 7).view.read (Elt F) (dstC m c (par (xDim 7) c) 7) :=
  funext fun x => read_x6 m c 1 (k0_off35_inb c 1) (off35_eq c).2 x
theorem src_read8 (c : Dev nD) :
    (xSrc c 8).view.read (Elt F) (srcC m c 8) = (xDst c 8).view.read (Elt F) (dstC m c (par (xDim 8) c) 8) :=
  funext fun x => read_x8 m c 0 (k0_off36_inb c 0) (off36_eq c).1 x
theorem src_read9 (c : Dev nD) :
    (xSrc c 9).view.read (Elt F) (srcC m c 9) = (xDst c 9).view.read (Elt F) (dstC m c (par (xDim 9) c) 9) :=
  funext fun x => read_x8 m c 1 (k0_off36_inb c 1) (off36_eq c).2 x

/-- What the source of an exchange shows is what its destination shows after it. -/
theorem src_read (c : Dev nD) : (k : Fin 10) →
    (xSrc c k).view.read (Elt F) (srcC m c k) = (xDst c k).view.read (Elt F) (dstC m c (par (xDim k) c) k)
  | 0 => src_read0 m c
  | 1 => src_read1 m c
  | 2 => src_read2 m c
  | 3 => src_read3 m c
  | 4 => src_read4 m c
  | 5 => src_read5 m c
  | 6 => src_read6 m c
  | 7 => src_read7 m c
  | 8 => src_read8 m c
  | 9 => src_read9 m c

/-! ## The regions -/

/-- The elements of a square buffer in rows `o` to `o + n`. -/
def rows (o n : Nat) : Finset S1024x1024.Idx := Finset.univ.filter fun i => o ≤ (i 0).val ∧ (i 0).val < o + n

theorem mem_rows {o n : Nat} {i : S1024x1024.Idx} : i ∈ rows o n ↔ o ≤ (i 0).val ∧ (i 0).val < o + n := by simp [rows]

theorem unit_rows {off size : Fin 2 → Nat} (inb : ∀ a : Fin 2, off a + size a ≤ S1024x1024.size a) (o n : Nat)
    (h : off = ![o, 0]) (hn : size = ![n, 1024]) : (Rect.unit (s := S1024x1024) off size inb).set = rows o n := by
  subst h hn
  ext i
  rw [Rect.mem_set_unit, mem_rows]
  refine ⟨fun h => h 0, fun h a => match a with | 0 => h | 1 => ⟨Nat.zero_le _, ?_⟩⟩
  have := (i 1).isLt
  exact lt_of_lt_of_eq this (Nat.zero_add _).symm

theorem accPiece (c : Dev nD) (p : Fin 4) : ((bAcc.access (aR c p)).set : Finset S1024x1024.Idx) = rows (256 * bo c p) 256 :=
  (View.set_slice_whole _ _).trans (unit_rows _ _ _ (aOff_eq c p) rfl)
theorem accR32 (c : Dev nD) (w : Fin 2) : ((bAcc.access (r32 c w)).set : Finset S1024x1024.Idx) = rows (row0 c w) 256 :=
  (View.set_slice_whole _ _).trans (unit_rows _ _ _ (o32_eq c w) rfl)
theorem accR34 (c : Dev nD) (w : Fin 2) : ((bAcc.access (r34 c w)).set : Finset S1024x1024.Idx) = rows (row1 c w) 128 :=
  (View.set_slice_whole _ _).trans (unit_rows _ _ _ (o34_eq c w) rfl)
theorem outR34 (c : Dev nD) (w : Fin 2) : ((bOut.access (r34 c w)).set : Finset S1024x1024.Idx) = rows (row1 c w) 128 :=
  (View.set_slice_whole _ _).trans (unit_rows _ _ _ (o34_eq c w) rfl)

theorem src0_set (c : Dev nD) : ((xSrc c 0).view.set : Finset S1024x1024.Idx) = rows (row0' c 0) 256 :=
  (View.set_slice_whole _ _).trans (unit_rows _ _ _ (off11_eq c).1 rfl)
theorem src1_set (c : Dev nD) : ((xSrc c 1).view.set : Finset S1024x1024.Idx) = rows (row0' c 1) 256 :=
  (View.set_slice_whole _ _).trans (unit_rows _ _ _ (off11_eq c).2 rfl)
theorem src2_set (c : Dev nD) : ((xSrc c 2).view.set : Finset S1024x1024.Idx) = rows (row1' c 0) 128 :=
  (View.set_slice_whole _ _).trans (unit_rows _ _ _ (off33_eq c).1 rfl)
theorem src3_set (c : Dev nD) : ((xSrc c 3).view.set : Finset S1024x1024.Idx) = rows (row1' c 1) 128 :=
  (View.set_slice_whole _ _).trans (unit_rows _ _ _ (off33_eq c).2 rfl)
theorem src4_set (c : Dev nD) : ((xSrc c 4).view.set : Finset S1024x1024.Idx) = rows (row1 c 0) 128 :=
  (View.set_slice_whole _ _).trans (unit_rows _ _ _ (off35_eq c).1 rfl)
theorem src5_set (c : Dev nD) : ((xSrc c 5).view.set : Finset S1024x1024.Idx) = rows (row1 c 1) 128 :=
  (View.set_slice_whole _ _).trans (unit_rows _ _ _ (off35_eq c).2 rfl)
theorem src6_set (c : Dev nD) : ((xSrc c 6).view.set : Finset S1024x1024.Idx) = rows (row1 c 0) 128 :=
  (View.set_slice_whole _ _).trans (unit_rows _ _ _ (off35_eq c).1 rfl)
theorem src7_set (c : Dev nD) : ((xSrc c 7).view.set : Finset S1024x1024.Idx) = rows (row1 c 1) 128 :=
  (View.set_slice_whole _ _).trans (unit_rows _ _ _ (off35_eq c).2 rfl)
theorem src8_set (c : Dev nD) : ((xSrc c 8).view.set : Finset S1024x1024.Idx) = rows (row0 c 0) 256 :=
  (View.set_slice_whole _ _).trans (unit_rows _ _ _ (off36_eq c).1 rfl)
theorem src9_set (c : Dev nD) : ((xSrc c 9).view.set : Finset S1024x1024.Idx) = rows (row0 c 1) 256 :=
  (View.set_slice_whole _ _).trans (unit_rows _ _ _ (off36_eq c).2 rfl)

end Cert.KernelIdeal.Hand
-- ==== Proof.Sched.lean ====
/-
The protocol of the ring semaphores: the barrier handshake with the three partners, and the ten exchanges.

A device's barrier cell has three duties, one for each of the cube's dimensions `r`, paid by the device's partner in
that dimension: one unit each, and with it that partner's landing regions of the exchanges in that dimension. A send
cell has one duty, paid by the device's own transfer, whose payload is the sent rows; a receive cell one duty, paid by
the partner's transfer, whose payload is the landing region holding the partner's rows.
-/
module

public import proofs.«01_k».proof.Proof.Contents
public import Idealize.ShloMosaic.Lib.Pipeline.Launch
public import Idealize.ShloMosaic.Lib.Pipeline.Kit
public import Idealize.ShloMosaic.Lib.Batch
public import Idealize.ShloMosaic.Lib.Tactic

@[expose] public section

noncomputable section

namespace Cert.KernelIdeal.Hand

open Cert.KernelIdeal Cert.KernelIdeal.Gen Cert.Rows
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

abbrev UB : Type := URounds (GSem nD τ sig) (Fin 3)
abbrev UC : Type := UB × Counters
abbrev UU : Type := UR sig nD τ × UC

local notation "𝕄" => MT nD τ sig Unit (Elt F) ℕ UU ℕ

abbrev EP : Emb (UR sig nD τ) (MT nD τ sig Unit (Elt F) ℕ UU ℕ) := embL
/-- The embedding of the protocol's part. -/
def ER : Emb UB (MT nD τ sig Unit (Elt F) ℕ UU ℕ) :=
  (Emb.inl : Emb UB UC).trans (embR : Emb UC (MT nD τ sig Unit (Elt F) ℕ UU ℕ))

instance ER_lands : (ER (F := F)).LandsIn (upEmb : UEmb _ 𝕄) := by unfold ER; infer_instance

variable (m : (ℓ : Loc nD τ sig) → Buf (Elt F) ℓ) (ρ : Dev nD → PrngReg)

/-- The memory at launch. -/
def s₀ : MemSt nD τ sig (Elt F) := ⟨m, fun _ => 0, ρ⟩

abbrev 𝒱₀ : Variants := Variants.none

/-! ## The cells -/

/-- The protocol's cells on a device: the barrier, and the exchanges' send (`false`) and receive (`true`) cells. -/
abbrev CI : Type := Option (Bool × Fin 10)

def csem : CI → SemLoc sig
  | none => .reg barS
  | some (false, k) => .dma (xSend k)
  | some (true, k) => .dma (xRecv k)

def allCI : List CI :=
  none :: ((List.finRange 10).map fun k => some (false, k)) ++ ((List.finRange 10).map fun k => some (true, k))

theorem mem_allCI : ∀ i : CI, i ∈ allCI := by decide
theorem nodup_allCI : allCI.Nodup := by decide

/-- Which of the protocol's cells a semaphore is. -/
def dec (sm : SemLoc sig) : Option CI := allCI.find? fun i => csem i = sm

theorem dec_csem : ∀ i : CI, dec (csem i) = some i := by decide +kernel
theorem csem_inj {i j : CI} (h : csem i = csem j) : i = j := by
  have := congrArg dec h
  rw [dec_csem, dec_csem] at this
  exact Option.some.inj this

theorem dec_bar : dec (.reg barS) = some none := dec_csem none
theorem dec_send (k : Fin 10) : dec (.dma (xSend k)) = some (some (false, k)) := dec_csem (some (false, k))
theorem dec_recv (k : Fin 10) : dec (.dma (xRecv k)) = some (some (true, k)) := dec_csem (some (true, k))
theorem dec_kv : ∀ (p : Fin 4) (j : Fin 2), dec (.dma (kvSem p j)) = none := by decide +kernel

abbrev kcell (c : Dev nD) (i : CI) : GSem nD τ sig := ((c : Thread nD τ), csem i)
abbrev barCell (c : Dev nD) : GSem nD τ sig := ((c : Thread nD τ), .reg barS)
abbrev sendCell (c : Dev nD) (k : Fin 10) : GSem nD τ sig := ((c : Thread nD τ), .dma (xSend k))
abbrev recvCell (c : Dev nD) (k : Fin 10) : GSem nD τ sig := ((c : Thread nD τ), .dma (xRecv k))

/-- The partner of exchange `k`. -/
abbrev xp (c : Dev nD) (k : Fin 10) : Dev nD := par (xDim k) c
theorem xp_xp (c : Dev nD) (k : Fin 10) : xp (xp c k) k = c := par_par _ _

/-- The credit exchange `k` moves. -/
def xN (k : Fin 10) : ℕ := (xDst ⟨0, by decide⟩ k).view.dmaCredit
theorem xN_pos (k : Fin 10) : 0 < xN k := by fin_cases k <;> exact View.dmaCredit_pos _ (by decide)
theorem xN_dst (c : Dev nD) : (k : Fin 10) → (xDst c k).view.dmaCredit = xN k
  | 0 => rfl | 1 => rfl | 2 => rfl | 3 => rfl | 4 => rfl | 5 => rfl | 6 => rfl | 7 => rfl | 8 => rfl | 9 => rfl
theorem xN_src (c : Dev nD) : (k : Fin 10) → (xSrc c k).view.dmaCredit = xN k
  | 0 => rfl | 1 => rfl | 2 => rfl | 3 => rfl | 4 => rfl | 5 => rfl | 6 => rfl | 7 => rfl | 8 => rfl | 9 => rfl

/-! ## The payloads -/

def srcPts (c : Dev nD) (k : Fin 10) (f : Buf (Elt F) ((xSrc c k).view.loc (c : Thread nD τ))) : sProp 𝕄 :=
  (xSrc c k).view.loc (c : Thread nD τ) ↦[(xSrc c k).view.set]{fullShare} f
/-- The landing region of `c`'s exchange `k` on `d`. -/
def dstPts (c d : Dev nD) (k : Fin 10) (f : Buf (Elt F) ((xDst c k).view.loc (d : Thread nD τ))) : sProp 𝕄 :=
  (xDst c k).view.loc (d : Thread nD τ) ↦[(xDst c k).view.set]{fullShare} f

def sendPay (c : Dev nD) (k : Fin 10) : sProp 𝕄 := srcPts c k (srcC m c k)
def recvPay (d : Dev nD) (k : Fin 10) : sProp 𝕄 := dstPts (xp d k) d k (dstC m (xp d k) d k)
/-- What `c` needs of `d` for its exchange `k`. -/
def landPay (c d : Dev nD) (k : Fin 10) : sProp 𝕄 := iprop((∃ f, dstPts (F := F) c d k f) ∗ reached ER (recvCell d k) 0)
/-- What the partner `d` in dimension `r` hands `c` at the barrier. -/
def barPay (c d : Dev nD) (r : Fin 3) : sProp 𝕄 :=
  match r with
  | 0 => iprop(landPay c d 0 ∗ landPay c d 5 ∗ landPay c d 8)
  | 1 => iprop(landPay c d 1 ∗ landPay c d 2 ∗ landPay c d 6 ∗ landPay c d 9)
  | 2 => iprop(landPay c d 3 ∗ landPay c d 4 ∗ landPay c d 7)

omit [FloatOps F] in
instance srcPts_storable (c : Dev nD) (k : Fin 10) (f) : BI.Storable (upEmb : UEmb _ 𝕄) (srcPts (F := F) c k f) := by unfold srcPts; infer_instance
omit [FloatOps F] in
instance dstPts_storable (c d : Dev nD) (k : Fin 10) (f) : BI.Storable (upEmb : UEmb _ 𝕄) (dstPts (F := F) c d k f) := by unfold dstPts; infer_instance
instance sendPay_storable (c : Dev nD) (k : Fin 10) : BI.Storable (upEmb : UEmb _ 𝕄) (sendPay m c k) := by unfold sendPay; infer_instance
instance recvPay_storable (c : Dev nD) (k : Fin 10) : BI.Storable (upEmb : UEmb _ 𝕄) (recvPay m c k) := by unfold recvPay; infer_instance
omit [FloatOps F] in
instance landPay_storable (c d : Dev nD) (k : Fin 10) : BI.Storable (upEmb : UEmb _ 𝕄) (landPay (F := F) c d k) := by unfold landPay; infer_instance
omit [FloatOps F] in
instance barPay_storable (c d : Dev nD) (r : Fin 3) : BI.Storable (upEmb : UEmb _ 𝕄) (barPay (F := F) c d r) := by
  match r with
  | 0 => unfold barPay; infer_instance
  | 1 => unfold barPay; infer_instance
  | 2 => unfold barPay; infer_instance

/-! ## The schedule -/

def payOf (c : Dev nD) (i : Option CI) (d : Fin 3) : sProp 𝕄 :=
  match i with
  | none => iprop(emp)
  | some none => barPay c (par d c) d
  | some (some (false, k)) => sendPay m c k
  | some (some (true, k)) => recvPay m c k

instance payOf_storable (c : Dev nD) (i : Option CI) (d : Fin 3) : BI.Storable (upEmb : UEmb _ 𝕄) (payOf m c i d) := by
  match i with
  | none => unfold payOf; infer_instance
  | some none => unfold payOf; infer_instance
  | some (some (false, k)) => unfold payOf; infer_instance
  | some (some (true, k)) => unfold payOf; infer_instance

def amtOf (i : Option CI) : ℕ :=
  match i with
  | some (some (_, k)) => xN k
  | _ => 1

def dutOf (i : Option CI) : Finset (Fin 3) :=
  match i with
  | none => ∅
  | some none => Finset.univ
  | some (some _) => {0}

/-- One round. -/
def Rd : Rounds.Schedule (GSem nD τ sig) (Fin 3) 𝕄 where
  duties g r := if r = 0 ∧ g.1.2 = .tc then dutOf (dec g.2) else ∅
  unitless _ := False
  amount g _ _ := amtOf (dec g.2)
  payload g _ d := payOf m g.1.1 (dec g.2) d
  amount_pos g _ _ _ := by
    unfold amtOf
    split
    · exact xN_pos _
    · exact Nat.one_pos

instance Rd_payload_storable (g : GSem nD τ sig) (r : ℕ) (d : Fin 3) :
    BI.Storable (upEmb : UEmb _ 𝕄) ((Rd m).payload g r d) := payOf_storable m _ _ _

theorem duties_cell (c : Dev nD) (i : CI) : (Rd m).duties (kcell c i) 0 = dutOf (some i) := by
  dsimp only [Rd]
  rw [if_pos ⟨rfl, rfl⟩, dec_csem]
theorem duties_later (g : GSem nD τ sig) : ∀ r, 1 ≤ r → (Rd m).duties g r = ∅ := fun r hr => if_neg fun h => by omega
theorem amount_cell (c : Dev nD) (i : CI) (r : ℕ) (d : Fin 3) : (Rd m).amount (kcell c i) r d = amtOf (some i) := by
  show amtOf (dec (csem i)) = _
  rw [dec_csem]
theorem payload_cell (c : Dev nD) (i : CI) (r : ℕ) (d : Fin 3) : (Rd m).payload (kcell c i) r d = payOf m c (some i) d := by
  show payOf m c (dec (csem i)) d = _
  rw [dec_csem]

theorem expect_bar (c : Dev nD) : (Rd m).expect (barCell c) 0 = 3 := by
  unfold Schedule.expect Schedule.amountOf
  rw [show (Rd m).duties (barCell c) 0 = Finset.univ from duties_cell m c none,
    Finset.sum_congr rfl fun d _ => show (Rd m).amount (barCell c) 0 d = 1 from amount_cell m c none 0 d]
  rfl
theorem expect_x (c : Dev nD) (b : Bool) (k : Fin 10) : (Rd m).expect (kcell c (some (b, k))) 0 = xN k := by
  unfold Schedule.expect Schedule.amountOf
  rw [show (Rd m).duties (kcell c (some (b, k))) 0 = {0} from duties_cell m c _, Finset.sum_singleton, amount_cell]
  rfl

theorem rest_bar (c : Dev nD) : bigSep ((Rd m).duties (barCell c) 0 \ ∅) (fun d => (Rd m).payload (barCell c) 0 d)
    = iprop(barPay c (par 0 c) 0 ∗ barPay c (par 1 c) 1 ∗ barPay c (par 2 c) 2) := by
  rw [Finset.sdiff_empty, show (Rd m).duties (barCell c) 0 = Finset.univ from duties_cell m c none,
    bigSep_univ_eq_bigSepL [0, 1, 2] (by decide) (by decide), bigSepL_cons_cons, bigSepL_cons_cons, bigSepL_singleton]
  simp only [show ∀ d, (Rd m).payload (barCell c) 0 d = barPay c (par d c) d from fun d => payload_cell m c none 0 d]
  rfl
theorem rest_x (c : Dev nD) (b : Bool) (k : Fin 10) :
    bigSep ((Rd m).duties (kcell c (some (b, k))) 0 \ ∅) (fun d => (Rd m).payload (kcell c (some (b, k))) 0 d)
      = payOf m c (some (some (b, k))) 0 := by
  rw [Finset.sdiff_empty, show (Rd m).duties (kcell c (some (b, k))) 0 = {0} from duties_cell m c _, bigSep_singleton, payload_cell]

/-! ## What a device owes; the levels -/

/-- Exchange `k`'s credit to the partner's receive cell. -/
def TX (c : Dev nD) (k : Fin 10) : CellTallies nD τ sig Unit := tallyAt (recvCell (xp c k) k) () (xN k)
/-- The unit to the barrier cell of the partner in dimension `r`. -/
def TB (c : Dev nD) (r : Fin 3) : CellTallies nD τ sig Unit := tallyAt (barCell (par r c)) () 1

/-- What is owed while the last `i` exchanges are still to be sent. -/
def OR (c : Dev nD) : ℕ → CellTallies nD τ sig Unit
  | 0 => 0
  | i + 1 => OR c i + TX c ⟨9 - i, by omega⟩

/-- What is owed at the start. -/
def O₀ (c : Dev nD) : CellTallies nD τ sig Unit := OR c 10 + TB c 2 + TB c 1 + TB c 0

def L (g : GSem nD τ sig) : Finset Unit := if g.1.2 = .tc then {()} else ∅
/-- The level of a semaphore: the barrier below the receive cells, these by steps, everything else at the bottom. -/
def lvs (sm : SemLoc sig) : ℕ :=
  match dec sm with
  | some none => 1
  | some (some (true, k)) => 2 + k.val / 2
  | _ => 0
def lv (g : GSem nD τ sig) (_ : Unit) : ℕ := lvs g.2

theorem L_of_ne (g : GSem nD τ sig) (h : g.1.2 ≠ .tc) : L g = ∅ := if_neg h
theorem L_tc (c : Dev nD) (sm : SemLoc sig) : L ((c : Thread nD τ), sm) = {()} := if_pos rfl
theorem lvs_bar : lvs (.reg barS) = 1 := by unfold lvs; rw [dec_bar]
theorem lvs_send (k : Fin 10) : lvs (.dma (xSend k)) = 0 := by unfold lvs; rw [dec_send]
theorem lvs_recv (k : Fin 10) : lvs (.dma (xRecv k)) = 2 + k.val / 2 := by unfold lvs; rw [dec_recv]
theorem lvs_kv (p : Fin 4) (j : Fin 2) : lvs (.dma (kvSem p j)) = 0 := by unfold lvs; rw [dec_kv]

theorem tally_pos {g g' : GSem nD τ sig} {n : ℕ} {u : Unit} (h : 0 < (tallyAt g' () n : CellTallies nD τ sig Unit) g u) : g = g' := by
  rw [tallyAt_apply] at h
  by_contra hn
  rw [if_neg (fun h' => hn h'.1)] at h
  exact Nat.lt_irrefl 0 h

theorem OR_pos (c : Dev nD) : ∀ (i : ℕ) (hi : i ≤ 10) {g : GSem nD τ sig} {u : Unit}, 0 < OR c i g u →
    ∃ k : Fin 10, 10 ≤ i + k.val ∧ g = recvCell (xp c k) k
  | 0, _, g, u, h => absurd h (Nat.lt_irrefl 0)
  | i + 1, hi, g, u, h => by
    unfold OR at h
    rw [Pi.add_apply, Finsupp.add_apply] at h
    by_cases h0 : 0 < OR c i g u
    · obtain ⟨k, hk, hg⟩ := OR_pos c i (by omega) h0
      exact ⟨k, by omega, hg⟩
    · refine ⟨⟨9 - i, by omega⟩, by show 10 ≤ i + 1 + (9 - i); omega, tally_pos (n := xN ⟨9 - i, by omega⟩) (u := u) ?_⟩
      have : OR c i g u = 0 := by omega
      rw [this, Nat.zero_add] at h
      exact h

theorem O₀_pos {c : Dev nD} {g : GSem nD τ sig} {u : Unit} (h : 0 < O₀ c g u) : g.1.2 = .tc ∧ 0 < lvs g.2 := by
  unfold O₀ at h
  rw [Pi.add_apply, Finsupp.add_apply, Pi.add_apply, Finsupp.add_apply, Pi.add_apply, Finsupp.add_apply] at h
  have hb : ∀ r, 0 < TB c r g u → g.1.2 = .tc ∧ 0 < lvs g.2 := fun r hr => by
    rw [tally_pos hr]; exact ⟨rfl, by rw [lvs_bar]; decide⟩
  by_cases h0 : 0 < TB c 0 g u
  · exact hb 0 h0
  by_cases h1 : 0 < TB c 1 g u
  · exact hb 1 h1
  by_cases h2 : 0 < TB c 2 g u
  · exact hb 2 h2
  obtain ⟨k, -, rfl⟩ := OR_pos c 10 le_rfl (g := g) (u := u) (by omega)
  exact ⟨rfl, by show 0 < lvs (.dma (xRecv k)); rw [lvs_recv]; omega⟩

/-- A wait below every exchange still to be sent. -/
theorem mayWait_OR (c : Dev nD) (i : ℕ) (hi : i ≤ 10) (sm : SemLoc sig) (h : ∀ k : Fin 10, 10 ≤ i + k.val → lvs sm < 2 + k.val / 2) :
    (levAts L lv : sProp 𝕄) ⊢ MayWait (c : Thread nD τ) sm () (OR c i) :=
  MayOwe.of_cut (L := L) (lev := lv) (lvs sm) (fun p hp => by rw [Finset.mem_singleton.mp hp, L_tc]; exact Finset.mem_singleton_self _)
    (fun g u hg => by obtain ⟨k, -, rfl⟩ := OR_pos c i hi hg; exact Finset.mem_singleton_self _)
    (fun p hp => by rw [Finset.mem_singleton.mp hp]; exact le_rfl)
    (fun g u hg => by
      obtain ⟨k, hk, rfl⟩ := OR_pos c i hi hg
      show lvs sm < lvs (.dma (xRecv k))
      rw [lvs_recv]; exact h k hk)

/-- A wait on a staging semaphore. -/
theorem mayWait_stage (c : Dev nD) (sm : SemLoc sig) (hs : lvs sm = 0) (O : CellTallies nD τ sig Unit) (hO : O = O₀ c ∨ O = 0) :
    (levAts L lv : sProp 𝕄) ⊢ MayWait (c : Thread nD τ) sm () O := by
  rcases hO with rfl | rfl
  · exact MayOwe.of_cut (L := L) (lev := lv) 0 (fun p hp => by rw [Finset.mem_singleton.mp hp, L_tc]; exact Finset.mem_singleton_self _)
      (fun g u hg => by unfold L; rw [if_pos (O₀_pos hg).1]; exact Finset.mem_singleton_self _)
      (fun p hp => by rw [Finset.mem_singleton.mp hp]; exact hs.le)
      (fun g u hg => (O₀_pos hg).2)
  · rw [MayWait_zero]; iintro -; iempintro

end Cert.KernelIdeal.Hand
-- ==== Proof.Comm.lean ====
/-
The handshake, the sends and the waits of the exchanges, each as one step from what a device holds before it to what it
holds after.
-/
module

public import proofs.«01_k».proof.Proof.Sched

@[expose] public section

noncomputable section

namespace Cert.KernelIdeal.Hand

open Cert.KernelIdeal Cert.KernelIdeal.Gen Cert.Rows
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- A device's core runs `p` and ends as `Q` says. -/
abbrev WP (c : Dev nD) (p : PR F PUnit) (Q : PUnit → sProp 𝕄) : sProp 𝕄 :=
  wp frame (wpE (defs₀ (F := F)) 𝒱₀ (c : Thread nD τ) none) Set.univ p Q

/-- A device owes `O`, whatever it has waited for. -/
def owesX (c : Dev nD) (O : CellTallies nD τ sig Unit) : sProp 𝕄 := iprop(∃ W, owes (c : Thread nD τ) O W)

/-- The protocol's invariants and marks, of every cell. -/
def recs (K : Dev nD × CI → ℕ) : sProp 𝕄 :=
  bigSep Finset.univ fun ci : Dev nD × CI => iprop(cellInv ER (Rd m) (K ci) (kcell ci.1 ci.2) ∗ reached ER (kcell ci.1 ci.2) 0)

instance recs_persistent (K : Dev nD × CI → ℕ) : BI.Persistent (recs m K) := by unfold recs; infer_instance

theorem recs_at (K : Dev nD × CI → ℕ) (c : Dev nD) (i : CI) :
    recs m K ⊢ iprop(cellInv ER (Rd m) (K (c, i)) (kcell c i) ∗ reached ER (kcell c i) 0) :=
  bigSep_elim (Finset.mem_univ (c, i))

/-! ## The handshake -/

theorem wp_sig (K : Dev nD × CI → ℕ) (c : Dev nD) (r : Fin 3) (O O' : CellTallies nD τ sig Unit) (hO : O' = O + TB c r)
    {k : PR F PUnit} {Q : PUnit → sProp 𝕄} :
    iprop(recs m K ∗ owesX c O' ∗ dutyTok ER (barCell (par r c)) 0 r ∗ barPay (par r c) c r)
      ⊢ iprop((owesX c O -∗ WP c k Q) -∗ WP c (.op (.semSignal (hDev c r, .tc) barS (1#32 : BitVec 32).toInt) fun _ => k) Q) := by
  unfold owesX
  rw [hDev_eq]
  iintro ⟨#HR, ⟨%W, HO⟩, Ht, Hp⟩ Hk
  ihave H := (recs_at m K (par r c) none) $$ HR
  icases H with ⟨#HI, #Hr⟩
  iapply (Rounds.wp_signal 𝒱₀ ER (Rd m) (c : Thread nD τ) none (dst := (par r c : Thread nD τ)) (κ := K (par r c, none))
      (d := r) (by rw [show (Rd m).duties (barCell (par r c)) 0 = Finset.univ from duties_cell m (par r c) none]; exact Finset.mem_univ _)
      ((amount_cell m (par r c) none 0 r).trans (by decide)) () O hO) $$ [HO Ht Hp]
  · isplitr; · iexact HI
    isplitl [HO]; · iexact HO
    isplitl [Ht]; · iexact Ht
    isplitl [Hp]
    · rw [show (Rd m).payload (barCell (par r c)) 0 r = barPay (par r c) (par r (par r c)) r from payload_cell m (par r c) none 0 r, par_par]
      iexact Hp
    · iexact Hr
  iintro HO
  iapply Hk
  iexists W
  iexact HO

theorem wp_hand (K : Dev nD × CI → ℕ) (c : Dev nD) {k : PR F PUnit} {Q : PUnit → sProp 𝕄} :
    iprop(recs m K ∗ levAts L lv ∗ owesX c (O₀ c)
        ∗ (dutyTok ER (barCell (par 0 c)) 0 0 ∗ dutyTok ER (barCell (par 1 c)) 0 1 ∗ dutyTok ER (barCell (par 2 c)) 0 2)
        ∗ (barPay (par 0 c) c 0 ∗ barPay (par 1 c) c 1 ∗ barPay (par 2 c) c 2)
        ∗ cred (tallyAt (barCell c) () 3) ∗ atPos ER (barCell c) 0 ∅ 0)
      ⊢ iprop(((semVal (barCell c) 0 ∗ owesX c (OR c 10) ∗ barPay c (par 0 c) 0 ∗ barPay c (par 1 c) 1 ∗ barPay c (par 2 c) 2) -∗ WP c k Q)
          -∗ WP c (handU c k) Q) := by
  unfold handU
  iintro ⟨#HR, #Hlev, HO, ⟨Ht0, Ht1, Ht2⟩, ⟨Hp0, Hp1, Hp2⟩, Hc, Hat⟩ Hk
  iapply (wp_sig m K c 0 (OR c 10 + TB c 2 + TB c 1) (O₀ c) rfl) $$ [HO Ht0 Hp0]
  · isplitr; · iexact HR
    isplitl [HO]; · iexact HO
    isplitl [Ht0]; · iexact Ht0
    iexact Hp0
  iintro HO
  iapply (wp_sig m K c 1 (OR c 10 + TB c 2) _ rfl) $$ [HO Ht1 Hp1]
  · isplitr; · iexact HR
    isplitl [HO]; · iexact HO
    isplitl [Ht1]; · iexact Ht1
    iexact Hp1
  iintro HO
  iapply (wp_sig m K c 2 (OR c 10) _ rfl) $$ [HO Ht2 Hp2]
  · isplitr; · iexact HR
    isplitl [HO]; · iexact HO
    isplitl [Ht2]; · iexact Ht2
    iexact Hp2
  iintro HO
  unfold owesX
  icases HO with ⟨%W, HO⟩
  ihave H := (recs_at m K c none) $$ HR
  icases H with ⟨#HI, #Hr⟩
  iapply (Rounds.wp_wait_rest_token 𝒱₀ ER (Rd m) (c : Thread nD τ) none (κ := K (c, none))
      (wpE_semWait_eq 𝒱₀ (c : Thread nD τ) none Set.univ) (Set.mem_univ _) () (O := OR c 10) (W := W) (R := 0) (m := 0) (T := ∅)
      (by rw [expect_bar]; decide)) $$ [Hc HO Hat]
  · isplitr; · iexact HI
    isplitl [Hc]; · iexact Hc
    isplitl [HO]; · iexact HO
    isplitr
    · iapply (mayWait_OR c 10 le_rfl (.reg barS) (fun k _ => by rw [lvs_bar]; omega)); iexact Hlev
    iexact Hat
  iintro ⟨HO, Hat, -, Hpay⟩
  ihave Hp := (Entails.of_eq (rest_bar m c)) $$ Hpay
  imod (Rounds.cell_close ER (Rd m) (Set.mem_univ (K (c, none))) (fun h => h) (R := 0 + 1) (duties_later m (barCell c))) $$ [Hat] with Hz
  · isplitr; · iexact HI
    iexact Hat
  iapply Hk
  isplitl [Hz]; · iexact Hz
  isplitl [HO]
  · iexists (insert (SemLoc.reg barS, ()) W); iexact HO
  iexact Hp

/-! ## A send -/

theorem recvPay_from (c : Dev nD) (k : Fin 10) : recvPay m (xp c k) k = dstPts c (xp c k) k (dstC m c (xp c k) k) :=
  congrArg (fun s => dstPts (F := F) s (xp c k) k (dstC m s (xp c k) k)) (xp_xp c k)

theorem landed (c : Dev nD) (k : Fin 10) (fn : Buf (Elt F) ((xDst c k).view.loc (xp c k : Thread nD τ))) :
    dstPts c (xp c k) k ((xDst c k).view.write (Elt F) fn ((xSrc c k).view.read (Elt F) (srcC m c k)) Finset.univ) ⊢ recvPay m (xp c k) k := by
  rw [recvPay_from]
  unfold dstPts
  exact Entails.of_eq (pointsTo_congr fun i hi => write_eq_of_read _ _ _ (src_read m c k) hi)

theorem wp_send0 (K : Dev nD × CI → ℕ) (c n : Dev nD) (k : Fin 10) (hn : n = xp c k) (O O' : CellTallies nD τ sig Unit) (hO : O' = O + TX c k)
    {p : PR F PUnit} {Q : PUnit → sProp 𝕄} :
    iprop(recs m K ∗ owesX c O' ∗ sendPay m c k ∗ (∃ f, dstPts c (xp c k) k f)
        ∗ dutyTok ER (sendCell c k) 0 0 ∗ dutyTok ER (recvCell (xp c k) k) 0 0)
      ⊢ iprop(((cred (tallyAt (sendCell c k) () (xN k)) ∗ owesX c O) -∗ WP c p Q)
          -∗ WP c (.op (.enqueueDma (xSrc c k) (.remote (Dev.tc n) (xDst c k) (.dma (xSend k))) (.dma (xRecv k))
              (xSrc_exact c k) (xDst_exact c k) ⟨⟨rfl, Or.inl rfl⟩, trivial⟩) fun _ => p) Q) := by
  subst hn
  unfold owesX
  iintro ⟨#HR, ⟨%W, HO⟩, Hs, ⟨%fn, Hd⟩, Ht1, Ht2⟩ Hk
  ihave H := (recs_at m K c (some (false, k))) $$ HR
  icases H with ⟨#HI, #Hr⟩
  ihave H2 := (recs_at m K (xp c k) (some (true, k))) $$ HR
  icases H2 with ⟨#HI2, #Hr2⟩
  unfold sendPay srcPts dstPts
  iapply (Rounds.wp_send_pointsTo 𝒱₀ ER (Rd m) (c : Thread nD τ) none (κ₁ := K (c, some (false, k))) (κ₂ := K (xp c k, some (true, k)))
    (r₁ := 0) (r₂ := 0) (d₁ := 0) (d₂ := 0) (fs := srcC m c k) (fd := fn)
    (by rw [duties_cell]; exact Finset.mem_singleton_self _)
    (by rw [show (Rd m).duties ((xp c k : Thread nD τ), SemLoc.dma (xRecv k)) 0 = {0} from duties_cell m (xp c k) (some (true, k))]; exact Finset.mem_singleton_self _)
    () () (xN k) (show (xDst c k).view.amount (.dma (xRecv k)) = xN k from xN_dst c k) (amount_cell m c (some (false, k)) 0 0) (amount_cell m (xp c k) (some (true, k)) 0 0) O hO (W := W)
    (by rw [payload_cell]; exact BI.Entails.refl (sendPay m c k))
    (by
      rw [show (Rd m).payload ((xp c k : Thread nD τ), SemLoc.dma (xRecv k)) 0 0 = recvPay m (xp c k) k from payload_cell m (xp c k) (some (true, k)) 0 0]
      exact landed m c k fn)) $$ [Hs Hd HO Ht1 Ht2]
  · isplitr; · iexact HI
    isplitr; · iexact HI2
    isplitl [Hs]; · iexact Hs
    isplitl [Hd]; · iexact Hd
    isplitl [HO]; · iexact HO
    isplitl [Ht1]; · iexact Ht1
    isplitr; · iexact Hr
    isplitl [Ht2]; · iexact Ht2
    iexact Hr2
  iintro ⟨Hc, HO⟩
  iapply Hk
  isplitl [Hc]; · iexact Hc
  iexists W; iexact HO

/-- What a device holds for its exchange `k` before it sends. -/
def ready (c : Dev nD) (k : Fin 10) : sProp 𝕄 :=
  iprop((∃ f, dstPts (F := F) c (xp c k) k f) ∗ dutyTok ER (sendCell c k) 0 0 ∗ dutyTok ER (recvCell (xp c k) k) 0 0
    ∗ atPos ER (sendCell c k) 0 ∅ 0 ∗ atPos ER (recvCell c k) 0 ∅ 0 ∗ cred (tallyAt (recvCell c k) () (xN k)))
/-- What it holds for it between the send and the waits. -/
def sent (c : Dev nD) (k : Fin 10) : sProp 𝕄 :=
  iprop(cred (tallyAt (sendCell c k) () (xN k))
    ∗ atPos ER (sendCell c k) 0 ∅ 0 ∗ atPos ER (recvCell c k) 0 ∅ 0 ∗ cred (tallyAt (recvCell c k) () (xN k)))

theorem wp_send (K : Dev nD × CI → ℕ) (c : Dev nD) (k : Fin 10) (i : ℕ) (hi : i + k.val = 9)
    {p : PR F PUnit} {Q : PUnit → sProp 𝕄} :
    iprop(recs m K ∗ owesX c (OR c (i + 1)) ∗ sendPay m c k ∗ ready c k)
      ⊢ iprop(((sent c k ∗ owesX c (OR c i)) -∗ WP c p Q) -∗ WP c (sendU c k p) Q) := by
  have hk : (⟨9 - i, by omega⟩ : Fin 10) = k := Fin.ext (by show 9 - i = k.val; omega)
  unfold ready sent sendU
  iintro ⟨#HR, HO, Hs, Hd, Ht1, Ht2, Ha1, Ha2, Hc2⟩ Hk
  iapply (wp_send0 m K c (xDev c k) k (xDev_eq c k) (OR c i) (OR c (i + 1)) (by rw [← hk]; rfl)) $$ [HO Hs Hd Ht1 Ht2]
  · isplitr; · iexact HR
    isplitl [HO]; · iexact HO
    isplitl [Hs]; · iexact Hs
    isplitl [Hd]; · iexact Hd
    isplitl [Ht1]; · iexact Ht1
    iexact Ht2
  iintro ⟨Hc, HO⟩
  iapply Hk
  isplitr [HO]
  · isplitl [Hc]; · iexact Hc
    isplitl [Ha1]; · iexact Ha1
    isplitl [Ha2]; · iexact Ha2
    iexact Hc2
  iexact HO

/-! ## A wait -/

/-- One wait on a cell of an exchange. -/
theorem wp_wait1 (K : Dev nD × CI → ℕ) (c : Dev nD) (b : Bool) (k : Fin 10) (q : DmaSem sig) (hq : csem (some (b, k)) = .dma q)
    (i : ℕ) (hi : i ≤ 10) (hl : ∀ k' : Fin 10, 10 ≤ i + k'.val → lvs (csem (some (b, k))) < 2 + k'.val / 2)
    {sp sp' : Space} {s s' : Shape} {e e' : EltTy} (a : Memref sig .tc sp' s' e') (d : Memref sig .tc sp s e) (ha : a.view.WordExact) (hd : d.view.WordExact)
    (hN : d.view.dmaCredit = xN k) {p : PR F PUnit} {Q : PUnit → sProp 𝕄} :
    iprop(recs m K ∗ levAts L lv ∗ owesX c (OR c i) ∗ cred (tallyAt (kcell c (some (b, k))) () (xN k)) ∗ atPos ER (kcell c (some (b, k))) 0 ∅ 0)
      ⊢ iprop(((payOf m c (some (some (b, k))) 0 ∗ semVal (kcell c (some (b, k))) 0 ∗ owesX c (OR c i)) -∗ WP c p Q)
          -∗ WP c (.op (.waitDma2 q a d ha hd) fun _ => p) Q) := by
  unfold owesX
  iintro ⟨#HR, #Hlev, ⟨%W, HO⟩, Hc, Ha⟩ Hk
  ihave H := (recs_at m K c (some (b, k))) $$ HR
  icases H with ⟨#HI, #Hr⟩
  have hexp := expect_x m c b k
  have hrest := rest_x m c b k
  have hmw := mayWait_OR (F := F) c i hi _ hl
  have hlat := duties_later m (kcell c (some (b, k)))
  unfold kcell at *
  rw [hq] at *
  iapply (Rounds.wp_wait_rest_token 𝒱₀ ER (Rd m) (c : Thread nD τ) none (κ := K (c, some (b, k)))
      (wpE_waitDma2_eq 𝒱₀ (c : Thread nD τ) none Set.univ) (Set.mem_univ _) () (O := OR c i) (W := W) (R := 0) (m := 0) (T := ∅)
      (by rw [Nat.zero_add, hexp, hN])) $$ [Hc HO Ha]
  · isplitr; · iexact HI
    isplitl [Hc]; · rw [hN]; iexact Hc
    isplitl [HO]; · iexact HO
    isplitr; · iapply hmw; iexact Hlev
    iexact Ha
  iintro ⟨HO, Ha, -, Hpay⟩
  ihave Hp := (Entails.of_eq hrest) $$ Hpay
  imod (Rounds.cell_close ER (Rd m) (Set.mem_univ (K (c, some (b, k)))) (fun h => h) (R := 0 + 1) hlat) $$ [Ha] with Hz
  · isplitr; · iexact HI
    iexact Ha
  iapply Hk
  isplitl [Hp]; · iexact Hp
  isplitl [Hz]; · iexact Hz
  iexists (insert (SemLoc.dma q, ()) W); iexact HO

theorem wp_wait (K : Dev nD × CI → ℕ) (c : Dev nD) (k : Fin 10) (i : ℕ) (hi : i ≤ 10) (hl : ∀ k' : Fin 10, 10 ≤ i + k'.val → k.val / 2 < k'.val / 2)
    {p : PR F PUnit} {Q : PUnit → sProp 𝕄} :
    iprop(recs m K ∗ levAts L lv ∗ owesX c (OR c i) ∗ sent c k)
      ⊢ iprop(((sendPay m c k ∗ recvPay m c k ∗ semVal (sendCell c k) 0 ∗ semVal (recvCell c k) 0 ∗ owesX c (OR c i)) -∗ WP c p Q)
          -∗ WP c (waitU c k p) Q) := by
  unfold sent waitU
  iintro ⟨#HR, #Hlev, HO, Hc1, Ha1, Ha2, Hc2⟩ Hk
  iapply (wp_wait1 m K c false k (xSend k) rfl i hi (fun k' _ => by show lvs (.dma (xSend k)) < _; rw [lvs_send]; omega)
    (xDst c k) (xSrc c k) (xDst_exact c k) (xSrc_exact c k) (xN_src c k)) $$ [HO Hc1 Ha1]
  · isplitr; · iexact HR
    isplitr; · iexact Hlev
    isplitl [HO]; · iexact HO
    isplitl [Hc1]; · iexact Hc1
    iexact Ha1
  iintro ⟨Hp1, Hz1, HO⟩
  iapply (wp_wait1 m K c true k (xRecv k) rfl i hi (fun k' h => by show lvs (.dma (xRecv k)) < _; rw [lvs_recv]; have := hl k' h; omega)
    (xSrc c k) (xDst c k) (xSrc_exact c k) (xDst_exact c k) (xN_dst c k)) $$ [HO Hc2 Ha2]
  · isplitr; · iexact HR
    isplitr; · iexact Hlev
    isplitl [HO]; · iexact HO
    isplitl [Hc2]; · iexact Hc2
    iexact Ha2
  iintro ⟨Hp2, Hz2, HO⟩
  iapply Hk
  isplitl [Hp1]; · iapply (Entails.of_eq (show payOf m c (some (some (false, k))) 0 = sendPay m c k from rfl)); iexact Hp1
  isplitl [Hp2]; · iapply (Entails.of_eq (show payOf m c (some (some (true, k))) 0 = recvPay m c k from rfl)); iexact Hp2
  isplitl [Hz1]; · iexact Hz1
  isplitl [Hz2]; · iexact Hz2
  iexact HO

end Cert.KernelIdeal.Hand
-- ==== Proof.Local.lean ====
/-
The steps a device takes on its own buffers: the columns of ones, the queries, the rounded weights, a head's
attention, a place's projection, and the additions.
-/
module

public import proofs.«01_k».proof.Proof.Comm

@[expose] public section

noncomputable section

namespace Cert.KernelIdeal.Hand

open Cert.KernelIdeal Cert.KernelIdeal.Gen Cert.Rows
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- A device holds the elements `S` of the buffer of `M`, with contents `f`. -/
abbrev pm {sp : Space} {s : Shape} {e : EltTy} (c : Dev nD) (M : Memref sig .tc sp s e) (S : Finset (Idx (M.view.loc (c : Thread nD τ))))
    (f : Buf (Elt F) (M.view.loc (c : Thread nD τ))) : sProp 𝕄 :=
  M.view.loc (c : Thread nD τ) ↦[S]{fullShare} f

theorem bigSep8 (J : Fin 8 → sProp 𝕄) :
    bigSep Finset.univ J = iprop(J 0 ∗ J 1 ∗ J 2 ∗ J 3 ∗ J 4 ∗ J 5 ∗ J 6 ∗ J 7) := by
  rw [bigSep_univ_eq_bigSepL [0, 1, 2, 3, 4, 5, 6, 7] (by decide) (by decide)]
  simp only [bigSepL_cons_cons, bigSepL_singleton]
  rfl

/-- Eight steps, from one to the next. -/
theorem wp_seq8 (c : Dev nD) (f : Fin 8 → PR F PUnit → PR F PUnit) (I : ℕ → sProp 𝕄) (J : Fin 8 → sProp 𝕄) {Q : PUnit → sProp 𝕄}
    (step : ∀ (h : Fin 8) (k : PR F PUnit), iprop(I h.val ∗ J h) ⊢ iprop((I (h.val + 1) -∗ WP c k Q) -∗ WP c (f h k) Q)) (k : PR F PUnit) :
    iprop(I 0 ∗ bigSep Finset.univ J) ⊢ iprop((I 8 -∗ WP c k Q) -∗ WP c (seq8 f k) Q) := by
  unfold seq8
  rw [bigSep8]
  iintro ⟨HI, H0, H1, H2, H3, H4, H5, H6, H7⟩ Hk
  ihave HI := (Entails.of_eq (show I 0 = I (0 : Fin 8).val from rfl)) $$ HI
  iapply (step 0 _) $$ [HI H0]
  · isplitl [HI]; · iexact HI
    iexact H0
  iintro HI
  ihave HI := (Entails.of_eq (show I ((0 : Fin 8).val + 1) = I (1 : Fin 8).val from rfl)) $$ HI
  iapply (step 1 _) $$ [HI H1]
  · isplitl [HI]; · iexact HI
    iexact H1
  iintro HI
  ihave HI := (Entails.of_eq (show I ((1 : Fin 8).val + 1) = I (2 : Fin 8).val from rfl)) $$ HI
  iapply (step 2 _) $$ [HI H2]
  · isplitl [HI]; · iexact HI
    iexact H2
  iintro HI
  ihave HI := (Entails.of_eq (show I ((2 : Fin 8).val + 1) = I (3 : Fin 8).val from rfl)) $$ HI
  iapply (step 3 _) $$ [HI H3]
  · isplitl [HI]; · iexact HI
    iexact H3
  iintro HI
  ihave HI := (Entails.of_eq (show I ((3 : Fin 8).val + 1) = I (4 : Fin 8).val from rfl)) $$ HI
  iapply (step 4 _) $$ [HI H4]
  · isplitl [HI]; · iexact HI
    iexact H4
  iintro HI
  ihave HI := (Entails.of_eq (show I ((4 : Fin 8).val + 1) = I (5 : Fin 8).val from rfl)) $$ HI
  iapply (step 5 _) $$ [HI H5]
  · isplitl [HI]; · iexact HI
    iexact H5
  iintro HI
  ihave HI := (Entails.of_eq (show I ((5 : Fin 8).val + 1) = I (6 : Fin 8).val from rfl)) $$ HI
  iapply (step 6 _) $$ [HI H6]
  · isplitl [HI]; · iexact HI
    iexact H6
  iintro HI
  ihave HI := (Entails.of_eq (show I ((6 : Fin 8).val + 1) = I (7 : Fin 8).val from rfl)) $$ HI
  iapply (step 7 _) $$ [HI H7]
  · isplitl [HI]; · iexact HI
    iexact H7
  iintro HI
  iapply Hk
  iapply (Entails.of_eq (show I ((7 : Fin 8).val + 1) = I 8 from rfl)); iexact HI

/-- The same when no step takes anything of its own. -/
theorem wp_seq8' (c : Dev nD) (f : Fin 8 → PR F PUnit → PR F PUnit) (I : ℕ → sProp 𝕄) {Q : PUnit → sProp 𝕄}
    (step : ∀ (h : Fin 8) (k : PR F PUnit), I h.val ⊢ iprop((I (h.val + 1) -∗ WP c k Q) -∗ WP c (f h k) Q)) (k : PR F PUnit) :
    I 0 ⊢ iprop((I 8 -∗ WP c k Q) -∗ WP c (seq8 f k) Q) := by
  iintro HI Hk
  iapply (wp_seq8 c f I (fun _ => iprop(emp)) (fun h k => by
    iintro ⟨HI, -⟩ Hk
    iapply (step h k) $$ HI
    iexact Hk) k) $$ [HI]
  · isplitl [HI]; · iexact HI
    rw [bigSep8]
    (repeat' isplitr) <;> iempintro
  iexact Hk

/-- A store through a window whose value is what contents `g` show there: the window's elements hold `g`. -/
theorem store_eq {sp : Space} {s : Shape} {e : EltTy} (c : Dev nD) (v : View sig .tc sp s e) (f g : Buf (Elt F) (v.loc (c : Thread nD τ)))
    (w : s.Idx → Elt F e) (hw : w = v.read (Elt F) g) :
    (v.loc (c : Thread nD τ) ↦[v.set]{fullShare} v.write (Elt F) f w Finset.univ : sProp 𝕄) = v.loc (c : Thread nD τ) ↦[v.set]{fullShare} g :=
  pointsTo_congr fun i hi => write_eq_of_read f g w hw hi

theorem hz2 : (![0, 0] : Fin 2 → Nat) = fun _ => 0 := funext fun a => by fin_cases a <;> rfl

/-! ## The ones -/

abbrev onesR : Rect S2x8x1024x256 :=
  Rect.unit (s := S2x8x1024x256) ![0, 0, 0, 128] S2x8x1024x128.size inb_S2x8x1024x256_S2x8x1024x128_0_0_0_128

/-- The columns beside the values. -/
def vOnes : Finset S2x8x1024x256.Idx := (bVs.access onesR).set

theorem ones_read (c : Dev nD) (p : Fin 4) : onesVal (F := F) = (bVs.access onesR).read (Elt F) (vsC m c p) := by
  funext x
  show onesVal x = vsC m c p (onesR.emb x)
  have h3 : (onesR.emb x 3).val = 128 + (x 3).val := unit_emb_val _ _ 3
  unfold vsC
  rw [dif_neg (by omega)]
  refine congrArg (onesVal (F := F)) (ix4_ext ?_ ?_ ?_ ?_)
  · exact ((unit_emb_val _ _ 0).trans (Nat.zero_add _)).symm
  · exact ((unit_emb_val _ _ 1).trans (Nat.zero_add _)).symm
  · exact ((unit_emb_val _ _ 2).trans (Nat.zero_add _)).symm
  · show (x 3).val = (onesR.emb x 3).val - 128
    omega

theorem wp_ones (c : Dev nD) (p : Fin 4) (f) {k : PR F PUnit} {Q : PUnit → sProp 𝕄} :
    pm c bVs vOnes f ⊢ iprop((pm c bVs vOnes (vsC m c p) -∗ WP c k Q) -∗ WP c (onesU k) Q) := by
  unfold onesU vOnes
  iintro H Hk
  iapply (wp_load_rect 𝒱₀ (c : Thread nD τ) none Set.univ (m := bVs) (r := onesR) (S := (bVs.access onesR).set) (le_refl _)) $$ H; iintro H
  iapply (wp_store 𝒱₀ (c : Thread nD τ) none Set.univ (m := bVs) (r := onesR) (Mk := Finset.univ) (S := (bVs.access onesR).set)
    ((View.setOn_univ (bVs.access onesR)).subset)) $$ H; iintro H
  iapply Hk
  have hw : shapeCast S2x8x1024x128 (onesVal (F := F)) shapeCasts_S2x8x1024x128_S2x8x1024x128 = (bVs.access onesR).read (Elt F) (vsC m c p) :=
    (cast_self _ _).trans (ones_read m c p)
  ihave H := (Entails.of_eq (store_eq c (bVs.access onesR) f (vsC m c p) (shapeCast S2x8x1024x128 (onesVal (F := F)) shapeCasts_S2x8x1024x128_S2x8x1024x128) hw)) $$ H
  iexact H

/-! ## The queries and the output weights -/

theorem wp_q (c : Dev nD) (f) {k : PR F PUnit} {Q : PUnit → sProp 𝕄} :
    iprop(pm c bX Finset.univ (xC m c) ∗ pm c bWq Finset.univ (wqC m c) ∗ pm c bQ Finset.univ f)
      ⊢ iprop(((pm c bX Finset.univ (xC m c) ∗ pm c bWq Finset.univ (wqC m c) ∗ pm c bQ Finset.univ (qC m c)) -∗ WP c k Q) -∗ WP c (qU k) Q) := by
  unfold qU
  iintro ⟨Hx, Hw, Hq⟩ Hk
  iapply (wp_load 𝒱₀ (c : Thread nD τ) none Set.univ (m := bX) (r := sqR.toLoadRect) (Finset.subset_univ _)) $$ Hx; iintro Hx
  iapply (wp_load 𝒱₀ (c : Thread nD τ) none Set.univ (m := bWq) (r := sqR.toLoadRect) (Finset.subset_univ _)) $$ Hw; iintro Hw
  iapply (wp_load 𝒱₀ (c : Thread nD τ) none Set.univ (m := bQ) (r := sqR.toLoadRect) (Finset.subset_univ _)) $$ Hq; iintro Hq
  iapply (wp_store 𝒱₀ (c : Thread nD τ) none Set.univ (m := bQ) (r := sqR) (Mk := Finset.univ) (Finset.subset_univ _)) $$ Hq; iintro Hq
  iapply Hk
  isplitl [Hx]; · iexact Hx
  isplitl [Hw]; · iexact Hw
  ihave Hq := (Entails.of_eq (congrArg (pm c bQ Finset.univ) (show (bQ.access sqR).write (Elt F) f _ Finset.univ = qC m c from
    (Memref.write_access_unit_zero_univ (Elt F) cc0_scratch2 hz2 _ f _).trans ((cast_self _ _).trans
      (congrArg₂ qVal (Memref.readAt_unit_zero (Elt F) cc0_stg0_0 hz2 _ _) (Memref.readAt_unit_zero (Elt F) cc0_stg1_0 hz2 _ _)))))) $$ Hq
  iexact Hq

theorem wp_wo (c : Dev nD) (f) {k : PR F PUnit} {Q : PUnit → sProp 𝕄} :
    iprop(pm c bWo Finset.univ (woC m c) ∗ pm c bWb Finset.univ f)
      ⊢ iprop(((pm c bWo Finset.univ (woC m c) ∗ pm c bWb Finset.univ (wobC m c)) -∗ WP c k Q) -∗ WP c (woU k) Q) := by
  unfold woU
  iintro ⟨Hx, Hq⟩ Hk
  iapply (wp_load 𝒱₀ (c : Thread nD τ) none Set.univ (m := bWo) (r := sqR.toLoadRect) (Finset.subset_univ _)) $$ Hx; iintro Hx
  iapply (wp_load 𝒱₀ (c : Thread nD τ) none Set.univ (m := bWb) (r := sqR.toLoadRect) (Finset.subset_univ _)) $$ Hq; iintro Hq
  iapply (wp_store 𝒱₀ (c : Thread nD τ) none Set.univ (m := bWb) (r := sqR) (Mk := Finset.univ) (Finset.subset_univ _)) $$ Hq; iintro Hq
  iapply Hk
  isplitl [Hx]; · iexact Hx
  ihave Hq := (Entails.of_eq (congrArg (pm c bWb Finset.univ) (show (bWb.access sqR).write (Elt F) f _ Finset.univ = wobC m c from
    (Memref.write_access_unit_zero_univ (Elt F) cc0_scratch4 hz2 _ f _).trans ((cast_self _ _).trans
      (congrArg wobVal (Memref.readAt_unit_zero (Elt F) cc0_stg2_0 hz2 _ _)))))) $$ Hq
  iexact Hq

/-! ## A head -/

/-- The attention buffer with the heads before `n` done. -/
def attnTo (c : Dev nD) (p : Fin 4) (n : ℕ) : sProp 𝕄 :=
  iprop(∃ f : FVec F S256x1024 .bf16, ⌜∀ i : S256x1024.Idx, (i 1).val < 128 * n → f i = attnC m c p i⌝ ∗ pm c bAt Finset.univ f)

/-- A head's store: the columns before it stay as they were, its own are as the value says. -/
theorem head_store (f g : FVec F S256x1024 .bf16) (h : Fin 8) (w : FVec F S256x128 .bf16)
    (hw : w = (bAt.access (atR h)).read (Elt F) g) (hf : ∀ i : S256x1024.Idx, (i 1).val < 128 * h.val → f i = g i) :
    ∀ i : S256x1024.Idx, (i 1).val < 128 * (h.val + 1) → (bAt.access (atR h)).write (Elt F) f w Finset.univ i = g i := by
  intro i hi
  by_cases hm : i ∈ (bAt.access (atR h)).set
  · exact write_eq_of_read (Val := Elt F) (v := bAt.access (atR h)) f g w hw hm
  · rw [View.write_of_not_mem (v := bAt.access (atR h)) _ _ _ (by rw [View.setOn_univ]; exact hm)]
    refine hf i ?_
    by_contra hlt
    refine hm ?_
    have hs : (bAt.access (atR h)).set = (atR h).set := View.set_slice_whole _ _
    rw [hs]
    refine Rect.mem_set_unit.mpr fun a => match a with
      | 0 => ⟨Nat.zero_le _, lt_of_lt_of_eq (i 0).isLt (Nat.zero_add _).symm⟩
      | 1 => ⟨by show 128 * h.val ≤ (i 1).val; omega, by show (i 1).val < 128 * h.val + 128; omega⟩

theorem wp_head (c : Dev nD) (p : Fin 4) (h : Fin 8) (SK SV) (hSK : bKs.view.setOn (kR p h).toLoadRect.set ⊆ SK)
    (hSV : bVs.view.setOn (vR p h).toLoadRect.set ⊆ SV) {k : PR F PUnit} {Q : PUnit → sProp 𝕄} :
    iprop(pm c bQ Finset.univ (qC m c) ∗ pm c bKs SK (ksC m c p) ∗ pm c bVs SV (vsC m c p) ∗ attnTo m c p h.val)
      ⊢ iprop(((pm c bQ Finset.univ (qC m c) ∗ pm c bKs SK (ksC m c p) ∗ pm c bVs SV (vsC m c p) ∗ attnTo m c p (h.val + 1)) -∗ WP c k Q)
          -∗ WP c (headU c p h k) Q) := by
  have hw : shapeCast S256x128 (headC m c p h) shapeCasts_S256x128_S256x128 = (bAt.access (atR h)).read (Elt F) (attnC m c p) :=
    (cast_self _ _).trans (head_read m c p h)
  unfold headU attnTo
  iintro ⟨Hq, Hs, Hv, ⟨%f, %hf, Ha⟩⟩ Hk
  iapply (wp_load 𝒱₀ (c : Thread nD τ) none Set.univ (m := bQ) (r := (qR c p h).toLoadRect) (Finset.subset_univ _)) $$ Hq; iintro Hq
  iapply (wp_load 𝒱₀ (c : Thread nD τ) none Set.univ (m := bKs) (r := (kR p h).toLoadRect) hSK) $$ Hs; iintro Hs
  iapply (wp_load 𝒱₀ (c : Thread nD τ) none Set.univ (m := bVs) (r := (vR p h).toLoadRect) hSV) $$ Hv; iintro Hv
  iapply (wp_load 𝒱₀ (c : Thread nD τ) none Set.univ (m := bAt) (r := (atR h).toLoadRect) (Finset.subset_univ _)) $$ Ha; iintro Ha
  iapply (wp_store 𝒱₀ (c : Thread nD τ) none Set.univ (m := bAt) (r := atR h) (Mk := Finset.univ) (Finset.subset_univ _)) $$ Ha; iintro Ha
  iapply Hk
  isplitl [Hq]; · iexact Hq
  isplitl [Hs]; · iexact Hs
  isplitl [Hv]; · iexact Hv
  iexists ((bAt.access (atR h)).write (Elt F) f (shapeCast S256x128 (headC m c p h) shapeCasts_S256x128_S256x128) Finset.univ)
  isplitr
  · ipureintro; exact head_store f (attnC m c p) h _ hw hf
  · iexact Ha

/-- All of a place's heads. -/
theorem wp_heads (c : Dev nD) (p : Fin 4) (SK SV) (hSK : ∀ h, bKs.view.setOn (kR p h).toLoadRect.set ⊆ SK)
    (hSV : ∀ h, bVs.view.setOn (vR p h).toLoadRect.set ⊆ SV) (f : FVec F S256x1024 .bf16) {k : PR F PUnit} {Q : PUnit → sProp 𝕄} :
    iprop(pm c bQ Finset.univ (qC m c) ∗ pm c bKs SK (ksC m c p) ∗ pm c bVs SV (vsC m c p) ∗ pm c bAt Finset.univ f)
      ⊢ iprop(((pm c bQ Finset.univ (qC m c) ∗ pm c bKs SK (ksC m c p) ∗ pm c bVs SV (vsC m c p) ∗ pm c bAt Finset.univ (attnC m c p)) -∗ WP c k Q)
          -∗ WP c (seq8 (headU c p) k) Q) := by
  iintro ⟨Hq, Hs, Hv, Ha⟩ Hk
  iapply (wp_seq8' c (headU c p) (fun n => iprop(pm c bQ Finset.univ (qC m c) ∗ pm c bKs SK (ksC m c p) ∗ pm c bVs SV (vsC m c p) ∗ attnTo m c p n))
    (fun h k => wp_head m c p h SK SV (hSK h) (hSV h)) k) $$ [Hq Hs Hv Ha]
  · isplitl [Hq]; · iexact Hq
    isplitl [Hs]; · iexact Hs
    isplitl [Hv]; · iexact Hv
    unfold attnTo
    iexists f
    isplitr
    · ipureintro; intro i hi; omega
    · iexact Ha
  iintro ⟨Hq, Hs, Hv, Ha⟩
  unfold attnTo
  icases Ha with ⟨%g, %hg, Ha⟩
  have hga : g = attnC m c p := funext fun i => hg i (by have : (i 1).val < 1024 := (i 1).isLt; omega)
  subst hga
  iapply Hk
  isplitl [Hq]; · iexact Hq
  isplitl [Hs]; · iexact Hs
  isplitl [Hv]; · iexact Hv
  iexact Ha

/-! ## A projection -/

theorem wp_proj (c : Dev nD) (p : Fin 4) (f) {k : PR F PUnit} {Q : PUnit → sProp 𝕄} :
    iprop(pm c bAt Finset.univ (attnC m c p) ∗ pm c bWb Finset.univ (wobC m c) ∗ pm c bAcc (rows (256 * bo c p) 256) f)
      ⊢ iprop(((pm c bAt Finset.univ (attnC m c p) ∗ pm c bWb Finset.univ (wobC m c) ∗ pm c bAcc (rows (256 * bo c p) 256) (accA m c)) -∗ WP c k Q)
          -∗ WP c (projU c p k) Q) := by
  unfold projU
  rw [← accPiece c p]
  iintro ⟨Ha, Hw, Hc⟩ Hk
  iapply (wp_load 𝒱₀ (c : Thread nD τ) none Set.univ (m := bAt) (r := blR.toLoadRect) (Finset.subset_univ _)) $$ Ha; iintro Ha
  iapply (wp_load 𝒱₀ (c : Thread nD τ) none Set.univ (m := bWb) (r := sqR.toLoadRect) (Finset.subset_univ _)) $$ Hw; iintro Hw
  iapply (wp_load_rect 𝒱₀ (c : Thread nD τ) none Set.univ (m := bAcc) (r := aR c p) (le_refl _)) $$ Hc; iintro Hc
  iapply (wp_store 𝒱₀ (c : Thread nD τ) none Set.univ (m := bAcc) (r := aR c p) (Mk := Finset.univ) (View.setOn_univ _).subset) $$ Hc; iintro Hc
  iapply Hk
  isplitl [Ha]; · iexact Ha
  isplitl [Hw]; · iexact Hw
  have hw : shapeCast S256x1024 (projVal (bAt.view.readAt (Elt F) blR.toLoadRect (attnC m c p)) (bWb.view.readAt (Elt F) sqR.toLoadRect (wobC m c)))
      shapeCasts_S256x1024_S256x1024 = (bAcc.access (aR c p)).read (Elt F) (accA m c) :=
    (cast_self _ _).trans ((congrArg₂ projVal (Memref.readAt_unit_zero (Elt F) cc0_scratch3 hz2 _ _)
      (Memref.readAt_unit_zero (Elt F) cc0_scratch4 hz2 _ _)).trans (proj_read m c p))
  ihave Hc := (Entails.of_eq (store_eq c (bAcc.access (aR c p)) f (accA m c) (shapeCast S256x1024
    (projVal (bAt.view.readAt (Elt F) blR.toLoadRect (attnC m c p)) (bWb.view.readAt (Elt F) sqR.toLoadRect (wobC m c)))
      shapeCasts_S256x1024_S256x1024) hw)) $$ Hc
  iexact Hc

/-! ## The additions -/

theorem wp_add0 (c : Dev nD) (w : Fin 2) (SP) (hSP : bP0.view.setOn (p0R w).toLoadRect.set ⊆ SP) {k : PR F PUnit} {Q : PUnit → sProp 𝕄} :
    iprop(pm c bAcc (rows (row0 c w) 256) (accA m c) ∗ pm c bP0 SP (p0C m c))
      ⊢ iprop(((pm c bAcc (rows (row0 c w) 256) (acc1 m c) ∗ pm c bP0 SP (p0C m c)) -∗ WP c k Q) -∗ WP c (add0U c w k) Q) := by
  unfold add0U
  rw [← accR32 c w]
  iintro ⟨Ha, Hp⟩ Hk
  iapply (wp_load_rect 𝒱₀ (c : Thread nD τ) none Set.univ (m := bAcc) (r := r32 c w) (le_refl _)) $$ Ha; iintro Ha
  iapply (wp_load 𝒱₀ (c : Thread nD τ) none Set.univ (m := bP0) (r := (p0R w).toLoadRect) hSP) $$ Hp; iintro Hp
  iapply (wp_load_rect 𝒱₀ (c : Thread nD τ) none Set.univ (m := bAcc) (r := r32 c w) (le_refl _)) $$ Ha; iintro Ha
  iapply (wp_store 𝒱₀ (c : Thread nD τ) none Set.univ (m := bAcc) (r := r32 c w) (Mk := Finset.univ) (View.setOn_univ _).subset) $$ Ha; iintro Ha
  iapply Hk
  isplitr [Hp]
  · have hw : (shapeCast S256x1024 (addf ((bAcc.access (r32 c w)).read (Elt F) (accA m c)) (shapeCast S256x1024
      (bP0.view.readAt (Elt F) (p0R w).toLoadRect (p0C m c)) shapeCasts_S1x256x1024_S256x1024)) shapeCasts_S256x1024_S256x1024)
        = (bAcc.access (r32 c w)).read (Elt F) (acc1 m c) := (cast_self _ _).trans (add0_read m c w)
    ihave Ha := (Entails.of_eq (store_eq c (bAcc.access (r32 c w)) (accA m c) (acc1 m c) (shapeCast S256x1024 (addf ((bAcc.access (r32 c w)).read (Elt F) (accA m c)) (shapeCast S256x1024
      (bP0.view.readAt (Elt F) (p0R w).toLoadRect (p0C m c)) shapeCasts_S1x256x1024_S256x1024)) shapeCasts_S256x1024_S256x1024) hw)) $$ Ha
    iexact Ha
  iexact Hp

theorem wp_add1 (c : Dev nD) (w : Fin 2) (SP) (hSP : bP1.view.setOn (p1R w).toLoadRect.set ⊆ SP) {k : PR F PUnit} {Q : PUnit → sProp 𝕄} :
    iprop(pm c bAcc (rows (row1 c w) 128) (acc1 m c) ∗ pm c bP1 SP (p1C m c))
      ⊢ iprop(((pm c bAcc (rows (row1 c w) 128) (acc2 m c) ∗ pm c bP1 SP (p1C m c)) -∗ WP c k Q) -∗ WP c (add1U c w k) Q) := by
  unfold add1U
  rw [← accR34 c w]
  iintro ⟨Ha, Hp⟩ Hk
  iapply (wp_load_rect 𝒱₀ (c : Thread nD τ) none Set.univ (m := bAcc) (r := r34 c w) (le_refl _)) $$ Ha; iintro Ha
  iapply (wp_load 𝒱₀ (c : Thread nD τ) none Set.univ (m := bP1) (r := (p1R w).toLoadRect) hSP) $$ Hp; iintro Hp
  iapply (wp_load_rect 𝒱₀ (c : Thread nD τ) none Set.univ (m := bAcc) (r := r34 c w) (le_refl _)) $$ Ha; iintro Ha
  iapply (wp_store 𝒱₀ (c : Thread nD τ) none Set.univ (m := bAcc) (r := r34 c w) (Mk := Finset.univ) (View.setOn_univ _).subset) $$ Ha; iintro Ha
  iapply Hk
  isplitr [Hp]
  · have hw : (shapeCast S128x1024 (addf ((bAcc.access (r34 c w)).read (Elt F) (acc1 m c)) (shapeCast S128x1024
      (bP1.view.readAt (Elt F) (p1R w).toLoadRect (p1C m c)) shapeCasts_S1x128x1024_S128x1024)) shapeCasts_S128x1024_S128x1024)
        = (bAcc.access (r34 c w)).read (Elt F) (acc2 m c) := (cast_self _ _).trans (add1_read m c w)
    ihave Ha := (Entails.of_eq (store_eq c (bAcc.access (r34 c w)) (acc1 m c) (acc2 m c) (shapeCast S128x1024 (addf ((bAcc.access (r34 c w)).read (Elt F) (acc1 m c)) (shapeCast S128x1024
      (bP1.view.readAt (Elt F) (p1R w).toLoadRect (p1C m c)) shapeCasts_S1x128x1024_S128x1024)) shapeCasts_S128x1024_S128x1024) hw)) $$ Ha
    iexact Ha
  iexact Hp

theorem wp_add2 (c : Dev nD) (w : Fin 2) (SP) (hSP : bP2.view.setOn (p1R w).toLoadRect.set ⊆ SP) (f) {k : PR F PUnit} {Q : PUnit → sProp 𝕄} :
    iprop(pm c bAcc (rows (row1 c w) 128) (acc2 m c) ∗ pm c bP2 SP (p2C m c) ∗ pm c bOut (rows (row1 c w) 128) f)
      ⊢ iprop(((pm c bAcc (rows (row1 c w) 128) (acc2 m c) ∗ pm c bP2 SP (p2C m c) ∗ pm c bOut (rows (row1 c w) 128) (finC m c)) -∗ WP c k Q)
          -∗ WP c (add2U c w k) Q) := by
  unfold add2U
  rw [show pm c bAcc (rows (row1 c w) 128) (acc2 m c) = pm c bAcc (bAcc.access (r34 c w)).set (acc2 m c) from by rw [accR34],
    show pm c bOut (rows (row1 c w) 128) f = pm c bOut (bOut.access (r34 c w)).set f from by rw [outR34],
    show pm c bOut (rows (row1 c w) 128) (finC m c) = pm c bOut (bOut.access (r34 c w)).set (finC m c) from by rw [outR34]]
  iintro ⟨Ha, Hp, Ho⟩ Hk
  iapply (wp_load_rect 𝒱₀ (c : Thread nD τ) none Set.univ (m := bAcc) (r := r34 c w) (le_refl _)) $$ Ha; iintro Ha
  iapply (wp_load 𝒱₀ (c : Thread nD τ) none Set.univ (m := bP2) (r := (p1R w).toLoadRect) hSP) $$ Hp; iintro Hp
  iapply (wp_load_rect 𝒱₀ (c : Thread nD τ) none Set.univ (m := bOut) (r := r34 c w) (le_refl _)) $$ Ho; iintro Ho
  iapply (wp_store 𝒱₀ (c : Thread nD τ) none Set.univ (m := bOut) (r := r34 c w) (Mk := Finset.univ) (View.setOn_univ _).subset) $$ Ho; iintro Ho
  iapply Hk
  isplitl [Ha]; · iexact Ha
  isplitl [Hp]; · iexact Hp
  have hw : (addf (φ := .bf16) ((bAcc.access (r34 c w)).read (Elt F) (acc2 m c)) (shapeCast S128x1024
      (bP2.view.readAt (Elt F) (p1R w).toLoadRect (p2C m c)) shapeCasts_S1x128x1024_S128x1024))
        = (bOut.access (r34 c w)).read (Elt F) (finC m c) := add2_read m c w
  iapply (Entails.of_eq (store_eq c (bOut.access (r34 c w)) f (finC m c) _ hw)); iexact Ho

end Cert.KernelIdeal.Hand
-- ==== Proof.KV.lean ====
/-
The copies of keys and values into their two slots: the slots and the cache cut head by head, a place's sixteen copies
started, and waited for.
-/
module

public import proofs.«01_k».proof.Proof.Local

@[expose] public section

noncomputable section

namespace Cert.KernelIdeal.Hand

open Cert.KernelIdeal Cert.KernelIdeal.Gen Cert.Rows
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

abbrev EC : UEmb Counters (MT nD τ sig Unit (Elt F) ℕ UU ℕ) := countersEmb (U := UU)

variable (m : (ℓ : Loc nD τ sig) → Buf (Elt F) ℓ)

/-! ## The regions -/

/-- Head `h` of slot `s` of the keys, of the values; a slot of each; the columns beside the values; a head of the cache. -/
def KS (s : ℕ) (h : Fin 8) : Finset S2x8x1024x128.Idx := Finset.univ.filter fun i => (i 0).val = s ∧ (i 1).val = h.val
def VS (s : ℕ) (h : Fin 8) : Finset S2x8x1024x256.Idx := Finset.univ.filter fun i => (i 0).val = s ∧ (i 1).val = h.val ∧ (i 3).val < 128
def kslot (s : ℕ) : Finset S2x8x1024x128.Idx := Finset.univ.filter fun i => (i 0).val = s
def vslot (s : ℕ) : Finset S2x8x1024x256.Idx := Finset.univ.filter fun i => (i 0).val = s ∧ (i 3).val < 128
def KC (c : Dev nD) (p : Fin 4) (h : Fin 8) : Finset S4x1024x64x128.Idx :=
  Finset.univ.filter fun i => (i 0).val = bo c p ∧ (i 2).val = 8 * c.val + h.val

theorem slotSet {d : Fin 4 → ℕ} {off size : Fin 4 → ℕ} (inb : ∀ a : Fin 4, off a + size a ≤ d a) (P : (⟨4, d⟩ : Shape).Idx → Prop) [DecidablePred P]
    (h : ∀ i : (⟨4, d⟩ : Shape).Idx, (∀ a : Fin 4, off a ≤ (i a).val ∧ (i a).val < off a + size a) ↔ P i) :
    (Rect.unit (s := ⟨4, d⟩) off size inb).set = Finset.univ.filter P := by
  ext i
  rw [Rect.mem_set_unit]
  simp only [Finset.mem_filter, Finset.mem_univ, true_and]
  exact h i

theorem kDst_set (p : Fin 4) (h : Fin 8) : ((kDst p h).view.set : Finset S2x8x1024x128.Idx) = KS (slot p) h :=
  (View.set_reshape _ _).trans ((View.set_slice_whole _ _).trans (slotSet (d := ![2, 8, 1024, 128]) _ _ fun i => by
    have h2 : (i 2).val < 1024 := (i 2).isLt
    have h3 : (i 3).val < 128 := (i 3).isLt
    constructor
    · intro H
      have a0 : p.val % 2 ≤ (i 0).val ∧ (i 0).val < p.val % 2 + 1 := H 0
      have a1 : h.val ≤ (i 1).val ∧ (i 1).val < h.val + 1 := H 1
      exact ⟨by show (i 0).val = p.val % 2; omega, by omega⟩
    · rintro ⟨e0, e1⟩ a
      match a with
      | 0 => exact ⟨e0.ge, by rw [e0]; exact Nat.lt_succ_self _⟩
      | 1 => exact ⟨e1.ge, by rw [e1]; exact Nat.lt_succ_self _⟩
      | 2 => exact ⟨Nat.zero_le _, lt_of_lt_of_eq h2 (Nat.zero_add _).symm⟩
      | 3 => exact ⟨Nat.zero_le _, lt_of_lt_of_eq h3 (Nat.zero_add _).symm⟩))

theorem vDst_set (p : Fin 4) (h : Fin 8) : ((vDst p h).view.set : Finset S2x8x1024x256.Idx) = VS (slot p) h :=
  (View.set_reshape _ _).trans ((View.set_slice_whole _ _).trans (slotSet (d := ![2, 8, 1024, 256]) _ _ fun i => by
    have h2 : (i 2).val < 1024 := (i 2).isLt
    constructor
    · intro H
      have a0 : p.val % 2 ≤ (i 0).val ∧ (i 0).val < p.val % 2 + 1 := H 0
      have a1 : h.val ≤ (i 1).val ∧ (i 1).val < h.val + 1 := H 1
      have a3 : 0 ≤ (i 3).val ∧ (i 3).val < 0 + 128 := H 3
      exact ⟨by show (i 0).val = p.val % 2; omega, by omega, by omega⟩
    · rintro ⟨e0, e1, e3⟩ a
      match a with
      | 0 => exact ⟨e0.ge, by rw [e0]; exact Nat.lt_succ_self _⟩
      | 1 => exact ⟨e1.ge, by rw [e1]; exact Nat.lt_succ_self _⟩
      | 2 => exact ⟨Nat.zero_le _, lt_of_lt_of_eq h2 (Nat.zero_add _).symm⟩
      | 3 => exact ⟨Nat.zero_le _, lt_of_lt_of_eq e3 (Nat.zero_add _).symm⟩))

theorem cacheRect (c : Dev nD) (p : Fin 4) (h : Fin 8) {off : Fin 4 → ℕ} (inb : ∀ a : Fin 4, off a + S1x1024x1x128.size a ≤ S4x1024x64x128.size a)
    (ho : off = ![bo c p, 0, 8 * c.val + h.val, 0]) :
    (Rect.unit (s := S4x1024x64x128) off S1x1024x1x128.size inb).set = KC c p h := by
  subst ho
  exact slotSet (d := ![4, 1024, 64, 128]) _ _ fun i => by
    have h1 : (i 1).val < 1024 := (i 1).isLt
    have h3 : (i 3).val < 128 := (i 3).isLt
    constructor
    · intro H
      have a0 : bo c p ≤ (i 0).val ∧ (i 0).val < bo c p + 1 := H 0
      have a2 : 8 * c.val + h.val ≤ (i 2).val ∧ (i 2).val < 8 * c.val + h.val + 1 := H 2
      exact ⟨by omega, by omega⟩
    · rintro ⟨e0, e1⟩ a
      match a with
      | 0 => exact ⟨e0.ge, by rw [e0]; exact Nat.lt_succ_self _⟩
      | 1 => exact ⟨Nat.zero_le _, lt_of_lt_of_eq h1 (Nat.zero_add _).symm⟩
      | 2 => exact ⟨e1.ge, by rw [e1]; exact Nat.lt_succ_self _⟩
      | 3 => exact ⟨Nat.zero_le _, lt_of_lt_of_eq h3 (Nat.zero_add _).symm⟩

theorem kSrc_set (c : Dev nD) (p : Fin 4) (h : Fin 8) : ((kSrc c p h).view.set : Finset S4x1024x64x128.Idx) = KC c p h :=
  (View.set_reshape _ _).trans ((View.set_slice_whole _ _).trans (cacheRect c p h _ (kvOff_eq c p h)))
theorem vSrc_set (c : Dev nD) (p : Fin 4) (h : Fin 8) : ((vSrc c p h).view.set : Finset S4x1024x64x128.Idx) = KC c p h :=
  (View.set_reshape _ _).trans ((View.set_slice_whole _ _).trans (cacheRect c p h _ (kvOff_eq c p h)))

theorem vOnes_set : vOnes = Finset.univ.filter fun i : S2x8x1024x256.Idx => 128 ≤ (i 3).val :=
  (View.set_slice_whole _ _).trans (slotSet (d := ![2, 8, 1024, 256]) _ _ fun i => by
    have h0 : (i 0).val < 2 := (i 0).isLt
    have h1 : (i 1).val < 8 := (i 1).isLt
    have h2 : (i 2).val < 1024 := (i 2).isLt
    have h3 : (i 3).val < 256 := (i 3).isLt
    constructor
    · intro H
      exact (H 3).1
    · intro e a
      match a with
      | 0 => exact ⟨Nat.zero_le _, lt_of_lt_of_eq h0 (Nat.zero_add _).symm⟩
      | 1 => exact ⟨Nat.zero_le _, lt_of_lt_of_eq h1 (Nat.zero_add _).symm⟩
      | 2 => exact ⟨Nat.zero_le _, lt_of_lt_of_eq h2 (Nat.zero_add _).symm⟩
      | 3 => exact ⟨e, h3⟩)

theorem KS_disj (s : ℕ) : ∀ h ∈ (Finset.univ : Finset (Fin 8)), ∀ h' ∈ (Finset.univ : Finset (Fin 8)), h ≠ h' → Disjoint (KS s h) (KS s h') :=
  fun h _ h' _ hn => Finset.disjoint_left.mpr fun i hi hi' => hn (Fin.ext (by
    simp only [KS, Finset.mem_filter] at hi hi'; omega))
theorem VS_disj (s : ℕ) : ∀ h ∈ (Finset.univ : Finset (Fin 8)), ∀ h' ∈ (Finset.univ : Finset (Fin 8)), h ≠ h' → Disjoint (VS s h) (VS s h') :=
  fun h _ h' _ hn => Finset.disjoint_left.mpr fun i hi hi' => hn (Fin.ext (by
    simp only [VS, Finset.mem_filter] at hi hi'; omega))
theorem kslot_eq (s : ℕ) : kslot s = Finset.univ.biUnion (KS s) := by
  ext i
  have : (i 1).val < 8 := (i 1).isLt
  simp only [kslot, KS, Finset.mem_filter, Finset.mem_biUnion, Finset.mem_univ, true_and]
  exact ⟨fun h => ⟨⟨(i 1).val, this⟩, h, rfl⟩, fun ⟨_, h, _⟩ => h⟩
theorem vslot_eq (s : ℕ) : vslot s = Finset.univ.biUnion (VS s) := by
  ext i
  have : (i 1).val < 8 := (i 1).isLt
  simp only [vslot, VS, Finset.mem_filter, Finset.mem_biUnion, Finset.mem_univ, true_and]
  exact ⟨fun h => ⟨⟨(i 1).val, this⟩, h.1, rfl, h.2⟩, fun ⟨_, h, _, h'⟩ => ⟨h, h'⟩⟩

theorem sepSep {T : Type} (s : Finset T) (A B : T → sProp 𝕄) :
    bigSep s (fun t => iprop(A t ∗ B t)) = iprop(bigSep s A ∗ bigSep s B) := bigSep_sep s A B

theorem kslot_pts (c : Dev nD) (s : ℕ) (f) : (pm c bKs (kslot s) f : sProp 𝕄) = bigSep Finset.univ fun h => pm c bKs (KS s h) f := by
  rw [kslot_eq]; exact pointsTo_biUnion _ _ (KS_disj s)
theorem vslot_pts (c : Dev nD) (s : ℕ) (f) : (pm c bVs (vslot s) f : sProp 𝕄) = bigSep Finset.univ fun h => pm c bVs (VS s h) f := by
  rw [vslot_eq]; exact pointsTo_biUnion _ _ (VS_disj s)

/-! ## A place's sources, and its copies -/

/-- The heads of place `p` in the cache of keys, and of values. -/
def kcache (c : Dev nD) (p : Fin 4) : sProp 𝕄 := bigSep Finset.univ fun h : Fin 8 => pm c bK (KC c p h) (keyC m c)
def vcache (c : Dev nD) (p : Fin 4) : sProp 𝕄 := bigSep Finset.univ fun h : Fin 8 => pm c bV (KC c p h) (valC m c)

/-- What a copy of a head leaves. -/
def KD (c : Dev nD) (p : Fin 4) (h : Fin 8) : sProp 𝕄 := iprop(pm c bKs (KS (slot p) h) (ksC m c p) ∗ pm c bK (KC c p h) (keyC m c))
def VD (c : Dev nD) (p : Fin 4) (h : Fin 8) : sProp 𝕄 := iprop(pm c bVs (VS (slot p) h) (vsC m c p) ∗ pm c bV (KC c p h) (valC m c))

instance KD_storable (c : Dev nD) (p : Fin 4) (h : Fin 8) : BI.Storable (upEmb : UEmb _ 𝕄) (KD m c p h) := by unfold KD; infer_instance
instance VD_storable (c : Dev nD) (p : Fin 4) (h : Fin 8) : BI.Storable (upEmb : UEmb _ 𝕄) (VD m c p h) := by unfold VD; infer_instance

/-- The credit of one copy. -/
def kvN : ℕ := (kDst 0 0).view.dmaCredit
theorem kvN_pos : 0 < kvN := View.dmaCredit_pos _ (by decide)
theorem kvN_k (p : Fin 4) (h : Fin 8) : (kDst p h).view.dmaCredit = kvN := rfl
theorem kvN_v (p : Fin 4) (h : Fin 8) : (vDst p h).view.dmaCredit = kvN := rfl

/-- `j` of a place's copies of keys started and `u` units waited for; the same of values. -/
abbrev KB (c : Dev nD) (p : Fin 4) (j u : ℕ) : sProp 𝕄 :=
  Transfers.Batch (EC (F := F)) (c : Thread nD τ) (.dma (kvSem p 0)) () kvN (KD m c p) j u
abbrev VB (c : Dev nD) (p : Fin 4) (j u : ℕ) : sProp 𝕄 :=
  Transfers.Batch (EC (F := F)) (c : Thread nD τ) (.dma (kvSem p 1)) () kvN (VD m c p) j u

theorem wp_startKV (c : Dev nD) (p : Fin 4) (h : Fin 8) (fk fv) {k : PR F PUnit} {Q : PUnit → sProp 𝕄} :
    iprop((KB m c p h.val 0 ∗ VB m c p h.val 0)
        ∗ (pm c bKs (KS (slot p) h) fk ∗ pm c bVs (VS (slot p) h) fv ∗ pm c bK (KC c p h) (keyC m c) ∗ pm c bV (KC c p h) (valC m c)))
      ⊢ iprop(((KB m c p (h.val + 1) 0 ∗ VB m c p (h.val + 1) 0) -∗ WP c k Q) -∗ WP c (startKV c p h k) Q) := by
  unfold startKV
  iintro ⟨⟨HK, HV⟩, Hk, Hv, Hks, Hvs⟩ Hcont
  iapply (Transfers.wp_dmaBatch (EC (F := F)) 𝒱₀ (c : Thread nD τ) none (src := kSrc c p h) (dst := kDst p h) (sm := .dma (kvSem p 0)) (Sd := (kDst p h).view.set)
      (fs := keyC m c) (fd := fk) (q := fullShare)
      () kvN (kvN_k p h) (le_refl _) h.isLt (Nat.zero_le _) (D := KD m c p) (by
        unfold KD
        rw [← kDst_set p h, ← kSrc_set c p h]
        exact BI.sep_mono (Entails.of_eq (pointsTo_congr fun i hi => write_eq_of_read (Val := Elt F) (v := (kDst p h).view) _ _ _ (ksC_read m c p h) hi)) (BI.Entails.refl _))) $$ [HK Hk Hks]
  · rw [← kDst_set p h, ← kSrc_set c p h]
    isplitl [Hks]; · iexact Hks
    isplitl [Hk]; · iexact Hk
    iexact HK
  iintro HK
  iapply (Transfers.wp_dmaBatch (EC (F := F)) 𝒱₀ (c : Thread nD τ) none (src := vSrc c p h) (dst := vDst p h) (sm := .dma (kvSem p 1)) (Sd := (vDst p h).view.set)
      (fs := valC m c) (fd := fv) (q := fullShare)
      () kvN (kvN_v p h) (le_refl _) h.isLt (Nat.zero_le _) (D := VD m c p) (by
        unfold VD
        rw [← vDst_set p h, ← vSrc_set c p h]
        exact BI.sep_mono (Entails.of_eq (pointsTo_congr fun i hi => write_eq_of_read (Val := Elt F) (v := (vDst p h).view) _ _ _ (vsC_read m c p h) hi)) (BI.Entails.refl _))) $$ [HV Hv Hvs]
  · rw [← vDst_set p h, ← vSrc_set c p h]
    isplitl [Hvs]; · iexact Hvs
    isplitl [Hv]; · iexact Hv
    iexact HV
  iintro HV
  iapply Hcont
  isplitl [HK]; · iexact HK
  iexact HV

/-- What a place's copies leave to a device while they are under way. -/
def flying (c : Dev nD) (p : Fin 4) : sProp 𝕄 := iprop(KB m c p 8 0 ∗ VB m c p 8 0)

theorem wp_startAll (c : Dev nD) (p : Fin 4) (fk fv) {k : PR F PUnit} {Q : PUnit → sProp 𝕄} :
    iprop(semVal ((c : Thread nD τ), .dma (kvSem p 0)) 0 ∗ semVal ((c : Thread nD τ), .dma (kvSem p 1)) 0
        ∗ pm c bKs (kslot (slot p)) fk ∗ pm c bVs (vslot (slot p)) fv ∗ kcache m c p ∗ vcache m c p)
      ⊢ iprop((flying m c p -∗ WP c k Q) -∗ WP c (seq8 (startKV c p) k) Q) := by
  rw [kslot_pts, vslot_pts]
  unfold kcache vcache flying
  iintro ⟨Hz0, Hz1, Hk, Hv, Hks, Hvs⟩ Hcont
  imod (Transfers.batch_alloc' (EC (F := F)) (c := (c : Thread nD τ)) () kvN (KD m c p) (E := Set.univ)) $$ Hz0 with HK
  imod (Transfers.batch_alloc' (EC (F := F)) (c := (c : Thread nD τ)) () kvN (VD m c p) (E := Set.univ)) $$ Hz1 with HV
  iapply (wp_seq8 c (startKV c p) (fun j => iprop(KB m c p j 0 ∗ VB m c p j 0)) _ (fun h k => wp_startKV m c p h fk fv) k) $$ [HK HV Hk Hv Hks Hvs]
  · isplitl [HK HV]
    · isplitl [HK]; · iexact HK
      iexact HV
    rw [sepSep, sepSep, sepSep]
    isplitl [Hk]; · iexact Hk
    isplitl [Hv]; · iexact Hv
    isplitl [Hks]; · iexact Hks
    iexact Hvs
  iexact Hcont

/-- The waits of a place's copies, before `n` of them are left. -/
def waited (c : Dev nD) (p : Fin 4) (i : ℕ) (n : ℕ) : sProp 𝕄 :=
  if n < 8 then iprop(KB m c p 8 (n * kvN) ∗ VB m c p 8 (n * kvN) ∗ owesX c (OR c i))
  else iprop((bigSep Finset.univ (KD m c p) ∗ bigSep Finset.univ (VD m c p))
    ∗ (semVal ((c : Thread nD τ), .dma (kvSem p 0)) 0 ∗ semVal ((c : Thread nD τ), .dma (kvSem p 1)) 0) ∗ owesX c (OR c i))

theorem wp_waitKV (c : Dev nD) (p : Fin 4) (i : ℕ) (hi : i ≤ 10) (h : Fin 8) {k : PR F PUnit} {Q : PUnit → sProp 𝕄} :
    iprop(levAts L lv ∗ waited m c p i h.val)
      ⊢ iprop(((levAts L lv ∗ waited m c p i (h.val + 1)) -∗ WP c k Q) -∗ WP c (waitKV c p h k) Q) := by
  have hmw : ∀ j, (levAts L lv : sProp 𝕄) ⊢ MayWait (c : Thread nD τ) (.dma (kvSem p j)) () (OR c i) := fun j =>
    mayWait_OR c i hi _ fun k' _ => by rw [lvs_kv]; omega
  have hN0 := kvN_pos
  unfold waited waitKV owesX
  rw [if_pos h.isLt]
  iintro ⟨#Hlev, HK, HV, ⟨%W, HO⟩⟩ Hcont
  by_cases hh : h.val + 1 < 8
  · rw [if_pos hh]
    have hu : h.val * kvN + kvN < kvN * 8 := by
      have := Nat.mul_lt_mul_of_pos_right hh hN0
      rw [Nat.add_mul] at this; omega
    iapply (Transfers.wp_waitBatchO (EC (F := F)) 𝒱₀ (c : Thread nD τ) none () (kvN_k p h) hu) $$ [HK HO]
    · isplitl [HK]; · iexact HK
      isplitl [HO]; · iexact HO
      iapply (hmw 0); iexact Hlev
    iintro ⟨HK, HO⟩
    iapply (Transfers.wp_waitBatchO (EC (F := F)) 𝒱₀ (c : Thread nD τ) none () (kvN_v p h) hu) $$ [HV HO]
    · isplitl [HV]; · iexact HV
      isplitl [HO]; · iexact HO
      iapply (hmw 1); iexact Hlev
    iintro ⟨HV, HO⟩
    iapply Hcont
    isplitr; · iexact Hlev
    rw [Nat.add_mul, Nat.one_mul]
    isplitl [HK]; · iexact HK
    isplitl [HV]; · iexact HV
    iexists _; iexact HO
  · rw [if_neg hh]
    have hu : h.val * kvN + kvN = kvN * 8 := by
      have : h.val = 7 := by omega
      rw [this]; omega
    iapply (Transfers.wp_waitBatchLastO (EC (F := F)) 𝒱₀ (c : Thread nD τ) none () (kvN_k p h) hN0 hu) $$ [HK HO]
    · isplitl [HK]; · iexact HK
      isplitl [HO]; · iexact HO
      iapply (hmw 0); iexact Hlev
    iintro ⟨HK, Hz0, HO⟩
    iapply (Transfers.wp_waitBatchLastO (EC (F := F)) 𝒱₀ (c : Thread nD τ) none () (kvN_v p h) hN0 hu) $$ [HV HO]
    · isplitl [HV]; · iexact HV
      isplitl [HO]; · iexact HO
      iapply (hmw 1); iexact Hlev
    iintro ⟨HV, Hz1, HO⟩
    iapply Hcont
    isplitr; · iexact Hlev
    isplitl [HK HV]
    · isplitl [HK]; · iexact HK
      iexact HV
    isplitl [Hz0 Hz1]
    · isplitl [Hz0]; · iexact Hz0
      iexact Hz1
    iexists _; iexact HO

theorem wp_waitAll (c : Dev nD) (p : Fin 4) (i : ℕ) (hi : i ≤ 10) {k : PR F PUnit} {Q : PUnit → sProp 𝕄} :
    iprop(levAts L lv ∗ owesX c (OR c i) ∗ flying m c p)
      ⊢ iprop(((owesX c (OR c i) ∗ (semVal ((c : Thread nD τ), .dma (kvSem p 0)) 0 ∗ semVal ((c : Thread nD τ), .dma (kvSem p 1)) 0)
          ∗ (pm c bKs (kslot (slot p)) (ksC m c p) ∗ pm c bVs (vslot (slot p)) (vsC m c p)) ∗ kcache m c p ∗ vcache m c p) -∗ WP c k Q)
        -∗ WP c (seq8 (waitKV c p) k) Q) := by
  rw [kslot_pts, vslot_pts]
  unfold kcache vcache flying
  iintro ⟨#Hlev, HO, HK, HV⟩ Hcont
  iapply (wp_seq8' c (waitKV c p) (fun n => iprop(levAts L lv ∗ waited m c p i n)) (fun h k => wp_waitKV m c p i hi h) k) $$ [HK HV HO]
  · isplitr; · iexact Hlev
    unfold waited
    rw [if_pos (by decide), Nat.zero_mul]
    isplitl [HK]; · iexact HK
    isplitl [HV]; · iexact HV
    iexact HO
  unfold waited
  rw [if_neg (by decide)]
  unfold KD VD
  rw [sepSep, sepSep]
  iintro ⟨-, ⟨⟨Hk, Hks⟩, ⟨Hv, Hvs⟩⟩, Hz, HO⟩
  iapply Hcont
  isplitl [HO]; · iexact HO
  isplitl [Hz]; · iexact Hz
  isplitl [Hk Hv]
  · isplitl [Hk]; · iexact Hk
    iexact Hv
  isplitl [Hks]; · iexact Hks
  iexact Hvs

end Cert.KernelIdeal.Hand
-- ==== Proof.Regions.lean ====
/-
The buffers the exchanges work on, cut into the regions they move: the square buffers by rows, the landing buffers by
halves; what each exchange's payloads are in those terms.
-/
module

public import proofs.«01_k».proof.Proof.KV

@[expose] public section

noncomputable section

namespace Cert.KernelIdeal.Hand

open Cert.KernelIdeal Cert.KernelIdeal.Gen Cert.Rows
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)

/-- A device holds the elements `S` of a buffer, whatever they are. -/
abbrev pe {sp : Space} {s : Shape} {e : EltTy} (c : Dev nD) (M : Memref sig .tc sp s e) (S : Finset (Idx (M.view.loc (c : Thread nD τ)))) : sProp 𝕄 :=
  iprop(∃ f, pm c M S f)

omit [FloatOps F] in
theorem pe_of {sp : Space} {s : Shape} {e : EltTy} (c : Dev nD) (M : Memref sig .tc sp s e) (S : Finset (Idx (M.view.loc (c : Thread nD τ))))
    (f : Buf (Elt F) (M.view.loc (c : Thread nD τ))) : (pm c M S f : sProp 𝕄) ⊢ pe c M S := by
  iintro H; iexists f; iexact H

omit [FloatOps F] in
theorem pe_join {sp : Space} {s : Shape} {e : EltTy} (c : Dev nD) (M : Memref sig .tc sp s e) (I J : Finset (Idx (M.view.loc (c : Thread nD τ))))
    (h : Disjoint I J) : (iprop(pe c M I ∗ pe c M J) : sProp 𝕄) ⊢ pe c M (I ∪ J) := by
  iintro ⟨⟨%f, Hf⟩, ⟨%g, Hg⟩⟩
  iexists (J.piecewise g f)
  iapply (pointsTo_join h)
  isplitl [Hf]; · iexact Hf
  iexact Hg

omit [FloatOps F] in
theorem pm_union {sp : Space} {s : Shape} {e : EltTy} (c : Dev nD) (M : Memref sig .tc sp s e) {U I J : Finset (Idx (M.view.loc (c : Thread nD τ)))}
    (hU : U = I ∪ J) (h : Disjoint I J) (f : Buf (Elt F) (M.view.loc (c : Thread nD τ))) :
    (pm c M U f : sProp 𝕄) = iprop(pm c M I f ∗ pm c M J f) := by
  subst hU; exact equiv_iff.mp ⟨(pointsTo_union h).1, (pointsTo_union h).2⟩

/-! ## Rows -/

theorem rows_disj {a n b k : ℕ} (h : a + n ≤ b ∨ b + k ≤ a) : Disjoint (rows a n) (rows b k) :=
  Finset.disjoint_left.mpr fun i hi hj => by
    rw [mem_rows] at hi hj; omega

theorem row_cases : ∀ (c : Dev nD) (w : Fin 2),
    (row1 c w = row0 c w ∧ row1' c w = row0 c w + 128 ∨ row1' c w = row0 c w ∧ row1 c w = row0 c w + 128)
    ∧ (row0 c w = 512 * w.val ∧ row0' c w = 512 * w.val + 256 ∨ row0' c w = 512 * w.val ∧ row0 c w = 512 * w.val + 256) := by decide

theorem bo_row : ∀ c : Dev nD, 256 * bo c 0 = row0' c 0 ∧ 256 * bo c 1 = row0' c 1 ∧ 256 * bo c 2 = row0 c 0 ∧ 256 * bo c 3 = row0 c 1 := by decide

theorem rows_half (c : Dev nD) (w : Fin 2) : rows (row0 c w) 256 = rows (row1 c w) 128 ∪ rows (row1' c w) 128 := by
  have := (row_cases c w).1
  ext i
  rw [Finset.mem_union, mem_rows, mem_rows, mem_rows]
  omega
theorem rows_half_disj (c : Dev nD) (w : Fin 2) : Disjoint (rows (row1 c w) 128) (rows (row1' c w) 128) :=
  rows_disj (by have := (row_cases c w).1; omega)
theorem rows_w (c : Dev nD) (w : Fin 2) : rows (512 * w.val) 512 = rows (row0 c w) 256 ∪ rows (row0' c w) 256 := by
  have := (row_cases c w).2
  ext i
  rw [Finset.mem_union, mem_rows, mem_rows, mem_rows]
  omega
theorem rows_w_disj (c : Dev nD) (w : Fin 2) : Disjoint (rows (row0 c w) 256) (rows (row0' c w) 256) :=
  rows_disj (by have := (row_cases c w).2; omega)
theorem rows_univ : (Finset.univ : Finset S1024x1024.Idx) = rows (512 * (0 : Fin 2).val) 512 ∪ rows (512 * (1 : Fin 2).val) 512 := by
  ext i
  have : (i 0).val < 1024 := (i 0).isLt
  rw [Finset.mem_union, mem_rows, mem_rows]
  simp only [Finset.mem_univ, true_iff, Fin.val_zero, Fin.val_one]
  omega
theorem rows_univ_disj : Disjoint (rows (512 * (0 : Fin 2).val) 512) (rows (512 * (1 : Fin 2).val) 512) := rows_disj (.inl (by decide))

/-- A square buffer by the row blocks of the first step. -/
theorem acc_univ (c : Dev nD) (f) : (pm c bAcc Finset.univ f : sProp 𝕄)
    = iprop((pm c bAcc (rows (row0 c 0) 256) f ∗ pm c bAcc (rows (row0' c 0) 256) f) ∗ (pm c bAcc (rows (row0 c 1) 256) f ∗ pm c bAcc (rows (row0' c 1) 256) f)) := by
  rw [pm_union c bAcc rows_univ rows_univ_disj, pm_union c bAcc (rows_w c 0) (rows_w_disj c 0), pm_union c bAcc (rows_w c 1) (rows_w_disj c 1)]
theorem out_univ (c : Dev nD) (f) : (pm c bOut Finset.univ f : sProp 𝕄)
    = iprop((pm c bOut (rows (row0 c 0) 256) f ∗ pm c bOut (rows (row0' c 0) 256) f) ∗ (pm c bOut (rows (row0 c 1) 256) f ∗ pm c bOut (rows (row0' c 1) 256) f)) := by
  rw [pm_union c bOut rows_univ rows_univ_disj, pm_union c bOut (rows_w c 0) (rows_w_disj c 0), pm_union c bOut (rows_w c 1) (rows_w_disj c 1)]
theorem acc_half (c : Dev nD) (w : Fin 2) (f) : (pm c bAcc (rows (row0 c w) 256) f : sProp 𝕄)
    = iprop(pm c bAcc (rows (row1 c w) 128) f ∗ pm c bAcc (rows (row1' c w) 128) f) := pm_union c bAcc (rows_half c w) (rows_half_disj c w) f
theorem out_half (c : Dev nD) (w : Fin 2) (f) : (pm c bOut (rows (row0 c w) 256) f : sProp 𝕄)
    = iprop(pm c bOut (rows (row1 c w) 128) f ∗ pm c bOut (rows (row1' c w) 128) f) := pm_union c bOut (rows_half c w) (rows_half_disj c w) f

/-- The pieces of the accumulator, whatever they hold, are the accumulator. -/
theorem acc_back (c : Dev nD) : (iprop(((pe c bAcc (rows (row1 c 0) 128) ∗ pe c bAcc (rows (row1' c 0) 128)) ∗ pe c bAcc (rows (row0' c 0) 256))
    ∗ ((pe c bAcc (rows (row1 c 1) 128) ∗ pe c bAcc (rows (row1' c 1) 128)) ∗ pe c bAcc (rows (row0' c 1) 256))) : sProp 𝕄) ⊢ pe c bAcc Finset.univ := by
  have h0 := pe_join (F := F) c bAcc _ _ (rows_half_disj c 0)
  have h1 := pe_join (F := F) c bAcc _ _ (rows_half_disj c 1)
  have h2 := pe_join (F := F) c bAcc _ _ (rows_w_disj c 0)
  have h3 := pe_join (F := F) c bAcc _ _ (rows_w_disj c 1)
  have h4 := pe_join (F := F) c bAcc _ _ rows_univ_disj
  rw [← rows_half] at h0 h1
  rw [← rows_w] at h2 h3
  rw [← rows_univ] at h4
  exact (BI.sep_mono ((BI.sep_mono h0 (BI.Entails.refl _)).trans h2) ((BI.sep_mono h1 (BI.Entails.refl _)).trans h3)).trans h4

/-! ## The landing buffers -/

def P0S (w : ℕ) : Finset S2x256x1024.Idx := Finset.univ.filter fun i => (i 0).val = w
def P1S (w : ℕ) : Finset S2x128x1024.Idx := Finset.univ.filter fun i => (i 0).val = w

theorem p0Rect (w : ℕ) (inb : ∀ a : Fin 3, (![w, 0, 0] : Fin 3 → ℕ) a + S1x256x1024.size a ≤ S2x256x1024.size a) :
    (Rect.unit (s := S2x256x1024) ![w, 0, 0] S1x256x1024.size inb).set = P0S w := by
  ext i
  rw [Rect.mem_set_unit]
  simp only [P0S, Finset.mem_filter, Finset.mem_univ, true_and]
  have h1 : (i 1).val < 256 := (i 1).isLt
  have h2 : (i 2).val < 1024 := (i 2).isLt
  constructor
  · intro H
    have a0 : w ≤ (i 0).val ∧ (i 0).val < w + 1 := H 0
    omega
  · intro e a
    match a with
    | 0 => exact ⟨e.ge, by rw [e]; exact Nat.lt_succ_self _⟩
    | 1 => exact ⟨Nat.zero_le _, lt_of_lt_of_eq h1 (Nat.zero_add _).symm⟩
    | 2 => exact ⟨Nat.zero_le _, lt_of_lt_of_eq h2 (Nat.zero_add _).symm⟩
theorem p1Rect (w : ℕ) (inb : ∀ a : Fin 3, (![w, 0, 0] : Fin 3 → ℕ) a + S1x128x1024.size a ≤ S2x128x1024.size a) :
    (Rect.unit (s := S2x128x1024) ![w, 0, 0] S1x128x1024.size inb).set = P1S w := by
  ext i
  rw [Rect.mem_set_unit]
  simp only [P1S, Finset.mem_filter, Finset.mem_univ, true_and]
  have h1 : (i 1).val < 128 := (i 1).isLt
  have h2 : (i 2).val < 1024 := (i 2).isLt
  constructor
  · intro H
    have a0 : w ≤ (i 0).val ∧ (i 0).val < w + 1 := H 0
    omega
  · intro e a
    match a with
    | 0 => exact ⟨e.ge, by rw [e]; exact Nat.lt_succ_self _⟩
    | 1 => exact ⟨Nat.zero_le _, lt_of_lt_of_eq h1 (Nat.zero_add _).symm⟩
    | 2 => exact ⟨Nat.zero_le _, lt_of_lt_of_eq h2 (Nat.zero_add _).symm⟩

theorem p0_univ : (Finset.univ : Finset S2x256x1024.Idx) = P0S 0 ∪ P0S 1 := by
  ext i
  have : (i 0).val < 2 := (i 0).isLt
  rw [Finset.mem_union]
  simp only [P0S, Finset.mem_filter, Finset.mem_univ, true_and, true_iff]
  omega
theorem p0_disj : Disjoint (P0S 0) (P0S 1) := Finset.disjoint_left.mpr fun i hi hj => by
  simp only [P0S, Finset.mem_filter] at hi hj; omega
theorem p1_univ : (Finset.univ : Finset S2x128x1024.Idx) = P1S 0 ∪ P1S 1 := by
  ext i
  have : (i 0).val < 2 := (i 0).isLt
  rw [Finset.mem_union]
  simp only [P1S, Finset.mem_filter, Finset.mem_univ, true_and, true_iff]
  omega
theorem p1_disj : Disjoint (P1S 0) (P1S 1) := Finset.disjoint_left.mpr fun i hi hj => by
  simp only [P1S, Finset.mem_filter] at hi hj; omega

theorem P0_univ (c : Dev nD) (f) : (pm c bP0 Finset.univ f : sProp 𝕄) = iprop(pm c bP0 (P0S 0) f ∗ pm c bP0 (P0S 1) f) := pm_union c bP0 p0_univ p0_disj f
theorem P1_univ (c : Dev nD) (f) : (pm c bP1 Finset.univ f : sProp 𝕄) = iprop(pm c bP1 (P1S 0) f ∗ pm c bP1 (P1S 1) f) := pm_union c bP1 p1_univ p1_disj f
theorem P2_univ (c : Dev nD) (f) : (pm c bP2 Finset.univ f : sProp 𝕄) = iprop(pm c bP2 (P1S 0) f ∗ pm c bP2 (P1S 1) f) := pm_union c bP2 p1_univ p1_disj f

/-- What a load of a whole buffer's rectangle reads lies in the rectangle. -/
theorem load_sub (b : Ref sig .tc) (r : LoadRect b.ty.shape) {i : b.ty.shape.Idx} (h : i ∈ (Memref.whole b).view.setOn r.set) : i ∈ r.set := by
  obtain ⟨x, hx, rfl⟩ := Finset.mem_map.1 h
  exact hx

theorem p0_load (w : Fin 2) : (bP0.view.setOn (p0R w).toLoadRect.set : Finset S2x256x1024.Idx) ⊆ P0S w.val := by
  rw [← p0Rect w.val (p0_inb w)]; exact fun i hi => load_sub cc0_scratch6 (p0R w).toLoadRect hi
theorem p1_load (w : Fin 2) : (bP1.view.setOn (p1R w).toLoadRect.set : Finset S2x128x1024.Idx) ⊆ P1S w.val := by
  rw [← p1Rect w.val (p1_inb w)]; exact fun i hi => load_sub cc0_scratch7 (p1R w).toLoadRect hi
theorem p2_load (w : Fin 2) : (bP2.view.setOn (p1R w).toLoadRect.set : Finset S2x128x1024.Idx) ⊆ P1S w.val := by
  rw [← p1Rect w.val (p1_inb w)]; exact fun i hi => load_sub cc0_scratch8 (p1R w).toLoadRect hi

/-! ## The exchanges' payloads -/

theorem src0 (c : Dev nD) : sendPay m c 0 = pm c bAcc (rows (row0' c 0) 256) (accA m c) := congrArg (fun S => pm c bAcc S (accA m c)) (src0_set c)
theorem src1 (c : Dev nD) : sendPay m c 1 = pm c bAcc (rows (row0' c 1) 256) (accA m c) := congrArg (fun S => pm c bAcc S (accA m c)) (src1_set c)
theorem src2 (c : Dev nD) : sendPay m c 2 = pm c bAcc (rows (row1' c 0) 128) (acc1 m c) := congrArg (fun S => pm c bAcc S (acc1 m c)) (src2_set c)
theorem src3 (c : Dev nD) : sendPay m c 3 = pm c bAcc (rows (row1' c 1) 128) (acc1 m c) := congrArg (fun S => pm c bAcc S (acc1 m c)) (src3_set c)
theorem src4 (c : Dev nD) : sendPay m c 4 = pm c bAcc (rows (row1 c 0) 128) (acc2 m c) := congrArg (fun S => pm c bAcc S (acc2 m c)) (src4_set c)
theorem src5 (c : Dev nD) : sendPay m c 5 = pm c bAcc (rows (row1 c 1) 128) (acc2 m c) := congrArg (fun S => pm c bAcc S (acc2 m c)) (src5_set c)
theorem src6 (c : Dev nD) : sendPay m c 6 = pm c bOut (rows (row1 c 0) 128) (finC m c) := congrArg (fun S => pm c bOut S (finC m c)) (src6_set c)
theorem src7 (c : Dev nD) : sendPay m c 7 = pm c bOut (rows (row1 c 1) 128) (finC m c) := congrArg (fun S => pm c bOut S (finC m c)) (src7_set c)
theorem src8 (c : Dev nD) : sendPay m c 8 = pm c bOut (rows (row0 c 0) 256) (finC m c) := congrArg (fun S => pm c bOut S (finC m c)) (src8_set c)
theorem src9 (c : Dev nD) : sendPay m c 9 = pm c bOut (rows (row0 c 1) 256) (finC m c) := congrArg (fun S => pm c bOut S (finC m c)) (src9_set c)

theorem p0Set (w : ℕ) (inb : ∀ a : Fin 3, (![w, 0, 0] : Fin 3 → ℕ) a + S1x256x1024.size a ≤ S2x256x1024.size a) :
    (((bP0.slice (Rect.unit (s := S2x256x1024) ![w, 0, 0] S1x256x1024.size inb) (fun _ => rfl)).squeeze S256x1024 squeezes_S1x256x1024_S256x1024).view.set
      : Finset S2x256x1024.Idx) = P0S w := (View.set_reshape _ _).trans ((View.set_slice_whole _ _).trans (p0Rect w inb))
theorem p1Set (w : ℕ) (inb : ∀ a : Fin 3, (![w, 0, 0] : Fin 3 → ℕ) a + S1x128x1024.size a ≤ S2x128x1024.size a) :
    (((bP1.slice (Rect.unit (s := S2x128x1024) ![w, 0, 0] S1x128x1024.size inb) (fun _ => rfl)).squeeze S128x1024 squeezes_S1x128x1024_S128x1024).view.set
      : Finset S2x128x1024.Idx) = P1S w := (View.set_reshape _ _).trans ((View.set_slice_whole _ _).trans (p1Rect w inb))
theorem p2Set (w : ℕ) (inb : ∀ a : Fin 3, (![w, 0, 0] : Fin 3 → ℕ) a + S1x128x1024.size a ≤ S2x128x1024.size a) :
    (((bP2.slice (Rect.unit (s := S2x128x1024) ![w, 0, 0] S1x128x1024.size inb) (fun _ => rfl)).squeeze S128x1024 squeezes_S1x128x1024_S128x1024).view.set
      : Finset S2x128x1024.Idx) = P1S w := (View.set_reshape _ _).trans ((View.set_slice_whole _ _).trans (p1Rect w inb))

/-- The landing regions on `c` of its partner's exchanges. -/
theorem dst0 (c : Dev nD) (f : FVec F S2x256x1024 .bf16) : (dstPts (xp c 0) c 0 f : sProp 𝕄) = pm c bP0 (P0S 0) f := congrArg (fun S => pm c bP0 S f) (p0Set 0 _)
theorem dst1 (c : Dev nD) (f : FVec F S2x256x1024 .bf16) : (dstPts (xp c 1) c 1 f : sProp 𝕄) = pm c bP0 (P0S 1) f := congrArg (fun S => pm c bP0 S f) (p0Set 1 _)
theorem dst2 (c : Dev nD) (f : FVec F S2x128x1024 .bf16) : (dstPts (xp c 2) c 2 f : sProp 𝕄) = pm c bP1 (P1S 0) f := congrArg (fun S => pm c bP1 S f) (p1Set 0 _)
theorem dst3 (c : Dev nD) (f : FVec F S2x128x1024 .bf16) : (dstPts (xp c 3) c 3 f : sProp 𝕄) = pm c bP1 (P1S 1) f := congrArg (fun S => pm c bP1 S f) (p1Set 1 _)
theorem dst4 (c : Dev nD) (f : FVec F S2x128x1024 .bf16) : (dstPts (xp c 4) c 4 f : sProp 𝕄) = pm c bP2 (P1S 0) f := congrArg (fun S => pm c bP2 S f) (p2Set 0 _)
theorem dst5 (c : Dev nD) (f : FVec F S2x128x1024 .bf16) : (dstPts (xp c 5) c 5 f : sProp 𝕄) = pm c bP2 (P1S 1) f := congrArg (fun S => pm c bP2 S f) (p2Set 1 _)
theorem dst6 (c : Dev nD) (f : FVec F S1024x1024 .bf16) : (dstPts (xp c 6) c 6 f : sProp 𝕄) = pm c bOut (rows (row1' c 0) 128) f :=
  congrArg (fun S => pm c bOut S f) ((src6_set (xp c 6)).trans (congrArg (rows · 128) (row1_par c 0)))
theorem dst7 (c : Dev nD) (f : FVec F S1024x1024 .bf16) : (dstPts (xp c 7) c 7 f : sProp 𝕄) = pm c bOut (rows (row1' c 1) 128) f :=
  congrArg (fun S => pm c bOut S f) ((src7_set (xp c 7)).trans (congrArg (rows · 128) (row1_par c 1)))
theorem dst8 (c : Dev nD) (f : FVec F S1024x1024 .bf16) : (dstPts (xp c 8) c 8 f : sProp 𝕄) = pm c bOut (rows (row0' c 0) 256) f :=
  congrArg (fun S => pm c bOut S f) ((src8_set (xp c 8)).trans (congrArg (rows · 256) (row0_par c 0)))
theorem dst9 (c : Dev nD) (f : FVec F S1024x1024 .bf16) : (dstPts (xp c 9) c 9 f : sProp 𝕄) = pm c bOut (rows (row0' c 1) 256) f :=
  congrArg (fun S => pm c bOut S f) ((src9_set (xp c 9)).trans (congrArg (rows · 256) (row0_par c 1)))

theorem rec0 (c : Dev nD) : recvPay m c 0 = pm c bP0 (P0S 0) (p0C m c) := dst0 c _
theorem rec1 (c : Dev nD) : recvPay m c 1 = pm c bP0 (P0S 1) (p0C m c) := dst1 c _
theorem rec2 (c : Dev nD) : recvPay m c 2 = pm c bP1 (P1S 0) (p1C m c) := dst2 c _
theorem rec3 (c : Dev nD) : recvPay m c 3 = pm c bP1 (P1S 1) (p1C m c) := dst3 c _
theorem rec4 (c : Dev nD) : recvPay m c 4 = pm c bP2 (P1S 0) (p2C m c) := dst4 c _
theorem rec5 (c : Dev nD) : recvPay m c 5 = pm c bP2 (P1S 1) (p2C m c) := dst5 c _
theorem rec6 (c : Dev nD) : recvPay m c 6 = pm c bOut (rows (row1' c 0) 128) (finC m c) := dst6 c _
theorem rec7 (c : Dev nD) : recvPay m c 7 = pm c bOut (rows (row1' c 1) 128) (finC m c) := dst7 c _
theorem rec8 (c : Dev nD) : recvPay m c 8 = pm c bOut (rows (row0' c 0) 256) (finC m c) := dst8 c _
theorem rec9 (c : Dev nD) : recvPay m c 9 = pm c bOut (rows (row0' c 1) 256) (finC m c) := dst9 c _

/-! ## The value buffer -/

theorem vones_disj (s : ℕ) : Disjoint (vslot s) vOnes := Finset.disjoint_left.mpr fun i hi hj => by
  rw [vOnes_set] at hj
  simp only [vslot, Finset.mem_filter] at hi hj; omega
theorem vslots_disj : Disjoint (vslot 0) (vslot 1) := Finset.disjoint_left.mpr fun i hi hj => by
  simp only [vslot, Finset.mem_filter] at hi hj; omega
theorem vs_univ : (Finset.univ : Finset S2x8x1024x256.Idx) = (vslot 0 ∪ vslot 1) ∪ vOnes := by
  rw [vOnes_set]
  ext i
  have : (i 0).val < 2 := (i 0).isLt
  simp only [vslot, Finset.mem_union, Finset.mem_filter, Finset.mem_univ, true_and, true_iff]
  omega
theorem vs_univ_disj : Disjoint (vslot 0 ∪ vslot 1) vOnes := Finset.disjoint_union_left.mpr ⟨vones_disj 0, vones_disj 1⟩
theorem ks_univ : (Finset.univ : Finset S2x8x1024x128.Idx) = kslot 0 ∪ kslot 1 := by
  ext i
  have : (i 0).val < 2 := (i 0).isLt
  simp only [kslot, Finset.mem_union, Finset.mem_filter, Finset.mem_univ, true_and, true_iff]
  omega
theorem ks_disj : Disjoint (kslot 0) (kslot 1) := Finset.disjoint_left.mpr fun i hi hj => by
  simp only [kslot, Finset.mem_filter] at hi hj; omega

theorem Ks_univ (c : Dev nD) (f) : (pm c bKs Finset.univ f : sProp 𝕄) = iprop(pm c bKs (kslot 0) f ∗ pm c bKs (kslot 1) f) := pm_union c bKs ks_univ ks_disj f
theorem Vs_univ (c : Dev nD) (f) : (pm c bVs Finset.univ f : sProp 𝕄) = iprop((pm c bVs (vslot 0) f ∗ pm c bVs (vslot 1) f) ∗ pm c bVs vOnes f) := by
  rw [pm_union c bVs vs_univ vs_univ_disj, pm_union c bVs rfl vslots_disj]
theorem Ks_back (c : Dev nD) : (iprop(pe c bKs (kslot 0) ∗ pe c bKs (kslot 1)) : sProp 𝕄) ⊢ pe c bKs Finset.univ := by
  have h := pe_join (F := F) c bKs _ _ ks_disj
  rw [← ks_univ] at h; exact h
theorem Vs_back (c : Dev nD) : (iprop((pe c bVs (vslot 0) ∗ pe c bVs (vslot 1)) ∗ pe c bVs vOnes) : sProp 𝕄) ⊢ pe c bVs Finset.univ := by
  have h := pe_join (F := F) c bVs _ _ vs_univ_disj
  rw [← vs_univ] at h; exact (BI.sep_mono (pe_join c bVs _ _ vslots_disj) (BI.Entails.refl _)).trans h

/-- The ones beside the values are the same at every place. -/
theorem ones_any (c : Dev nD) (p : Fin 4) : (pm c bVs vOnes (vsC m c 0) : sProp 𝕄) = pm c bVs vOnes (vsC m c p) :=
  pointsTo_congr fun i hi => by
    rw [vOnes_set, Finset.mem_filter] at hi
    unfold vsC
    rw [dif_neg (Nat.not_lt.mpr hi.2), dif_neg (Nat.not_lt.mpr hi.2)]

theorem k_load (p : Fin 4) (h : Fin 8) : (bKs.view.setOn (kR p h).toLoadRect.set : Finset S2x8x1024x128.Idx) ⊆ kslot (slot p) := by
  intro i hi
  have h0 := Rect.mem_set_unit.mp (load_sub cc0_scratch0 (kR p h).toLoadRect hi) 0
  have a0 : p.val % 2 ≤ (i 0).val ∧ (i 0).val < p.val % 2 + 1 := h0
  simp only [kslot, Finset.mem_filter, Finset.mem_univ, true_and]
  show (i 0).val = p.val % 2
  omega
theorem v_load (p : Fin 4) (h : Fin 8) : (bVs.view.setOn (vR p h).toLoadRect.set : Finset S2x8x1024x256.Idx) ⊆ vslot (slot p) ∪ vOnes := by
  rw [vOnes_set]
  intro i hi
  have h0 := Rect.mem_set_unit.mp (load_sub cc0_scratch1 (vR p h).toLoadRect hi) 0
  have a0 : p.val % 2 ≤ (i 0).val ∧ (i 0).val < p.val % 2 + 1 := h0
  simp only [vslot, Finset.mem_union, Finset.mem_filter, Finset.mem_univ, true_and]
  by_cases h3 : (i 3).val < 128
  · exact .inl ⟨by show (i 0).val = p.val % 2; omega, h3⟩
  · exact .inr (Nat.not_lt.mp h3)

/-! ## The cache -/

theorem KC_disj (c : Dev nD) : ∀ t ∈ (Finset.univ : Finset (Fin 4 × Fin 8)), ∀ t' ∈ (Finset.univ : Finset (Fin 4 × Fin 8)), t ≠ t' →
    Disjoint (KC c t.1 t.2) (KC c t'.1 t'.2) :=
  fun t _ t' _ hn => Finset.disjoint_left.mpr fun i hi hj => hn (by
    simp only [KC, Finset.mem_filter] at hi hj
    have hb : bo c t.1 = bo c t'.1 := hi.2.1.symm.trans hj.2.1
    refine Prod.ext ?_ (Fin.ext (by omega))
    rw [← po_bo c t.1, ← po_bo c t'.1, hb])

/-- The part of the cache that is not a device's own. -/
def cacheRest (c : Dev nD) : Finset S4x1024x64x128.Idx := Finset.univ \ Finset.univ.biUnion fun t : Fin 4 × Fin 8 => KC c t.1 t.2

theorem byPlace (A : Fin 4 × Fin 8 → sProp 𝕄) : bigSep Finset.univ A
    = iprop(bigSep Finset.univ (fun h => A (0, h)) ∗ bigSep Finset.univ (fun h => A (1, h)) ∗ bigSep Finset.univ (fun h => A (2, h)) ∗ bigSep Finset.univ (fun h => A (3, h))) := by
  rw [bigSep_univ_prod, bigSep_univ_eq_bigSepL [0, 1, 2, 3] (by decide) (by decide)]
  simp only [bigSepL_cons_cons, bigSepL_singleton]
  rfl

theorem K_univ (c : Dev nD) : (pm c bK Finset.univ (keyC m c) : sProp 𝕄)
    = iprop((kcache m c 0 ∗ kcache m c 1 ∗ kcache m c 2 ∗ kcache m c 3) ∗ pm c bK (cacheRest c) (keyC m c)) := by
  have h : (pm c bK Finset.univ (keyC m c) : sProp 𝕄) = iprop(pm c bK (Finset.univ.biUnion fun t : Fin 4 × Fin 8 => KC c t.1 t.2) (keyC m c) ∗ pm c bK (cacheRest c) (keyC m c)) :=
    equiv_iff.mp ⟨(pointsTo_split_subset (Finset.subset_univ _)).1, (pointsTo_split_subset (Finset.subset_univ _)).2⟩
  have h2 : (pm c bK (Finset.univ.biUnion fun t : Fin 4 × Fin 8 => KC c t.1 t.2) (keyC m c) : sProp 𝕄)
      = bigSep Finset.univ fun t : Fin 4 × Fin 8 => pm c bK (KC c t.1 t.2) (keyC m c) := pointsTo_biUnion _ _ (KC_disj c)
  rw [h, h2, byPlace]; rfl
theorem V_univ (c : Dev nD) : (pm c bV Finset.univ (valC m c) : sProp 𝕄)
    = iprop((vcache m c 0 ∗ vcache m c 1 ∗ vcache m c 2 ∗ vcache m c 3) ∗ pm c bV (cacheRest c) (valC m c)) := by
  have h : (pm c bV Finset.univ (valC m c) : sProp 𝕄) = iprop(pm c bV (Finset.univ.biUnion fun t : Fin 4 × Fin 8 => KC c t.1 t.2) (valC m c) ∗ pm c bV (cacheRest c) (valC m c)) :=
    equiv_iff.mp ⟨(pointsTo_split_subset (Finset.subset_univ _)).1, (pointsTo_split_subset (Finset.subset_univ _)).2⟩
  have h2 : (pm c bV (Finset.univ.biUnion fun t : Fin 4 × Fin 8 => KC c t.1 t.2) (valC m c) : sProp 𝕄)
      = bigSep Finset.univ fun t : Fin 4 × Fin 8 => pm c bV (KC c t.1 t.2) (valC m c) := pointsTo_biUnion _ _ (KC_disj c)
  rw [h, h2, byPlace]; rfl

end Cert.KernelIdeal.Hand
-- ==== Proof.Phases.lean ====
/-
The body in phases: the set-up, a block of a batch element, and the five steps of the exchanges.
-/
module

public import proofs.«01_k».proof.Proof.Regions

@[expose] public section

noncomputable section

namespace Cert.KernelIdeal.Hand

open Cert.KernelIdeal Cert.KernelIdeal.Gen Cert.Rows
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)

/-! ## What a device holds throughout -/

/-- The three staged inputs. -/
def ins (c : Dev nD) : sProp 𝕄 := iprop(pm c bX Finset.univ (xC m c) ∗ pm c bWq Finset.univ (wqC m c) ∗ pm c bWo Finset.univ (woC m c))
/-- The queries, the rounded weights, the attention buffer, and the ones. -/
def work (c : Dev nD) : sProp 𝕄 :=
  iprop(pm c bQ Finset.univ (qC m c) ∗ pm c bWb Finset.univ (wobC m c) ∗ pe c bAt Finset.univ ∗ pm c bVs vOnes (vsC m c 0))
/-- A place's slots and copy semaphores, at rest. -/
def idle (c : Dev nD) (p : Fin 4) : sProp 𝕄 :=
  iprop((semVal ((c : Thread nD τ), .dma (kvSem p 0)) 0 ∗ semVal ((c : Thread nD τ), .dma (kvSem p 1)) 0)
    ∗ pe c bKs (kslot (slot p)) ∗ pe c bVs (vslot (slot p)))
/-- A place's own part of the cache. -/
def cache (c : Dev nD) (p : Fin 4) : sProp 𝕄 := iprop(kcache m c p ∗ vcache m c p)

theorem wp_start (c : Dev nD) (p : Fin 4) {k : PR F PUnit} {Q : PUnit → sProp 𝕄} :
    iprop(idle c p ∗ cache m c p) ⊢ iprop((flying m c p -∗ WP c k Q) -∗ WP c (seq8 (startKV c p) k) Q) := by
  unfold idle cache
  iintro ⟨⟨⟨Hz0, Hz1⟩, ⟨%fk, Hk⟩, ⟨%fv, Hv⟩⟩, Hc, Hd⟩ Hcont
  iapply (wp_startAll m c p fk fv) $$ [Hz0 Hz1 Hk Hv Hc Hd]
  · isplitl [Hz0]; · iexact Hz0
    isplitl [Hz1]; · iexact Hz1
    isplitl [Hk]; · iexact Hk
    isplitl [Hv]; · iexact Hv
    isplitl [Hc]; · iexact Hc
    iexact Hd
  iexact Hcont

/-- The set-up: the ones, the queries, the weights, and the first two places' copies started. -/
theorem wp_setup (c : Dev nD) {k : PR F PUnit} {Q : PUnit → sProp 𝕄} :
    iprop(ins m c ∗ (pe c bQ Finset.univ ∗ pe c bWb Finset.univ ∗ pe c bAt Finset.univ ∗ pe c bVs vOnes)
        ∗ (idle c 0 ∗ cache m c 0) ∗ (idle c 1 ∗ cache m c 1))
      ⊢ iprop(((ins m c ∗ work m c ∗ flying m c 0 ∗ flying m c 1) -∗ WP c k Q)
        -∗ WP c (onesU <| seq8 (startKV c 0) <| qU <| woU <| seq8 (startKV c 1) k) Q) := by
  unfold ins work
  iintro ⟨⟨Hx, Hwq, Hwo⟩, ⟨⟨%f1, Hq⟩, ⟨%f2, Hwb⟩, Hat, ⟨%f3, Hv⟩⟩, H0, H1⟩ Hcont
  iapply (wp_ones m c 0 f3) $$ Hv; iintro Hv
  iapply (wp_start m c 0) $$ H0; iintro H0
  iapply (wp_q m c f1) $$ [Hx Hwq Hq]
  · isplitl [Hx]; · iexact Hx
    isplitl [Hwq]; · iexact Hwq
    iexact Hq
  iintro ⟨Hx, Hwq, Hq⟩
  iapply (wp_wo m c f2) $$ [Hwo Hwb]
  · isplitl [Hwo]; · iexact Hwo
    iexact Hwb
  iintro ⟨Hwo, Hwb⟩
  iapply (wp_start m c 1) $$ H1; iintro H1
  iapply Hcont
  isplitl [Hx Hwq Hwo]
  · isplitl [Hx]; · iexact Hx
    isplitl [Hwq]; · iexact Hwq
    iexact Hwo
  isplitl [Hq Hwb Hat Hv]
  · isplitl [Hq]; · iexact Hq
    isplitl [Hwb]; · iexact Hwb
    isplitl [Hat]; · iexact Hat
    iexact Hv
  isplitl [H0]; · iexact H0
  iexact H1

/-- A place's copies waited for, and its block done. -/
theorem wp_place (c : Dev nD) (p : Fin 4) (i : ℕ) (hi : i ≤ 10) {k : PR F PUnit} {Q : PUnit → sProp 𝕄} :
    iprop(levAts L lv ∗ owesX c (OR c i) ∗ flying m c p ∗ work m c ∗ pe c bAcc (rows (256 * bo c p) 256))
      ⊢ iprop(((owesX c (OR c i) ∗ idle c p ∗ cache m c p ∗ work m c ∗ pm c bAcc (rows (256 * bo c p) 256) (accA m c)) -∗ WP c k Q)
        -∗ WP c (seq8 (waitKV c p) <| blockU c p k) Q) := by
  unfold work blockU
  iintro ⟨#Hlev, HO, Hf, ⟨Hq, Hwb, ⟨%fa, Hat⟩, Hv1⟩, ⟨%f, Hacc⟩⟩ Hcont
  iapply (wp_waitAll m c p i hi) $$ [HO Hf]
  · isplitr; · iexact Hlev
    isplitl [HO]; · iexact HO
    iexact Hf
  iintro ⟨HO, Hz, ⟨Hk, Hv⟩, Hc, Hd⟩
  ihave Hv1 := (Entails.of_eq (ones_any m c p)) $$ Hv1
  ihave Hv := (Entails.of_eq (pm_union c bVs rfl (vones_disj (slot p)) (vsC m c p)).symm) $$ [Hv Hv1]
  · isplitl [Hv]; · iexact Hv
    iexact Hv1
  iapply (wp_heads m c p _ _ (k_load p) (v_load p) fa) $$ [Hq Hk Hv Hat]
  · isplitl [Hq]; · iexact Hq
    isplitl [Hk]; · iexact Hk
    isplitl [Hv]; · iexact Hv
    iexact Hat
  iintro ⟨Hq, Hk, Hv, Hat⟩
  iapply (wp_proj m c p f) $$ [Hat Hwb Hacc]
  · isplitl [Hat]; · iexact Hat
    isplitl [Hwb]; · iexact Hwb
    iexact Hacc
  iintro ⟨Hat, Hwb, Hacc⟩
  ihave Hv := (Entails.of_eq (pm_union c bVs rfl (vones_disj (slot p)) (vsC m c p))) $$ Hv
  icases Hv with ⟨Hv, Hv1⟩
  ihave Hv1 := (Entails.of_eq (ones_any m c p).symm) $$ Hv1
  iapply Hcont
  isplitl [HO]; · iexact HO
  isplitl [Hz Hk Hv]
  · unfold idle
    isplitl [Hz]; · iexact Hz
    isplitl [Hk]; · iexists _; iexact Hk
    iexists _; iexact Hv
  isplitl [Hc Hd]
  · unfold cache
    isplitl [Hc]; · iexact Hc
    iexact Hd
  isplitr [Hacc]
  · isplitl [Hq]; · iexact Hq
    isplitl [Hwb]; · iexact Hwb
    isplitl [Hat]; · iexists _; iexact Hat
    iexact Hv1
  iexact Hacc

theorem idle2 (c : Dev nD) : (idle c 0 : sProp 𝕄) = idle c 2 := rfl
theorem idle3 (c : Dev nD) : (idle c 1 : sProp 𝕄) = idle c 3 := rfl

/-- The four blocks, the first two's projections sent as they are done. -/
theorem wp_attn (K : Dev nD × CI → ℕ) (c : Dev nD) {k : PR F PUnit} {Q : PUnit → sProp 𝕄} :
    iprop(recs m K ∗ levAts L lv ∗ owesX c (OR c 10) ∗ (flying m c 0 ∗ flying m c 1) ∗ work m c ∗ pe c bAcc Finset.univ
        ∗ (cache m c 2 ∗ cache m c 3) ∗ (ready c 0 ∗ ready c 1))
      ⊢ iprop(((owesX c (OR c 8) ∗ (idle c 0 ∗ idle c 1) ∗ work m c ∗ (cache m c 0 ∗ cache m c 1 ∗ cache m c 2 ∗ cache m c 3)
            ∗ (sent c 0 ∗ sent c 1) ∗ (pm c bAcc (rows (row0 c 0) 256) (accA m c) ∗ pm c bAcc (rows (row0 c 1) 256) (accA m c))) -∗ WP c k Q)
        -∗ WP c (seq8 (waitKV c 0) <| blockU c 0 <| sendU c 0 <| seq8 (startKV c 2) <|
            seq8 (waitKV c 1) <| blockU c 1 <| sendU c 1 <| seq8 (startKV c 3) <|
            seq8 (waitKV c 2) <| blockU c 2 <| seq8 (waitKV c 3) <| blockU c 3 k) Q) := by
  obtain ⟨hb0, hb1, hb2, hb3⟩ := bo_row c
  iintro ⟨#HR, #Hlev, HO, ⟨H0, H1⟩, Hw, ⟨%f, Ha⟩, ⟨Hc2, Hc3⟩, Hr0, Hr1⟩ Hcont
  ihave Ha := (Entails.of_eq (acc_univ c f)) $$ Ha
  icases Ha with ⟨⟨A2, A0⟩, A3, A1⟩
  iapply (wp_place m c 0 10 le_rfl) $$ [HO H0 Hw A0]
  · isplitr; · iexact Hlev
    isplitl [HO]; · iexact HO
    isplitl [H0]; · iexact H0
    isplitl [Hw]; · iexact Hw
    rw [hb0]; iexists f; iexact A0
  iintro ⟨HO, H0, Hc0, Hw, A0⟩
  iapply (wp_send m K c 0 9 rfl) $$ [HO A0 Hr0]
  · isplitr; · iexact HR
    isplitl [HO]; · iexact HO
    isplitl [A0]; · rw [src0, ← hb0]; iexact A0
    iexact Hr0
  iintro ⟨Hs0, HO⟩
  ihave H0 := (Entails.of_eq (idle2 c)) $$ H0
  iapply (wp_start m c 2) $$ [H0 Hc2]
  · isplitl [H0]; · iexact H0
    iexact Hc2
  iintro H0
  iapply (wp_place m c 1 9 (by decide)) $$ [HO H1 Hw A1]
  · isplitr; · iexact Hlev
    isplitl [HO]; · iexact HO
    isplitl [H1]; · iexact H1
    isplitl [Hw]; · iexact Hw
    rw [hb1]; iexists f; iexact A1
  iintro ⟨HO, H1, Hc1, Hw, A1⟩
  iapply (wp_send m K c 1 8 rfl) $$ [HO A1 Hr1]
  · isplitr; · iexact HR
    isplitl [HO]; · iexact HO
    isplitl [A1]; · rw [src1, ← hb1]; iexact A1
    iexact Hr1
  iintro ⟨Hs1, HO⟩
  ihave H1 := (Entails.of_eq (idle3 c)) $$ H1
  iapply (wp_start m c 3) $$ [H1 Hc3]
  · isplitl [H1]; · iexact H1
    iexact Hc3
  iintro H1
  iapply (wp_place m c 2 8 (by decide)) $$ [HO H0 Hw A2]
  · isplitr; · iexact Hlev
    isplitl [HO]; · iexact HO
    isplitl [H0]; · iexact H0
    isplitl [Hw]; · iexact Hw
    rw [hb2]; iexists f; iexact A2
  iintro ⟨HO, H0, Hc2, Hw, A2⟩
  iapply (wp_place m c 3 8 (by decide)) $$ [HO H1 Hw A3]
  · isplitr; · iexact Hlev
    isplitl [HO]; · iexact HO
    isplitl [H1]; · iexact H1
    isplitl [Hw]; · iexact Hw
    rw [hb3]; iexists f; iexact A3
  iintro ⟨HO, H1, Hc3, Hw, A3⟩
  rw [hb2, hb3]
  iapply Hcont
  isplitl [HO]; · iexact HO
  isplitl [H0 H1]
  · isplitl [H0]; · iapply (Entails.of_eq (idle2 c).symm); iexact H0
    iapply (Entails.of_eq (idle3 c).symm); iexact H1
  isplitl [Hw]; · iexact Hw
  isplitl [Hc0 Hc1 Hc2 Hc3]
  · isplitl [Hc0]; · iexact Hc0
    isplitl [Hc1]; · iexact Hc1
    isplitl [Hc2]; · iexact Hc2
    iexact Hc3
  isplitl [Hs0 Hs1]
  · isplitl [Hs0]; · iexact Hs0
    iexact Hs1
  isplitl [A2]; · iexact A2
  iexact A3

/-! ## The steps of the exchanges -/

/-- Exchange `k`'s two semaphores, at rest. -/
def xsems (c : Dev nD) (k : Fin 10) : sProp 𝕄 := iprop(semVal (sendCell c k) 0 ∗ semVal (recvCell c k) 0)

/-- One wait, its semaphores together. -/
theorem wp_wait' (K : Dev nD × CI → ℕ) (c : Dev nD) (k : Fin 10) (i : ℕ) (hi : i ≤ 10) (hl : ∀ k' : Fin 10, 10 ≤ i + k'.val → k.val / 2 < k'.val / 2)
    {p : PR F PUnit} {Q : PUnit → sProp 𝕄} :
    iprop(recs m K ∗ levAts L lv ∗ owesX c (OR c i) ∗ sent c k)
      ⊢ iprop(((owesX c (OR c i) ∗ sendPay m c k ∗ recvPay m c k ∗ xsems c k) -∗ WP c p Q) -∗ WP c (waitU c k p) Q) := by
  iintro H Hcont
  iapply (wp_wait m K c k i hi hl) $$ H
  iintro ⟨Hs, Hr, Hz1, Hz2, HO⟩
  iapply Hcont
  isplitl [HO]; · iexact HO
  isplitl [Hs]; · iexact Hs
  isplitl [Hr]; · iexact Hr
  unfold xsems
  isplitl [Hz1]; · iexact Hz1
  iexact Hz2

/-- Two sends, one after the other. -/
theorem wp_sends (K : Dev nD × CI → ℕ) (c : Dev nD) (k k' : Fin 10) (i : ℕ) (hi : i + 1 + k.val = 9) (hi' : i + k'.val = 9)
    {p : PR F PUnit} {Q : PUnit → sProp 𝕄} :
    iprop(recs m K ∗ owesX c (OR c (i + 2)) ∗ (sendPay m c k ∗ sendPay m c k') ∗ (ready c k ∗ ready c k'))
      ⊢ iprop(((owesX c (OR c i) ∗ sent c k ∗ sent c k') -∗ WP c p Q) -∗ WP c (sendU c k <| sendU c k' p) Q) := by
  iintro ⟨#HR, HO, ⟨Hs, Hs'⟩, Hr, Hr'⟩ Hcont
  iapply (wp_send m K c k (i + 1) hi) $$ [HO Hs Hr]
  · isplitr; · iexact HR
    isplitl [HO]; · iexact HO
    isplitl [Hs]; · iexact Hs
    iexact Hr
  iintro ⟨H1, HO⟩
  iapply (wp_send m K c k' i hi') $$ [HO Hs' Hr']
  · isplitr; · iexact HR
    isplitl [HO]; · iexact HO
    isplitl [Hs']; · iexact Hs'
    iexact Hr'
  iintro ⟨H2, HO⟩
  iapply Hcont
  isplitl [HO]; · iexact HO
  isplitl [H1]; · iexact H1
  iexact H2

/-- The first step: the partners' halves added. -/
theorem wp_step0 (K : Dev nD × CI → ℕ) (c : Dev nD) {k : PR F PUnit} {Q : PUnit → sProp 𝕄} :
    iprop(recs m K ∗ levAts L lv ∗ owesX c (OR c 8) ∗ (sent c 0 ∗ sent c 1)
        ∗ (pm c bAcc (rows (row0 c 0) 256) (accA m c) ∗ pm c bAcc (rows (row0 c 1) 256) (accA m c)))
      ⊢ iprop(((owesX c (OR c 8) ∗ (xsems c 0 ∗ xsems c 1) ∗ pe c bP0 Finset.univ
            ∗ (pe c bAcc (rows (row0' c 0) 256) ∗ pe c bAcc (rows (row0' c 1) 256))
            ∗ (pm c bAcc (rows (row1 c 0) 128) (acc1 m c) ∗ pm c bAcc (rows (row1 c 1) 128) (acc1 m c)) ∗ (sendPay m c 2 ∗ sendPay m c 3)) -∗ WP c k Q)
        -∗ WP c (waitU c 0 <| add0U c 0 <| waitU c 1 <| add0U c 1 k) Q) := by
  iintro ⟨#HR, #Hlev, HO, ⟨H0, H1⟩, A0, A1⟩ Hcont
  iapply (wp_wait' m K c 0 8 (by decide) (by decide)) $$ [HO H0]
  · isplitr; · iexact HR
    isplitr; · iexact Hlev
    isplitl [HO]; · iexact HO
    iexact H0
  rw [src0, rec0]
  iintro ⟨HO, B0, P0, Hz0⟩
  iapply (wp_add0 m c 0 _ (p0_load 0)) $$ [A0 P0]
  · isplitl [A0]; · iexact A0
    iexact P0
  iintro ⟨A0, P0⟩
  iapply (wp_wait' m K c 1 8 (by decide) (by decide)) $$ [HO H1]
  · isplitr; · iexact HR
    isplitr; · iexact Hlev
    isplitl [HO]; · iexact HO
    iexact H1
  rw [src1, rec1]
  iintro ⟨HO, B1, P1, Hz1⟩
  iapply (wp_add0 m c 1 _ (p0_load 1)) $$ [A1 P1]
  · isplitl [A1]; · iexact A1
    iexact P1
  iintro ⟨A1, P1⟩
  ihave A0 := (Entails.of_eq (acc_half c 0 (acc1 m c))) $$ A0
  icases A0 with ⟨A0, A0'⟩
  ihave A1 := (Entails.of_eq (acc_half c 1 (acc1 m c))) $$ A1
  icases A1 with ⟨A1, A1'⟩
  ihave P := (Entails.of_eq (P0_univ c (p0C m c)).symm) $$ [P0 P1]
  · isplitl [P0]; · iexact P0
    iexact P1
  rw [src2, src3]
  iapply Hcont
  isplitl [HO]; · iexact HO
  isplitl [Hz0 Hz1]
  · isplitl [Hz0]; · iexact Hz0
    iexact Hz1
  isplitl [P]; · iexists _; iexact P
  isplitl [B0 B1]
  · isplitl [B0]; · iexists _; iexact B0
    iexists _; iexact B1
  isplitl [A0 A1]
  · isplitl [A0]; · iexact A0
    iexact A1
  isplitl [A0']; · iexact A0'
  iexact A1'

/-- The second step. -/
theorem wp_step1 (K : Dev nD × CI → ℕ) (c : Dev nD) {k : PR F PUnit} {Q : PUnit → sProp 𝕄} :
    iprop(recs m K ∗ levAts L lv ∗ owesX c (OR c 6) ∗ (sent c 2 ∗ sent c 3)
        ∗ (pm c bAcc (rows (row1 c 0) 128) (acc1 m c) ∗ pm c bAcc (rows (row1 c 1) 128) (acc1 m c)))
      ⊢ iprop(((owesX c (OR c 6) ∗ (xsems c 2 ∗ xsems c 3) ∗ pe c bP1 Finset.univ
            ∗ (pe c bAcc (rows (row1' c 0) 128) ∗ pe c bAcc (rows (row1' c 1) 128)) ∗ (sendPay m c 4 ∗ sendPay m c 5)) -∗ WP c k Q)
        -∗ WP c (waitU c 2 <| add1U c 0 <| waitU c 3 <| add1U c 1 k) Q) := by
  iintro ⟨#HR, #Hlev, HO, ⟨H0, H1⟩, A0, A1⟩ Hcont
  iapply (wp_wait' m K c 2 6 (by decide) (by decide)) $$ [HO H0]
  · isplitr; · iexact HR
    isplitr; · iexact Hlev
    isplitl [HO]; · iexact HO
    iexact H0
  rw [src2, rec2]
  iintro ⟨HO, B0, P0, Hz0⟩
  iapply (wp_add1 m c 0 _ (p1_load 0)) $$ [A0 P0]
  · isplitl [A0]; · iexact A0
    iexact P0
  iintro ⟨A0, P0⟩
  iapply (wp_wait' m K c 3 6 (by decide) (by decide)) $$ [HO H1]
  · isplitr; · iexact HR
    isplitr; · iexact Hlev
    isplitl [HO]; · iexact HO
    iexact H1
  rw [src3, rec3]
  iintro ⟨HO, B1, P1, Hz1⟩
  iapply (wp_add1 m c 1 _ (p1_load 1)) $$ [A1 P1]
  · isplitl [A1]; · iexact A1
    iexact P1
  iintro ⟨A1, P1⟩
  ihave P := (Entails.of_eq (P1_univ c (p1C m c)).symm) $$ [P0 P1]
  · isplitl [P0]; · iexact P0
    iexact P1
  rw [src4, src5]
  iapply Hcont
  isplitl [HO]; · iexact HO
  isplitl [Hz0 Hz1]
  · isplitl [Hz0]; · iexact Hz0
    iexact Hz1
  isplitl [P]; · iexists _; iexact P
  isplitl [B0 B1]
  · isplitl [B0]; · iexists _; iexact B0
    iexists _; iexact B1
  isplitl [A0]; · iexact A0
  iexact A1

/-- The third step: the sums, in the output. -/
theorem wp_step2 (K : Dev nD × CI → ℕ) (c : Dev nD) {k : PR F PUnit} {Q : PUnit → sProp 𝕄} :
    iprop(recs m K ∗ levAts L lv ∗ owesX c (OR c 4) ∗ (sent c 4 ∗ sent c 5)
        ∗ (pe c bOut (rows (row1 c 0) 128) ∗ pe c bOut (rows (row1 c 1) 128)))
      ⊢ iprop(((owesX c (OR c 4) ∗ (xsems c 4 ∗ xsems c 5) ∗ pe c bP2 Finset.univ
            ∗ (pe c bAcc (rows (row1 c 0) 128) ∗ pe c bAcc (rows (row1 c 1) 128)) ∗ (sendPay m c 6 ∗ sendPay m c 7)) -∗ WP c k Q)
        -∗ WP c (waitU c 4 <| add2U c 0 <| waitU c 5 <| add2U c 1 k) Q) := by
  iintro ⟨#HR, #Hlev, HO, ⟨H0, H1⟩, ⟨%f0, O0⟩, ⟨%f1, O1⟩⟩ Hcont
  iapply (wp_wait' m K c 4 4 (by decide) (by decide)) $$ [HO H0]
  · isplitr; · iexact HR
    isplitr; · iexact Hlev
    isplitl [HO]; · iexact HO
    iexact H0
  rw [src4, rec4]
  iintro ⟨HO, A0, P0, Hz0⟩
  iapply (wp_add2 m c 0 _ (p2_load 0) f0) $$ [A0 P0 O0]
  · isplitl [A0]; · iexact A0
    isplitl [P0]; · iexact P0
    iexact O0
  iintro ⟨A0, P0, O0⟩
  iapply (wp_wait' m K c 5 4 (by decide) (by decide)) $$ [HO H1]
  · isplitr; · iexact HR
    isplitr; · iexact Hlev
    isplitl [HO]; · iexact HO
    iexact H1
  rw [src5, rec5]
  iintro ⟨HO, A1, P1, Hz1⟩
  iapply (wp_add2 m c 1 _ (p2_load 1) f1) $$ [A1 P1 O1]
  · isplitl [A1]; · iexact A1
    isplitl [P1]; · iexact P1
    iexact O1
  iintro ⟨A1, P1, O1⟩
  ihave P := (Entails.of_eq (P2_univ c (p2C m c)).symm) $$ [P0 P1]
  · isplitl [P0]; · iexact P0
    iexact P1
  rw [src6, src7]
  iapply Hcont
  isplitl [HO]; · iexact HO
  isplitl [Hz0 Hz1]
  · isplitl [Hz0]; · iexact Hz0
    iexact Hz1
  isplitl [P]; · iexists _; iexact P
  isplitl [A0 A1]
  · isplitl [A0]; · iexists _; iexact A0
    iexists _; iexact A1
  isplitl [O0]; · iexact O0
  iexact O1

/-- The fourth step: the quarters received beside the device's own. -/
theorem wp_step3 (K : Dev nD × CI → ℕ) (c : Dev nD) {k : PR F PUnit} {Q : PUnit → sProp 𝕄} :
    iprop(recs m K ∗ levAts L lv ∗ owesX c (OR c 2) ∗ (sent c 6 ∗ sent c 7))
      ⊢ iprop(((owesX c (OR c 2) ∗ (xsems c 6 ∗ xsems c 7) ∗ (sendPay m c 8 ∗ sendPay m c 9)) -∗ WP c k Q)
        -∗ WP c (waitU c 6 <| waitU c 7 k) Q) := by
  iintro ⟨#HR, #Hlev, HO, H0, H1⟩ Hcont
  iapply (wp_wait' m K c 6 2 (by decide) (by decide)) $$ [HO H0]
  · isplitr; · iexact HR
    isplitr; · iexact Hlev
    isplitl [HO]; · iexact HO
    iexact H0
  rw [src6, rec6]
  iintro ⟨HO, A0, B0, Hz0⟩
  iapply (wp_wait' m K c 7 2 (by decide) (by decide)) $$ [HO H1]
  · isplitr; · iexact HR
    isplitr; · iexact Hlev
    isplitl [HO]; · iexact HO
    iexact H1
  rw [src7, rec7]
  iintro ⟨HO, A1, B1, Hz1⟩
  rw [src8, src9, out_half, out_half]
  iapply Hcont
  isplitl [HO]; · iexact HO
  isplitl [Hz0 Hz1]
  · isplitl [Hz0]; · iexact Hz0
    iexact Hz1
  isplitl [A0 B0]
  · isplitl [A0]; · iexact A0
    iexact B0
  isplitl [A1]; · iexact A1
  iexact B1

/-- The last step: the whole output. -/
theorem wp_step4 (K : Dev nD × CI → ℕ) (c : Dev nD) {k : PR F PUnit} {Q : PUnit → sProp 𝕄} :
    iprop(recs m K ∗ levAts L lv ∗ owesX c (OR c 0) ∗ (sent c 8 ∗ sent c 9))
      ⊢ iprop(((owesX c (OR c 0) ∗ (xsems c 8 ∗ xsems c 9) ∗ pm c bOut Finset.univ (finC m c)) -∗ WP c k Q)
        -∗ WP c (waitU c 8 <| waitU c 9 k) Q) := by
  iintro ⟨#HR, #Hlev, HO, H0, H1⟩ Hcont
  iapply (wp_wait' m K c 8 0 (by decide) (fun k' h => absurd h (by have := k'.isLt; omega))) $$ [HO H0]
  · isplitr; · iexact HR
    isplitr; · iexact Hlev
    isplitl [HO]; · iexact HO
    iexact H0
  rw [src8, rec8]
  iintro ⟨HO, A0, B0, Hz0⟩
  iapply (wp_wait' m K c 9 0 (by decide) (fun k' h => absurd h (by have := k'.isLt; omega))) $$ [HO H1]
  · isplitr; · iexact HR
    isplitr; · iexact Hlev
    isplitl [HO]; · iexact HO
    iexact H1
  rw [src9, rec9]
  iintro ⟨HO, A1, B1, Hz1⟩
  rw [out_univ]
  iapply Hcont
  isplitl [HO]; · iexact HO
  isplitl [Hz0 Hz1]
  · isplitl [Hz0]; · iexact Hz0
    iexact Hz1
  isplitl [A0 B0]
  · isplitl [A0]; · iexact A0
    iexact B0
  isplitl [A1]; · iexact A1
  iexact B1

/-- The exchanges. -/
theorem wp_reduce (K : Dev nD × CI → ℕ) (c : Dev nD) {k : PR F PUnit} {Q : PUnit → sProp 𝕄} :
    iprop(recs m K ∗ levAts L lv ∗ owesX c (OR c 8) ∗ (sent c 0 ∗ sent c 1)
        ∗ (pm c bAcc (rows (row0 c 0) 256) (accA m c) ∗ pm c bAcc (rows (row0 c 1) 256) (accA m c))
        ∗ (pe c bOut (rows (row1 c 0) 128) ∗ pe c bOut (rows (row1 c 1) 128))
        ∗ (ready c 2 ∗ ready c 3) ∗ (ready c 4 ∗ ready c 5) ∗ (ready c 6 ∗ ready c 7) ∗ (ready c 8 ∗ ready c 9))
      ⊢ iprop(((owesX c (OR c 0) ∗ ((xsems c 0 ∗ xsems c 1) ∗ (xsems c 2 ∗ xsems c 3) ∗ (xsems c 4 ∗ xsems c 5) ∗ (xsems c 6 ∗ xsems c 7) ∗ (xsems c 8 ∗ xsems c 9))
            ∗ (pe c bP0 Finset.univ ∗ pe c bP1 Finset.univ ∗ pe c bP2 Finset.univ ∗ pe c bAcc Finset.univ) ∗ pm c bOut Finset.univ (finC m c)) -∗ WP c k Q)
        -∗ WP c (reduceU c k) Q) := by
  unfold reduceU
  iintro ⟨#HR, #Hlev, HO, Hs, HA, HOut, R2, R4, R6, R8⟩ Hcont
  iapply (wp_step0 m K c) $$ [HO Hs HA]
  · isplitr; · iexact HR
    isplitr; · iexact Hlev
    isplitl [HO]; · iexact HO
    isplitl [Hs]; · iexact Hs
    iexact HA
  iintro ⟨HO, Z0, P0, ⟨B0, B1⟩, HA, Hp⟩
  iapply (wp_sends m K c 2 3 6 rfl rfl) $$ [HO Hp R2]
  · isplitr; · iexact HR
    isplitl [HO]; · iexact HO
    isplitl [Hp]; · iexact Hp
    iexact R2
  iintro ⟨HO, Hs⟩
  iapply (wp_step1 m K c) $$ [HO Hs HA]
  · isplitr; · iexact HR
    isplitr; · iexact Hlev
    isplitl [HO]; · iexact HO
    isplitl [Hs]; · iexact Hs
    iexact HA
  iintro ⟨HO, Z2, P1, ⟨C0, C1⟩, Hp⟩
  iapply (wp_sends m K c 4 5 4 rfl rfl) $$ [HO Hp R4]
  · isplitr; · iexact HR
    isplitl [HO]; · iexact HO
    isplitl [Hp]; · iexact Hp
    iexact R4
  iintro ⟨HO, Hs⟩
  iapply (wp_step2 m K c) $$ [HO Hs HOut]
  · isplitr; · iexact HR
    isplitr; · iexact Hlev
    isplitl [HO]; · iexact HO
    isplitl [Hs]; · iexact Hs
    iexact HOut
  iintro ⟨HO, Z4, P2, ⟨A0, A1⟩, Hp⟩
  iapply (wp_sends m K c 6 7 2 rfl rfl) $$ [HO Hp R6]
  · isplitr; · iexact HR
    isplitl [HO]; · iexact HO
    isplitl [Hp]; · iexact Hp
    iexact R6
  iintro ⟨HO, Hs⟩
  iapply (wp_step3 m K c) $$ [HO Hs]
  · isplitr; · iexact HR
    isplitr; · iexact Hlev
    isplitl [HO]; · iexact HO
    iexact Hs
  iintro ⟨HO, Z6, Hp⟩
  iapply (wp_sends m K c 8 9 0 rfl rfl) $$ [HO Hp R8]
  · isplitr; · iexact HR
    isplitl [HO]; · iexact HO
    isplitl [Hp]; · iexact Hp
    iexact R8
  iintro ⟨HO, Hs⟩
  iapply (wp_step4 m K c) $$ [HO Hs]
  · isplitr; · iexact HR
    isplitr; · iexact Hlev
    isplitl [HO]; · iexact HO
    iexact Hs
  iintro ⟨HO, Z8, Hout⟩
  ihave HA := (acc_back c) $$ [A0 C0 B0 A1 C1 B1]
  · isplitl [A0 C0 B0]
    · isplitl [A0 C0]
      · isplitl [A0]; · iexact A0
        iexact C0
      iexact B0
    isplitl [A1 C1]
    · isplitl [A1]; · iexact A1
      iexact C1
    iexact B1
  iapply Hcont
  isplitl [HO]; · iexact HO
  isplitl [Z0 Z2 Z4 Z6 Z8]
  · isplitl [Z0]; · iexact Z0
    isplitl [Z2]; · iexact Z2
    isplitl [Z4]; · iexact Z4
    isplitl [Z6]; · iexact Z6
    iexact Z8
  isplitr [Hout]
  · isplitl [P0]; · iexact P0
    isplitl [P1]; · iexact P1
    isplitl [P2]; · iexact P2
    iexact HA
  iexact Hout

end Cert.KernelIdeal.Hand
-- ==== Proof.Body.lean ====
/-
The whole body on a device: what it starts from, what it ends with, and the obligation of the one point of the grid.
-/
module

public import proofs.«01_k».proof.Proof.Phases
public import Idealize.ShloMosaic.Lib.Pipeline.Launch
public import Idealize.ShloMosaic.Lib.Pipeline.BigSepL

@[expose] public section

noncomputable section

namespace Cert.KernelIdeal.Hand

open Cert.KernelIdeal Cert.KernelIdeal.Gen Cert.Rows
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The handshake, with what it hands over -/

/-- What a device holds for its exchange `k` before the handshake. -/
def half (c : Dev nD) (k : Fin 10) : sProp 𝕄 :=
  iprop(dutyTok ER (sendCell c k) 0 0 ∗ dutyTok ER (recvCell (xp c k) k) 0 0
    ∗ atPos ER (sendCell c k) 0 ∅ 0 ∗ atPos ER (recvCell c k) 0 ∅ 0 ∗ cred (tallyAt (recvCell c k) () (xN k)))

theorem ready_of (c : Dev nD) (k : Fin 10) : (iprop(landPay c (xp c k) k ∗ half c k) : sProp 𝕄) ⊢ ready c k := by
  unfold landPay half ready
  iintro ⟨⟨H, -⟩, Hh⟩
  isplitl [H]; · iexact H
  iexact Hh

theorem land_of (K : Dev nD × CI → ℕ) (c : Dev nD) (k : Fin 10) {P : sProp 𝕄} (h : P ⊢ iprop(∃ f, dstPts (F := F) (xp c k) c k f)) :
    iprop(recs m K ∗ P) ⊢ landPay (xp c k) c k := by
  unfold landPay
  iintro ⟨#HR, HP⟩
  isplitl
  · iapply h; iexact HP
  ihave H := (recs_at m K c (some (true, k))) $$ HR
  icases H with ⟨-, H⟩
  iexact H

/-- A sum over the ten exchanges, by the steps they belong to. -/
theorem bigSep10 (Φ : Fin 10 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9) :=
  bigSep_univ_eq_bigSepL [0, 1, 2, 3, 4, 5, 6, 7, 8, 9] (by decide) (by decide) Φ

theorem bigSep3 (Φ : Fin 3 → sProp 𝕄) : bigSep Finset.univ Φ = iprop(Φ 0 ∗ Φ 1 ∗ Φ 2) :=
  bigSep_univ_eq_bigSepL [0, 1, 2] (by decide) (by decide) Φ

/-- The parts a device hands over at the barrier. -/
def handed (c : Dev nD) : sProp 𝕄 :=
  iprop(pe c bP0 Finset.univ ∗ pe c bP1 Finset.univ ∗ pe c bP2 Finset.univ
    ∗ (pe c bOut (rows (row1' c 0) 128) ∗ pe c bOut (rows (row1' c 1) 128)) ∗ (pe c bOut (rows (row0' c 0) 256) ∗ pe c bOut (rows (row0' c 1) 256)))

theorem handed_pay (K : Dev nD × CI → ℕ) (c : Dev nD) :
    iprop(recs m K ∗ handed c) ⊢ iprop(barPay (par 0 c) c 0 ∗ barPay (par 1 c) c 1 ∗ barPay (par 2 c) c 2) := by
  unfold handed barPay
  iintro ⟨#HR, ⟨%f0, H0⟩, ⟨%f1, H1⟩, ⟨%f2, H2⟩, ⟨⟨%f3, H3⟩, ⟨%f4, H4⟩⟩, ⟨%f5, H5⟩, ⟨%f6, H6⟩⟩
  ihave H0 := (Entails.of_eq (P0_univ c f0)) $$ H0
  icases H0 with ⟨A0, A1⟩
  ihave H1 := (Entails.of_eq (P1_univ c f1)) $$ H1
  icases H1 with ⟨A2, A3⟩
  ihave H2 := (Entails.of_eq (P2_univ c f2)) $$ H2
  icases H2 with ⟨A4, A5⟩
  isplitl [A0 A5 H5]
  · isplitl [A0]
    · iapply (land_of m K c 0 (P := pm c bP0 (P0S 0) f0) (by rw [← dst0]; iintro H; iexists _; iexact H))
      isplitr; · iexact HR
      iexact A0
    isplitl [A5]
    · iapply (land_of m K c 5 (P := pm c bP2 (P1S 1) f2) (by rw [← dst5]; iintro H; iexists _; iexact H))
      isplitr; · iexact HR
      iexact A5
    iapply (land_of m K c 8 (P := pm c bOut (rows (row0' c 0) 256) f5) (by rw [← dst8]; iintro H; iexists _; iexact H))
    isplitr; · iexact HR
    iexact H5
  isplitl [A1 A2 H3 H6]
  · isplitl [A1]
    · iapply (land_of m K c 1 (P := pm c bP0 (P0S 1) f0) (by rw [← dst1]; iintro H; iexists _; iexact H))
      isplitr; · iexact HR
      iexact A1
    isplitl [A2]
    · iapply (land_of m K c 2 (P := pm c bP1 (P1S 0) f1) (by rw [← dst2]; iintro H; iexists _; iexact H))
      isplitr; · iexact HR
      iexact A2
    isplitl [H3]
    · iapply (land_of m K c 6 (P := pm c bOut (rows (row1' c 0) 128) f3) (by rw [← dst6]; iintro H; iexists _; iexact H))
      isplitr; · iexact HR
      iexact H3
    iapply (land_of m K c 9 (P := pm c bOut (rows (row0' c 1) 256) f6) (by rw [← dst9]; iintro H; iexists _; iexact H))
    isplitr; · iexact HR
    iexact H6
  isplitl [A3]
  · iapply (land_of m K c 3 (P := pm c bP1 (P1S 1) f1) (by rw [← dst3]; iintro H; iexists _; iexact H))
    isplitr; · iexact HR
    iexact A3
  isplitl [A4]
  · iapply (land_of m K c 4 (P := pm c bP2 (P1S 0) f2) (by rw [← dst4]; iintro H; iexists _; iexact H))
    isplitr; · iexact HR
    iexact A4
  iapply (land_of m K c 7 (P := pm c bOut (rows (row1' c 1) 128) f4) (by rw [← dst7]; iintro H; iexists _; iexact H))
  isplitr; · iexact HR
  iexact H4

/-- What a device holds for the handshake. -/
def handTok (c : Dev nD) : sProp 𝕄 :=
  iprop((dutyTok ER (barCell (par 0 c)) 0 0 ∗ dutyTok ER (barCell (par 1 c)) 0 1 ∗ dutyTok ER (barCell (par 2 c)) 0 2)
    ∗ cred (tallyAt (barCell c) () 3) ∗ atPos ER (barCell c) 0 ∅ 0)

theorem wp_handshake (K : Dev nD × CI → ℕ) (c : Dev nD) {k : PR F PUnit} {Q : PUnit → sProp 𝕄} :
    iprop(recs m K ∗ levAts L lv ∗ owesX c (O₀ c) ∗ handTok c ∗ handed c ∗ (bigSep Finset.univ fun k => half c k))
      ⊢ iprop(((semVal (barCell c) 0 ∗ owesX c (OR c 10) ∗ (ready c 0 ∗ ready c 1) ∗ (ready c 2 ∗ ready c 3)
          ∗ (ready c 4 ∗ ready c 5) ∗ (ready c 6 ∗ ready c 7) ∗ (ready c 8 ∗ ready c 9)) -∗ WP c k Q) -∗ WP c (handU c k) Q) := by
  rw [bigSep10]
  unfold handTok
  iintro ⟨#HR, #Hlev, HO, ⟨Ht, Hc, Hat⟩, Hg, T0, T1, T2, T3, T4, T5, T6, T7, T8, T9⟩ Hcont
  ihave Hg := (handed_pay m K c) $$ [Hg]
  · isplitr; · iexact HR
    iexact Hg
  iapply (wp_hand m K c) $$ [HO Ht Hc Hat Hg]
  · isplitr; · iexact HR
    isplitr; · iexact Hlev
    isplitl [HO]; · iexact HO
    isplitl [Ht]; · iexact Ht
    isplitl [Hg]; · iexact Hg
    isplitl [Hc]; · iexact Hc
    iexact Hat
  unfold barPay
  iintro ⟨Hz, HO, ⟨L0, L5, L8⟩, ⟨L1, L2, L6, L9⟩, L3, L4, L7⟩
  iapply Hcont
  isplitl [Hz]; · iexact Hz
  isplitl [HO]; · iexact HO
  isplitl [L0 T0 L1 T1]
  · isplitl [L0 T0]
    · iapply (ready_of c 0)
      isplitl [L0]; · iexact L0
      iexact T0
    iapply (ready_of c 1)
    isplitl [L1]; · iexact L1
    iexact T1
  isplitl [L2 T2 L3 T3]
  · isplitl [L2 T2]
    · iapply (ready_of c 2)
      isplitl [L2]; · iexact L2
      iexact T2
    iapply (ready_of c 3)
    isplitl [L3]; · iexact L3
    iexact T3
  isplitl [L4 T4 L5 T5]
  · isplitl [L4 T4]
    · iapply (ready_of c 4)
      isplitl [L4]; · iexact L4
      iexact T4
    iapply (ready_of c 5)
    isplitl [L5]; · iexact L5
    iexact T5
  isplitl [L6 T6 L7 T7]
  · isplitl [L6 T6]
    · iapply (ready_of c 6)
      isplitl [L6]; · iexact L6
      iexact T6
    iapply (ready_of c 7)
    isplitl [L7]; · iexact L7
    iexact T7
  isplitl [L8 T8]
  · iapply (ready_of c 8)
    isplitl [L8]; · iexact L8
    iexact T8
  iapply (ready_of c 9)
  isplitl [L9]; · iexact L9
  iexact T9

/-! ## The body -/

/-- The scratch buffers. -/
def scr (c : Dev nD) : sProp 𝕄 :=
  iprop(pe c bKs Finset.univ ∗ pe c bVs Finset.univ ∗ pe c bQ Finset.univ ∗ pe c bAt Finset.univ ∗ pe c bWb Finset.univ
    ∗ pe c bAcc Finset.univ ∗ pe c bP0 Finset.univ ∗ pe c bP1 Finset.univ ∗ pe c bP2 Finset.univ)
/-- The keys and the values. -/
def kv (c : Dev nD) : sProp 𝕄 := iprop(pm c bK Finset.univ (keyC m c) ∗ pm c bV Finset.univ (valC m c))
/-- The copies' semaphores at rest. -/
def kvZ (c : Dev nD) : sProp 𝕄 :=
  iprop((semVal ((c : Thread nD τ), .dma (kvSem 0 0)) 0 ∗ semVal ((c : Thread nD τ), .dma (kvSem 0 1)) 0)
    ∗ (semVal ((c : Thread nD τ), .dma (kvSem 1 0)) 0 ∗ semVal ((c : Thread nD τ), .dma (kvSem 1 1)) 0))
/-- The exchanges' semaphores at rest. -/
def xZ (c : Dev nD) : sProp 𝕄 :=
  iprop((xsems c 0 ∗ xsems c 1) ∗ (xsems c 2 ∗ xsems c 3) ∗ (xsems c 4 ∗ xsems c 5) ∗ (xsems c 6 ∗ xsems c 7) ∗ (xsems c 8 ∗ xsems c 9))

set_option maxHeartbeats 800000 in
/-- The body, from what a device holds at the start to what it holds at the end. -/
theorem wp_body (K : Dev nD × CI → ℕ) (c : Dev nD) {Q : PUnit → sProp 𝕄} :
    iprop(recs m K ∗ levAts L lv ∗ owesX c (O₀ c) ∗ (handTok c ∗ bigSep Finset.univ fun k => half c k) ∗ ins m c ∗ pe c bOut Finset.univ
        ∗ scr c ∗ kv m c ∗ kvZ c)
      ⊢ iprop(((owesX c 0 ∗ ins m c ∗ pm c bOut Finset.univ (finC m c) ∗ scr c ∗ kv m c ∗ kvZ c ∗ xZ c ∗ semVal (barCell c) 0) -∗ Q ⟨⟩)
          -∗ WP c bodyU Q) := by
  unfold bodyU
  simp only [wp_deviceId]
  unfold attnU scr kv kvZ
  rw [K_univ, V_univ]
  iintro ⟨#HR, #Hlev, HO, ⟨Ht, Hh⟩, Hin, ⟨%fo, Hout⟩, ⟨⟨%fk, Hks⟩, ⟨%fv, Hvs⟩, Hq, Hat, Hwb, Hacc, Hp0, Hp1, Hp2⟩,
    ⟨⟨⟨Hk0, Hk1, Hk2, Hk3⟩, HkR⟩, ⟨Hv0, Hv1, Hv2, Hv3⟩, HvR⟩, Hz0, Hz1⟩ Hcont
  ihave Hout := (Entails.of_eq (out_univ c fo)) $$ Hout
  icases Hout with ⟨⟨O0, O0'⟩, O1, O1'⟩
  ihave O0 := (Entails.of_eq (out_half c 0 fo)) $$ O0
  icases O0 with ⟨O00, O01⟩
  ihave O1 := (Entails.of_eq (out_half c 1 fo)) $$ O1
  icases O1 with ⟨O10, O11⟩
  ihave Hks := (Entails.of_eq (Ks_univ c fk)) $$ Hks
  icases Hks with ⟨Ks0, Ks1⟩
  ihave Hvs := (Entails.of_eq (Vs_univ c fv)) $$ Hvs
  icases Hvs with ⟨⟨Vs0, Vs1⟩, Hv⟩
  iapply (wp_handshake m K c) $$ [HO Ht Hh Hp0 Hp1 Hp2 O0' O1' O01 O11]
  · isplitr; · iexact HR
    isplitr; · iexact Hlev
    isplitl [HO]; · iexact HO
    isplitl [Ht]; · iexact Ht
    isplitr [Hh]
    · unfold handed
      isplitl [Hp0]; · iexact Hp0
      isplitl [Hp1]; · iexact Hp1
      isplitl [Hp2]; · iexact Hp2
      isplitl [O01 O11]
      · isplitl [O01]; · iexists _; iexact O01
        iexists _; iexact O11
      isplitl [O0']; · iexists _; iexact O0'
      iexists _; iexact O1'
    iexact Hh
  iintro ⟨Hzb, HO, HRa, HRb⟩
  iapply (wp_setup m c) $$ [Hin Hq Hwb Hat Hv Hz0 Hz1 Ks0 Ks1 Vs0 Vs1 Hk0 Hk1 Hv0 Hv1]
  · isplitl [Hin]; · iexact Hin
    isplitl [Hq Hwb Hat Hv]
    · isplitl [Hq]; · iexact Hq
      isplitl [Hwb]; · iexact Hwb
      isplitl [Hat]; · iexact Hat
      iexists _; iexact Hv
    isplitl [Hz0 Ks0 Vs0 Hk0 Hv0]
    · isplitl [Hz0 Ks0 Vs0]
      · unfold idle
        isplitl [Hz0]; · iexact Hz0
        isplitl [Ks0]; · iexists _; iexact Ks0
        iexists _; iexact Vs0
      unfold cache; isplitl [Hk0] <;> iassumption
    isplitl [Hz1 Ks1 Vs1]
    · unfold idle
      isplitl [Hz1]; · iexact Hz1
      isplitl [Ks1]; · iexists _; iexact Ks1
      iexists _; iexact Vs1
    unfold cache; isplitl [Hk1] <;> iassumption
  iintro ⟨Hin, Hw, Hf⟩
  iapply (wp_attn m K c) $$ [HO Hf Hw Hacc Hk2 Hk3 Hv2 Hv3 HRa]
  · isplitr; · iexact HR
    isplitr; · iexact Hlev
    isplitl [HO]; · iexact HO
    isplitl [Hf]; · iexact Hf
    isplitl [Hw]; · iexact Hw
    isplitl [Hacc]; · iexact Hacc
    isplitl [Hk2 Hk3 Hv2 Hv3]
    · unfold cache
      isplitl [Hk2 Hv2]; · isplitl [Hk2] <;> iassumption
      isplitl [Hk3] <;> iassumption
    iexact HRa
  iintro ⟨HO, ⟨I0, I1⟩, Hw, Hc, Hs, HA⟩
  iapply (wp_reduce m K c) $$ [HO Hs HA O00 O10 HRb]
  · isplitr; · iexact HR
    isplitr; · iexact Hlev
    isplitl [HO]; · iexact HO
    isplitl [Hs]; · iexact Hs
    isplitl [HA]; · iexact HA
    isplitl [O00 O10]
    · isplitl [O00]; · iexists _; iexact O00
      iexists _; iexact O10
    iexact HRb
  iintro ⟨HO, HxZ, ⟨Hp0, Hp1, Hp2, Hacc⟩, Hout⟩
  unfold work cache idle
  icases Hw with ⟨Hq, Hwb, Hat, Hv⟩
  icases I0 with ⟨Hz0, Ks0, Vs0⟩
  icases I1 with ⟨Hz1, Ks1, Vs1⟩
  icases Hc with ⟨⟨Hk0, Hv0⟩, ⟨Hk1, Hv1⟩, ⟨Hk2, Hv2⟩, Hk3, Hv3⟩
  ihave Hks := (Ks_back (F := F) c) $$ [Ks0 Ks1]
  · isplitl [Ks0]; · iexact Ks0
    iexact Ks1
  ihave Hvs := (Vs_back (F := F) c) $$ [Vs0 Vs1 Hv]
  · isplitl [Vs0 Vs1]
    · isplitl [Vs0]; · iexact Vs0
      iexact Vs1
    iexists _; iexact Hv
  unfold WP; rw [wp_ret]; imodintro
  iapply Hcont
  isplitl [HO]; · iexact HO
  isplitl [Hin]; · iexact Hin
  isplitl [Hout]; · iexact Hout
  isplitl [Hks Hvs Hq Hat Hwb Hacc Hp0 Hp1 Hp2]
  · isplitl [Hks]; · iexact Hks
    isplitl [Hvs]; · iexact Hvs
    isplitl [Hq]; · iexists _; iexact Hq
    isplitl [Hat]; · iexact Hat
    isplitl [Hwb]; · iexists _; iexact Hwb
    isplitl [Hacc]; · iexact Hacc
    isplitl [Hp0]; · iexact Hp0
    isplitl [Hp1]; · iexact Hp1
    iexact Hp2
  isplitl [Hk0 Hk1 Hk2 Hk3 HkR Hv0 Hv1 Hv2 Hv3 HvR]
  · isplitl [Hk0 Hk1 Hk2 Hk3 HkR]
    · isplitr [HkR]
      · isplitl [Hk0]; · iexact Hk0
        isplitl [Hk1]; · iexact Hk1
        isplitl [Hk2] <;> iassumption
      iexact HkR
    isplitr [HvR]
    · isplitl [Hv0]; · iexact Hv0
      isplitl [Hv1]; · iexact Hv1
      isplitl [Hv2] <;> iassumption
    iexact HvR
  isplitl [Hz0 Hz1]
  · isplitl [Hz0]; · iexact Hz0
    iexact Hz1
  isplitl [HxZ]; · unfold xZ; iexact HxZ
  iexact Hzb

/-! ## The pipeline's proof data -/

/-- What the launch hands a device for the protocol. -/
def ghost (K : Dev nD × CI → ℕ) (c : Dev nD) : sProp 𝕄 :=
  iprop(recs m K ∗ (bigSep Finset.univ fun i : CI => atPos ER (kcell c i) 0 ∅ 0)
    ∗ (bigSep Finset.univ fun r : Fin 3 => dutyTok ER (barCell (par r c)) 0 r)
    ∗ (bigSep Finset.univ fun k : Fin 10 => iprop(dutyTok ER (sendCell c k) 0 0 ∗ dutyTok ER (recvCell (xp c k) k) 0 0)))

/-- The credits of the launch. -/
def creds (c : Dev nD) : sProp 𝕄 :=
  iprop(cred (tallyAt (barCell c) () 3) ∗ bigSep Finset.univ fun k : Fin 10 => cred (tallyAt (recvCell c k) () (xN k)))

/-- What a device's body starts from. -/
def start (c : Dev nD) : sProp 𝕄 := iprop((∃ K, ghost m K c) ∗ creds c ∗ levAts L lv ∗ kv m c ∗ kvZ c)

/-- Sums over the cells: the barrier, the send cells, the receive cells. -/
theorem bigSep_CI (Φ : CI → sProp 𝕄) : bigSep Finset.univ Φ
    = iprop(Φ none ∗ (bigSep Finset.univ fun k : Fin 10 => Φ (some (false, k))) ∗ (bigSep Finset.univ fun k : Fin 10 => Φ (some (true, k)))) := by
  rw [bigSep_univ_eq_bigSepL allCI (by ext i; simp [mem_allCI]) nodup_allCI]
  unfold allCI
  rw [List.cons_append, bigSepL_cons, bigSepL_append, bigSep10, bigSep10]
  rfl

theorem tok_of (c : Dev nD) (K : Dev nD × CI → ℕ) :
    (iprop(ghost m K c ∗ creds c) : sProp 𝕄) ⊢ iprop(recs m K ∗ handTok c ∗ bigSep Finset.univ fun k => half c k) := by
  unfold ghost creds handTok half
  rw [bigSep_CI, bigSep3,
    bigSep_sep', bigSep_sep', bigSep_sep', bigSep_sep', bigSep_sep']
  iintro ⟨⟨#HR, ⟨Hb, Hs, Hr⟩, Ht, Hds, Hdr⟩, Hcb, Hcr⟩
  isplitr; · iexact HR
  isplitl [Hb Ht Hcb]
  · isplitl [Ht]; · iexact Ht
    isplitl [Hcb]; · iexact Hcb
    iexact Hb
  isplitl [Hds]; · iexact Hds
  isplitl [Hdr]; · iexact Hdr
  isplitl [Hs]; · iexact Hs
  isplitl [Hr]; · iexact Hr
  iexact Hcr

/-- Before the point. -/
def Φ₀ (c : Dev nD) : sProp 𝕄 := iprop(start m c ∗ scr c)
/-- After the point. -/
def Φ₁ (c : Dev nD) : sProp 𝕄 := iprop(scr c ∗ kv m c ∗ kvZ c ∗ xZ c ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xC m c
    | ⟨1, _⟩ => wqC m c
    | ⟨2, _⟩ => woC m c
    | ⟨3, _⟩ => finC m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

theorem fetch_0 (t : Fin cfg0.N) : (cfg0.win (0 : Fin 4)).fetch t = true := by rw [fin_N t]; rfl
theorem fetch_1 (t : Fin cfg0.N) : (cfg0.win (1 : Fin 4)).fetch t = true := by rw [fin_N t]; rfl
theorem fetch_2 (t : Fin cfg0.N) : (cfg0.win (2 : Fin 4)).fetch t = true := by rw [fin_N t]; rfl

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))

def bodyPost (c : Dev nD) : sProp 𝕄 :=
  iprop(Φ₁ m c ∗ (dats m ρ 0 c).owesAt () t₀.succ ∗ stg c cc0_stg0_0 (xC m c) ∗ stg c cc0_stg1_0 (wqC m c) ∗ stg c cc0_stg2_0 (woC m c)
    ∗ stg c cc0_stg3_0 (finC m c))

set_option maxRecDepth 4000 in
theorem sound_body (c : Dev nD) : bodyPre m ρ c ⊢ WP c bodyU (fun _ => bodyPost m ρ c) := by
  unfold bodyPre Φ₀ start
  iintro ⟨⟨⟨⟨%K, Hg⟩, Hcr, #Hlev, Hkv, HkZ⟩, Hscr⟩, Ho, ⟨%d0, %g0, %hg0, Hx⟩, ⟨%d1, %g1, %hg1, Hwq⟩, ⟨%d2, %g2, %hg2, Hwo⟩, ⟨%d3, %g3, %hg3, Hout⟩⟩
  have h0 : g0 = xC m c := by rw [hg0]; unfold Dat.before; rw [if_pos (fetch_0 t₀)]; rfl
  have h1 : g1 = wqC m c := by rw [hg1]; unfold Dat.before; rw [if_pos (fetch_1 t₀)]; rfl
  have h2 : g2 = woC m c := by rw [hg2]; unfold Dat.before; rw [if_pos (fetch_2 t₀)]; rfl
  subst h0 h1 h2
  unfold Dat.owesAt Pipeline.owesWithin
  icases Ho with ⟨%W, %hW, HO⟩
  rw [show (dats m ρ 0 c).owed t₀.castSucc = O₀ c from rfl]
  ihave Hg := (tok_of m c K) $$ [Hg Hcr]
  · isplitl [Hg] <;> iassumption
  icases Hg with ⟨#HR, Hg⟩
  iapply (wp_body m K c) $$ [HO Hg Hx Hwq Hwo Hout Hscr Hkv HkZ]
  · isplitr; · iexact HR
    isplitr; · iexact Hlev
    isplitl [HO]; · unfold owesX; iexists _; iexact HO
    isplitl [Hg]; · iexact Hg
    isplitl [Hx Hwq Hwo]
    · unfold ins
      isplitl [Hx]; · iexact Hx
      isplitl [Hwq]; · iexact Hwq
      iexact Hwo
    isplitl [Hout]; · iexists _; iexact Hout
    isplitl [Hscr]; · iexact Hscr
    isplitl [Hkv] <;> iassumption
  unfold ins owesX
  iintro ⟨⟨%W', HO⟩, ⟨Hx, Hwq, Hwo⟩, Hout, Hscr, Hkv, HkZ, HxZ, Hb⟩
  unfold bodyPost Φ₁ Dat.owesAt Pipeline.owesWithin
  rw [show (dats m ρ 0 c).owed t₀.succ = 0 from rfl]
  isplitl [Hscr Hkv HkZ HxZ Hb]
  · isplitl [Hscr]; · iexact Hscr
    isplitl [Hkv]; · iexact Hkv
    isplitl [HkZ]; · iexact HkZ
    isplitl [HxZ] <;> iassumption
  isplitl [HO]
  · iexists W'
    isplitr; · ipureintro; exact fun _ _ => Or.inl trivial
    iexact HO
  isplitl [Hx]
  · iexists _; isplitr; · (ipureintro; rfl)
    iexact Hx
  isplitl [Hwq]
  · iexists _; isplitr; · (ipureintro; rfl)
    iexact Hwq
  isplitl [Hwo]
  · iexists _; isplitr; · (ipureintro; rfl)
    iexact Hwo
  iexists _; isplitr; · (ipureintro; rfl)
  iexact Hout

set_option maxRecDepth 65536 in
/-- The body obligation of a device. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  have h := sound_body m ρ c
  rw [← body_eq] at h
  exact h

end Cert.KernelIdeal.Hand
-- ==== Proof.Launch.lean ====
/-
The launch: the protocol's state made for every device at once, the credits of the launch, and the run of @main.
-/
module

public import proofs.«01_k».proof.Proof.Body
public import Idealize.ShloMosaic.Lib.Pipeline.CollectiveSegs
public import Idealize.ShloMosaic.Lib.Quiescent

@[expose] public section

noncomputable section

namespace Cert.KernelIdeal.Hand

open Cert.KernelIdeal Cert.KernelIdeal.Gen Cert.Rows
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores -/

/-- The kernel's own semaphores: the copies' four, the exchanges' send and receive semaphores. -/
abbrev OI : Type := (Fin 2 × Fin 2) ⊕ (Fin 10 ⊕ Fin 10)
def osem : OI → SemLoc sig
  | .inl (s, j) => .dma (kvSem ⟨s.val, by omega⟩ j)
  | .inr (.inl k) => .dma (xSend k)
  | .inr (.inr k) => .dma (xRecv k)

theorem ownSemFacts : Pipeline.OwnSemFacts cfg0.spec osem := by decide +kernel

theorem share_eq (c : Dev nD) (w : Fin cfg0.W) : (dats m ρ 0 c).share w = fullShare := by unfold Dat.share; split <;> rfl

theorem ownSems0_eq (c : Dev nD) : (Pipeline.ownSems0 (Ix := Unit) (Name := ℕ) (U := UU) (Lvl := ℕ) (Val := Elt F) (τ := τ) osem c : sProp 𝕄)
    = iprop(kvZ c ∗ (bigSep Finset.univ fun k : Fin 10 => semVal (sendCell c k) 0) ∗ (bigSep Finset.univ fun k : Fin 10 => semVal (recvCell c k) 0)) := by
  unfold Pipeline.ownSems0
  rw [bigSep_univ_sum, bigSep_univ_sum, bigSep_univ_prod]
  rw [bigSep_univ_eq_bigSepL [(0 : Fin 2), 1] (by decide) (by decide)]
  rw [bigSepL_cons_cons, bigSepL_singleton, bigSep_univ_eq_bigSepL [(0 : Fin 2), 1] (by decide) (by decide), bigSep_univ_eq_bigSepL [(0 : Fin 2), 1] (by decide) (by decide)]
  rfl

theorem unscopedSems0_eq (c : Dev nD) : (unscopedSems0 c : sProp 𝕄) = semVal (barCell c) 0 := by
  unfold unscopedSems0; rw [bigSep_eq_bigSepL_of_eq [SemLoc.reg barS] (by decide) (by decide)]; rfl

/-! ## The protocol's cells and tokens -/

theorem kcell_injective : Function.Injective (fun ci : Dev nD × CI => kcell ci.1 ci.2) := by
  rintro ⟨c, k⟩ ⟨c', k'⟩ h
  have h1 : c = c' := congrArg (fun g : GSem nD τ sig => g.1.1) h
  subst h1
  have h2 : csem k = csem k' := congrArg Prod.snd h
  rw [csem_inj h2]
def pCells : Finset (GSem nD τ sig) := Finset.univ.map ⟨fun ci : Dev nD × CI => kcell ci.1 ci.2, kcell_injective⟩

/-- A device's duty tokens as minted: its barrier's three, one for each of its send and receive cells. -/
abbrev TI : Type := Fin 3 ⊕ (Fin 10 ⊕ Fin 10)
def tokOf (cj : Dev nD × TI) : GSem nD τ sig × ℕ × Fin 3 := match cj.2 with
  | .inl r => (kcell cj.1 none, 0, r)
  | .inr (.inl k) => (kcell cj.1 (some (false, k)), 0, 0)
  | .inr (.inr k) => (kcell cj.1 (some (true, k)), 0, 0)
def tokKey : TI → CI × Fin 3
  | .inl r => (none, r)
  | .inr (.inl k) => (some (false, k), 0)
  | .inr (.inr k) => (some (true, k), 0)
theorem tokKey_injective : Function.Injective tokKey := by decide +kernel
theorem tokOf_eq (c : Dev nD) (j : TI) : tokOf (c, j) = (kcell c (tokKey j).1, 0, (tokKey j).2) := by
  rcases j with r | k | k <;> rfl
theorem tokOf_injective : Function.Injective tokOf := by
  rintro ⟨c, j⟩ ⟨c', j'⟩ h
  rw [tokOf_eq, tokOf_eq] at h
  have h1 := kcell_injective (a₁ := (c, (tokKey j).1)) (a₂ := (c', (tokKey j').1)) (congrArg Prod.fst h)
  have h2 : (tokKey j).2 = (tokKey j').2 := congrArg (fun x : GSem nD τ sig × ℕ × Fin 3 => x.2.2) h
  obtain ⟨h3, h4⟩ := Prod.mk.inj h1
  rw [h3, tokKey_injective (Prod.ext h4 h2)]
def pToks : Finset (GSem nD τ sig × ℕ × Fin 3) := Finset.univ.map ⟨tokOf, tokOf_injective⟩

def u₀ : UU :=
  (initOf (Pipeline.cells cfgs cellOf_inj) (Pipeline.launchToks cfgs cellOf_inj), (initOf pCells pToks, 1))

/-- The duty tokens of a device's own cells. -/
def toks (c : Dev nD) : sProp 𝕄 :=
  iprop((bigSep Finset.univ fun r : Fin 3 => dutyTok ER (barCell c) 0 r)
    ∗ (bigSep Finset.univ fun k : Fin 10 => dutyTok ER (sendCell c k) 0 0) ∗ (bigSep Finset.univ fun k : Fin 10 => dutyTok ER (recvCell c k) 0 0))

/-- What the launch deals a device. -/
def G (c : Dev nD) : sProp 𝕄 :=
  iprop((bigSep Finset.univ fun i : CI => roundState ER (Rd m) (kcell c i) 0)
    ∗ (bigSep Finset.univ fun i : CI => iprop(atPos ER (kcell c i) 0 ∅ 0 ∗ reached ER (kcell c i) 0)) ∗ toks c)

/-- What it makes of that with the others. -/
def G' (c : Dev nD) : sProp 𝕄 := iprop((∃ K, ghost m K c) ∗ kvZ c)

theorem fund_p : BI.own (ER (initOf pCells pToks)) ⊢ (|==> bigSep Finset.univ (G m) : sProp 𝕄) := by
  have hX (Φ : GSem nD τ sig → sProp 𝕄) : bigSep pCells Φ = bigSep Finset.univ fun c : Dev nD => bigSep Finset.univ fun i : CI => Φ (kcell c i) := by
    unfold pCells; rw [bigSep_map, bigSep_univ_prod]; rfl
  have hT : bigSep pToks (fun x => (dutyTok ER x.1 x.2.1 x.2.2 : sProp 𝕄)) = bigSep Finset.univ fun c : Dev nD => toks c := by
    unfold pToks; rw [bigSep_map, bigSep_univ_prod]
    exact bigSep_congr fun c _ => by unfold toks; rw [bigSep_univ_sum, bigSep_univ_sum]; rfl
  iintro HX
  imod (Rounds.fund ER (Rd m) pCells pToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem sems0_eq (c : Dev nD) :
    iprop(Pipeline.ownSems0 (Ix := Unit) (Name := ℕ) (U := UU) (Lvl := ℕ) (Val := Elt F) (τ := τ) osem c ∗ unscopedSems0 c)
      ⊢ (iprop(kvZ c ∗ bigSep Finset.univ fun i : CI => semVal (kcell c i) 0) : sProp 𝕄) := by
  rw [ownSems0_eq, unscopedSems0_eq, bigSep_CI]
  iintro ⟨⟨HZ, HS, HV⟩, HB⟩
  isplitl [HZ]; · iexact HZ
  isplitl [HB]; · iexact HB
  isplitl [HS]; · iexact HS
  iexact HV

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop(((bigSep Finset.univ fun i => iprop(∃ κ : ℕ, cellInv ER (Rd m) κ (kcell c i)))
          ∗ (bigSep Finset.univ fun i => reached ER (kcell c i) 0)) ∗ ((bigSep Finset.univ fun i => atPos ER (kcell c i) 0 ∅ 0) ∗ kvZ c) ∗ toks c) := by
  unfold G
  rw [bigSep_sep']
  iintro ⟨Hos, Hus, Hst, ⟨Hat, Hr⟩, Htok⟩
  ihave Hv := (sems0_eq (F := F) c) $$ [Hos Hus]
  · isplitl [Hos] <;> iassumption
  icases Hv with ⟨HZ, Hv⟩
  imod (show iprop((bigSep Finset.univ fun i : CI => semVal (kcell c i) 0) ∗ bigSep Finset.univ fun i : CI => roundState ER (Rd m) (kcell c i) 0)
      ⊢ (|={Set.univ}=> bigSep Finset.univ fun i => iprop(∃ κ : ℕ, cellInv ER (Rd m) κ (kcell c i)) : sProp 𝕄) from by
        rw [← bigSep_sep']
        exact (bigSep_mono fun i _ => (Rounds.body_intro ER (Rd m) (kcell c i)).trans inv_alloc).trans (bigSep_fupd _ _)) $$ [Hv Hst] with Hinv
  · isplitl [Hv] <;> iassumption
  imodintro
  isplitl [Hinv Hr]
  · isplitl [Hinv]; · iexact Hinv
    iexact Hr
  isplitl [Hat HZ]
  · isplitl [Hat]; · iexact Hat
    iexact HZ
  iexact Htok

/-- A partner's partner: the exchange of devices in one dimension. -/
def parE (r : Fin 3) : Dev nD ≃ Dev nD := ⟨par r, par r, par_par r, par_par r⟩

/-- The tokens a device pays with. -/
def payToks (c : Dev nD) : sProp 𝕄 :=
  iprop((bigSep Finset.univ fun r : Fin 3 => dutyTok ER (barCell (par r c)) 0 r)
    ∗ (bigSep Finset.univ fun k : Fin 10 => iprop(dutyTok ER (sendCell c k) 0 0 ∗ dutyTok ER (recvCell (xp c k) k) 0 0)))

theorem toks_around : (bigSep Finset.univ fun c : Dev nD => (toks c : sProp 𝕄)) ⊢ bigSep Finset.univ fun c : Dev nD => payToks c := by
  have hb : (bigSep Finset.univ fun c : Dev nD => bigSep Finset.univ fun r : Fin 3 => (dutyTok ER (barCell c) 0 r : sProp 𝕄))
      = bigSep Finset.univ fun c : Dev nD => bigSep Finset.univ fun r : Fin 3 => (dutyTok ER (barCell (par r c)) 0 r : sProp 𝕄) := by
    rw [bigSep_univ_comm, bigSep_univ_comm (fun (c : Dev nD) (r : Fin 3) => (dutyTok ER (barCell (par r c)) 0 r : sProp 𝕄))]
    exact bigSep_congr fun r _ => bigSep_univ_equiv (parE r) (fun c : Dev nD => (dutyTok ER (barCell c) 0 r : sProp 𝕄))
  have hr : (bigSep Finset.univ fun c : Dev nD => bigSep Finset.univ fun k : Fin 10 => (dutyTok ER (recvCell c k) 0 0 : sProp 𝕄))
      = bigSep Finset.univ fun c : Dev nD => bigSep Finset.univ fun k : Fin 10 => (dutyTok ER (recvCell (xp c k) k) 0 0 : sProp 𝕄) := by
    rw [bigSep_univ_comm, bigSep_univ_comm (fun (c : Dev nD) (k : Fin 10) => (dutyTok ER (recvCell (xp c k) k) 0 0 : sProp 𝕄))]
    exact bigSep_congr fun k _ => bigSep_univ_equiv (parE (xDim k)) (fun c : Dev nD => (dutyTok ER (recvCell c k) 0 0 : sProp 𝕄))
  unfold toks payToks
  simp only [bigSep_sep']
  rw [hb, hr]

/-- What is each device's own. -/
def linear (c : Dev nD) : sProp 𝕄 := iprop(((bigSep Finset.univ fun i : CI => atPos ER (kcell c i) 0 ∅ 0) ∗ kvZ c) ∗ payToks c)

theorem ghost_intro (K : Dev nD × CI → ℕ) (c : Dev nD) : iprop(recs m K ∗ linear c) ⊢ G' m c := by
  unfold linear payToks G' ghost
  iintro ⟨#HR, ⟨Hat, HZ⟩, Htb, Htx⟩
  isplitr [HZ]
  · iexists K
    isplitr; · iexact HR
    isplitl [Hat]; · iexact Hat
    isplitl [Htb]; · iexact Htb
    iexact Htx
  iexact HZ

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop(((bigSep Finset.univ fun i => iprop(∃ κ : ℕ, cellInv ER (Rd m) κ (kcell c i)))
          ∗ (bigSep Finset.univ fun i => reached ER (kcell c i) 0)) ∗ ((bigSep Finset.univ fun i => atPos ER (kcell c i) 0 ∅ 0) ∗ kvZ c) ∗ toks c) : sProp 𝕄)
      ⊢ bigSep Finset.univ (G' m) := by
  rw [bigSep_sep', bigSep_sep', bigSep_sep', ← bigSep_univ_prod (fun ci : Dev nD × CI => iprop(∃ κ : ℕ, cellInv ER (Rd m) κ (kcell ci.1 ci.2))),
    ← bigSep_univ_prod (fun ci : Dev nD × CI => (reached ER (kcell ci.1 ci.2) 0 : sProp 𝕄))]
  iintro ⟨⟨HI, #HR⟩, Hat, Htok⟩
  ihave HK := (BI.bigSep_exists_pi Finset.univ (fun (ci : Dev nD × CI) (κ : ℕ) => (cellInv ER (Rd m) κ (kcell ci.1 ci.2) : sProp 𝕄))) $$ HI
  icases HK with ⟨%K, #HI⟩
  ihave Htk := (toks_around (F := F)) $$ Htok
  iapply (bigSep_with_persistent (R := recs m K) fun c _ => ghost_intro m K c)
  isplitr
  · unfold recs; rw [bigSep_sep']
    isplitl; · iexact HI
    iexact HR
  · iapply (Entails.of_eq (bigSep_sep' Finset.univ (fun c : Dev nD => iprop((bigSep Finset.univ fun i : CI => atPos ER (kcell c i) 0 ∅ 0) ∗ kvZ c)) payToks).symm)
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits of the launch -/

theorem cell_eq {a b : Dev nD} {i j : CI} : kcell a i = kcell b j ↔ a = b ∧ i = j :=
  ⟨fun h => Prod.mk.inj (kcell_injective (a₁ := (a, i)) (a₂ := (b, j)) h), fun h => by rw [h.1, h.2]⟩

/-- What a device owes another's receive cell while the last `i` exchanges are still to be sent. -/
theorem OR_recv (d c : Dev nD) (k : Fin 10) : ∀ i, i ≤ 10 → OR d i (recvCell c k) () = if d = xp c k ∧ 10 ≤ i + k.val then xN k else 0
  | 0, _ => by
    rw [if_neg (fun h => by have := h.2; have := k.isLt; omega)]; rfl
  | i + 1, hi => by
    unfold OR TX
    rw [Pi.add_apply, Finsupp.add_apply, OR_recv d c k i (by omega), tallyAt_apply]
    by_cases hd : d = xp c k
    · by_cases hk : i + k.val = 9
      · have hk' : (⟨9 - i, by omega⟩ : Fin 10) = k := Fin.ext (by show 9 - i = k.val; omega)
        rw [hk', if_neg (fun h => by have := h.2; omega), if_pos ⟨by rw [hd, xp_xp], rfl⟩, if_pos ⟨hd, by omega⟩, Nat.zero_add]
      · rw [if_neg (c := recvCell c k = _ ∧ _) (fun h => by
          have h1 : k = (⟨9 - i, by omega⟩ : Fin 10) := by
            have := (cell_eq (i := some (true, k)) (j := some (true, _)).1 h.1).2
            exact (Prod.mk.inj (Option.some.inj this)).2
          have h2 : k.val = 9 - i := congrArg Fin.val h1
          omega), Nat.add_zero]
        by_cases h10 : 10 ≤ i + k.val
        · rw [if_pos ⟨hd, h10⟩, if_pos ⟨hd, by omega⟩]
        · rw [if_neg (fun h => h10 h.2), if_neg (fun h => by have := h.2; omega)]
    · rw [if_neg (fun h => hd h.1), if_neg (c := d = xp c k ∧ 10 ≤ i + 1 + k.val) (fun h => hd h.1), if_neg (fun h => by
        have h0 := (cell_eq (i := some (true, k)) (j := some (true, _))).1 h.1
        have h1 : k = (⟨9 - i, by omega⟩ : Fin 10) := (Prod.mk.inj (Option.some.inj h0.2)).2
        rw [← h1] at h0
        exact hd (by rw [h0.1, xp_xp]))]

theorem OR_bar (d c : Dev nD) (i : ℕ) (hi : i ≤ 10) : OR d i (barCell c) () = 0 := by
  by_contra h
  obtain ⟨k, -, h⟩ := OR_pos d i hi (Nat.pos_of_ne_zero h)
  have := (cell_eq (i := none) (j := some (true, k))).1 h
  exact absurd this.2 (by simp)

theorem TB_bar (d c : Dev nD) (r : Fin 3) : TB d r (barCell c) () = if d = par r c then 1 else 0 := by
  unfold TB
  rw [tallyAt_apply]
  by_cases h : d = par r c
  · rw [if_pos h, if_pos ⟨by rw [h, par_par], rfl⟩]
  · rw [if_neg h, if_neg (fun h' => h (by rw [((cell_eq (i := none) (j := none)).1 h'.1).1, par_par]))]
theorem TB_recv (d c : Dev nD) (r : Fin 3) (k : Fin 10) : TB d r (recvCell c k) () = 0 := by
  unfold TB
  rw [tallyAt_apply, if_neg (fun h' => absurd ((cell_eq (i := some (true, k)) (j := none)).1 h'.1).2 (by simp))]

theorem launch_bar (c : Dev nD) :
    tallyOn (barCell c) (launchCredit (Pipeline.owing O₀) 0 (barCell c)) = (tallyAt (barCell c) () 3 : CellTallies nD τ sig Unit) := by
  have h (d : Dev nD) : O₀ d (barCell c) () = ((if d = par 2 c then 1 else 0) + (if d = par 1 c then 1 else 0)) + (if d = par 0 c then 1 else 0) := by
    unfold O₀
    rw [Pi.add_apply, Finsupp.add_apply, Pi.add_apply, Finsupp.add_apply, Pi.add_apply, Finsupp.add_apply, OR_bar d c 10 le_rfl, TB_bar, TB_bar, TB_bar, Nat.zero_add]
  unfold tallyAt; refine congrArg _ (Finsupp.ext fun u => ?_); cases u
  rw [Pipeline.launchCredit_owing, Finsupp.single_eq_same, Finset.sum_congr rfl fun d _ => h d, Finset.sum_add_distrib, Finset.sum_add_distrib,
    Finset.sum_ite_eq' Finset.univ (par 2 c) fun _ => 1, Finset.sum_ite_eq' Finset.univ (par 1 c) fun _ => 1, Finset.sum_ite_eq' Finset.univ (par 0 c) fun _ => 1,
    if_pos (Finset.mem_univ _), if_pos (Finset.mem_univ _), if_pos (Finset.mem_univ _)]

theorem launch_recv (c : Dev nD) (k : Fin 10) :
    tallyOn (recvCell c k) (launchCredit (Pipeline.owing O₀) 0 (recvCell c k)) = (tallyAt (recvCell c k) () (xN k) : CellTallies nD τ sig Unit) := by
  have h (d : Dev nD) : O₀ d (recvCell c k) () = if d = xp c k then xN k else 0 := by
    unfold O₀
    rw [Pi.add_apply, Finsupp.add_apply, Pi.add_apply, Finsupp.add_apply, Pi.add_apply, Finsupp.add_apply, OR_recv d c k 10 le_rfl, TB_recv, TB_recv, TB_recv]
    simp only [Nat.add_zero]
    exact if_congr ⟨fun h => h.1, fun h => ⟨h, by omega⟩⟩ rfl rfl
  unfold tallyAt; refine congrArg _ (Finsupp.ext fun u => ?_); cases u
  rw [Pipeline.launchCredit_owing, Finsupp.single_eq_same, Finset.sum_congr rfl fun d _ => h d, Finset.sum_ite_eq' Finset.univ (xp c k) fun _ => xN k,
    if_pos (Finset.mem_univ _)]

theorem creds_of (c : Dev nD) : (Pipeline.launchCred O₀ c : sProp 𝕄) ⊢ creds c := by
  unfold Pipeline.launchCred creds
  have hinj : Set.InjOn csem (Finset.univ : Finset CI) := fun i _ j _ h => csem_inj h
  refine (bigSep_subset (t := Finset.univ.image csem) (Finset.subset_univ _)).trans ?_
  rw [bigSep_image_of_injOn hinj, bigSep_CI]
  simp only [show ∀ k, csem (some (true, k)) = .dma (xRecv k) from fun _ => rfl, show csem none = .reg barS from rfl, launch_bar, launch_recv]
  show iprop(cred (tallyAt (barCell c) () 3) ∗ (bigSep Finset.univ fun k : Fin 10 => cred (tallyOn (sendCell c k) (launchCredit (Pipeline.owing O₀) 0 (sendCell c k))))
      ∗ bigSep Finset.univ fun k : Fin 10 => cred (tallyAt (recvCell c k) () (xN k))) ⊢ (iprop(cred (tallyAt (barCell c) () 3)
      ∗ bigSep Finset.univ fun k : Fin 10 => cred (tallyAt (recvCell c k) () (xN k))) : sProp 𝕄)
  iintro ⟨H0, -, H1⟩
  isplitl [H0]; · iexact H0
  iexact H1

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨HK, HV⟩, Hlev, Hcr, -, HG⟩
  ihave Hc := (creds_of (F := F) c) $$ Hcr
  imodintro
  unfold start G' kv
  icases HG with ⟨HG, HZ⟩
  isplitl
  · isplitl [HG]; · iexact HG
    isplitl [Hc]; · iexact Hc
    isplitl [Hlev]; · iexact Hlev
    isplitl [HK HV]
    · isplitl [HK]; · iexact HK
      iexact HV
    iexact HZ
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scr
  iintro ⟨Hs, -, Hr⟩
  isplitl [Hs]; · iexact Hs
  iexact Hr

theorem phi1_exit (c : Dev nD) :
    (dats m ρ 0 c).Φ (Fin.last cfg0.N) ⊢ iprop((unscopedSems0 c ∗ kv m c) ∗ Pipeline.ownSems0 osem c ∗ Pipeline.scopedRest cfg0.spec c) := by
  rw [show (dats m ρ 0 c).Φ (Fin.last cfg0.N) = Φ₁ m c from rfl, scopedRest0_eq, ownSems0_eq, unscopedSems0_eq, ← bigSep_sep', bigSep10]
  unfold Φ₁ scr xZ xsems
  iintro ⟨Hr, Hkv, HZ, ⟨⟨H0, H1⟩, ⟨H2, H3⟩, ⟨H4, H5⟩, ⟨H6, H7⟩, H8, H9⟩, HB⟩
  isplitl [HB Hkv]
  · isplitl [HB]; · iexact HB
    iexact Hkv
  isplitr [Hr]
  · isplitl [HZ]; · iexact HZ
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide +kernel) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QY (c : Dev nD) (s : MemSt nD τ sig (Elt F)) : Prop :=
  (∀ sm : SemLoc sig, sm.isScoped .tc = false → s.sem ((c.tc : Thread nD τ), sm) = 0)
    ∧ s.mem ((c : Thread nD τ).loc main_arg3) = m ((c : Thread nD τ).loc main_arg3) ∧ s.mem ((c : Thread nD τ).loc main_arg4) = m ((c : Thread nD τ).loc main_arg4)

def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg3) = m ((c : Thread nD τ).loc main_arg3) ∧ r.2.mem ((c : Thread nD τ).loc main_arg4) = m ((c : Thread nD τ).loc main_arg4)

theorem read_back (c : Dev nD) (s' : Phys nD τ sig (Elt F)) :
    iprop((unscopedSems0 c ∗ kv m c) ∗ emp ∗ SI s') ⊢ |={Set.univ}=> (iprop(⌜QY m c s'.mem⌝ ∗ SI s') : sProp 𝕄) := by
  unfold kv
  iintro ⟨⟨Hu, HK, HV⟩, -, HSI⟩
  imod (Pipeline.unscopedSems0_read (X := unscopedSems0 c) (c := c) fupd_intro s') $$ [Hu HSI] with ⟨%h, HSI⟩
  · isplitl [Hu] <;> iassumption
  icombine HSI HK gives %h3
  icombine HSI HV gives %h4
  imodintro
  isplitr; · ipureintro; exact ⟨h, Buf.eq_of_forall_mem_univ h3, Buf.eq_of_forall_mem_univ h4⟩
  iexact HSI

set_option maxRecDepth 65536 in
/-- Every weakly fair execution of @main on the eight devices, from any memory with zero counters, terminates; every
    final state has each device's arrays at the computed contents and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      ihave H := (own_pair_emb _ _ _) $$ HX
      icases H with ⟨HX, -⟩
      imod (show (BI.own (((Emb.inl : Emb UB UC).trans embR) (initOf pCells pToks)) : sProp 𝕄) ⊢ |==> bigSep Finset.univ (G m) from fund_p m) $$ HX with HG
      imodintro
      isplitl [HP] <;> iassumption)
    (hglob := glob m)
    (hA := fun _ _ => rfl) (hpf := fun _ k => k.elim0)
    (X := start m) (Y := fun c => iprop(unscopedSems0 c ∗ kv m c)) (Z := fun _ => iprop(emp))
    (hX := start_intro m ρ) (hin := phi0_intro m ρ) (hout := phi1_exit m ρ)
    (QY := QY m) (hY := read_back m)
    (hQ := fun _ h hs => ⟨fun c => ⟨(h c).1, (h c).2.2.2⟩, sem_eq_zero hs fun c => (h c).2.2.1⟩)

/-- The windows' input arrays after the run hold what they held. -/
theorem finalA_in (c : Dev nD) (w : Fin cfg0.W) (hw : (cfg0.win w).isOut = false) :
    finalA m ρ c w = (s₀ m ρ).mem ((cfg0.win w).arr.view.loc (c : Thread nD τ)) :=
  (dats (F := F) m ρ 0 c).arrAt_in w hw _

/-- On every device the argument arrays hold what they held. -/
def ArgsKept (r : PUnit × MemSt nD τ sig (Elt F)) (c : Dev nD) : Prop :=
  r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)

theorem args_of_QC {r : PUnit × MemSt nD τ sig (Elt F)} (h : QC m ρ r) (c : Dev nD) : ArgsKept m r c :=
  ⟨((h c).1 0).trans (finalA_in m ρ c 0 rfl), ((h c).1 1).trans (finalA_in m ρ c 1 rfl), ((h c).1 2).trans (finalA_in m ρ c 2 rfl), (h c).2.1, (h c).2.2⟩

/-- The program runs from any memory with zero counters, its argument arrays end unchanged and every counter ends at zero. -/
theorem run_kept : θ_run defs (onTc (τ := τ) (main (F := F))) ⟨m, fun _ => 0, ρ⟩ (fun r => (∀ c : Dev nD, ArgsKept m r c) ∧ r.2.sem = fun _ => 0) :=
  (θ_run defs _ _).mono (fun _ h => ⟨args_of_QC m ρ h.1, h.2⟩) (run_main m ρ)

/-- It runs, each device's result array ends at the window's final contents, and the argument arrays end unchanged. -/
theorem run_value : θ_run defs (onTc (τ := τ) (main (F := F))) ⟨m, fun _ => 0, ρ⟩
    (fun r => ∀ c : Dev nD, r.2.mem ((c.tc : Thread nD τ).loc main_v1) = finalA m ρ c 3 ∧ ArgsKept m r c) :=
  (θ_run defs _ _).mono (fun _ h c => ⟨(h.1 c).1 3, args_of_QC m ρ h.1 c⟩) (run_main m ρ)

end Cert.KernelIdeal.Hand
-- ==== Proof.Softmax.lean ====
/-
  The arithmetic of a softmax over the extended reals, free of any kernel.

  A kernel that exponentiates the scores as they are and one that first takes their maximum off compute the same
  quotient, as long as the scores are real numbers. The values averaged may be any extended reals.
-/
module

public import Idealize.ShloMosaic.PureOps
public import Idealize.ShloMosaic.PureOps.Ideal.Laws

@[expose] public section

noncomputable section

namespace Cert.Softmax

open Idealize.ShloMosaic

/-- The extended real is a real number. -/
def IsReal (a : EReal) : Prop := ∃ r : ℝ, a = (r : EReal)

theorem isReal_coe (r : ℝ) : IsReal (r : EReal) := ⟨r, rfl⟩

theorem IsReal.add {a b : EReal} : IsReal a → IsReal b → IsReal (a + b) := by
  rintro ⟨r, rfl⟩ ⟨s, rfl⟩; exact ⟨r + s, (EReal.coe_add r s).symm⟩

theorem IsReal.mul {a b : EReal} : IsReal a → IsReal b → IsReal (a * b) := by
  rintro ⟨r, rfl⟩ ⟨s, rfl⟩; exact ⟨r * s, (EReal.coe_mul r s).symm⟩

theorem IsReal.max {a b : EReal} (ha : IsReal a) (hb : IsReal b) : IsReal (Max.max a b) := by
  rcases max_choice a b with h | h <;> rw [h] <;> assumption

/-- The coercion of the reals commutes with a finite sum. -/
theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

theorem IsReal.sum {ι : Type} (S : Finset ι) {f : ι → EReal} (h : ∀ i, IsReal (f i)) : IsReal (∑ i ∈ S, f i) := by
  choose g hg using h
  exact ⟨∑ i ∈ S, g i, by rw [coe_sum]; exact Finset.sum_congr rfl fun i _ => hg i⟩

/-- The maximum of a nonempty finite family of reals, folded from `⊥`, is a real. -/
theorem isReal_fold_max {ι : Type} (S : Finset ι) (hS : S.Nonempty) {f : ι → EReal} (h : ∀ i, IsReal (f i)) :
    IsReal (S.fold Max.max ⊥ f) := by
  classical
  induction S using Finset.induction_on with
  | empty => exact absurd hS Finset.not_nonempty_empty
  | insert a S ha ih =>
    rw [Finset.fold_insert ha]
    rcases S.eq_empty_or_nonempty with rfl | hne
    · rw [Finset.fold_empty, max_bot_right]; exact h a
    · exact (h a).max (ih hne)

/-- A positive real factor distributes over a finite sum of extended reals. -/
theorem mul_sum_pos {ι : Type} (S : Finset ι) (c : ℝ) (hc : 0 < c) (f : ι → EReal) :
    (c : EReal) * ∑ i ∈ S, f i = ∑ i ∈ S, (c : EReal) * f i := by
  classical
  induction S using Finset.induction_on with
  | empty => simp
  | insert a S ha ih =>
    rw [Finset.sum_insert ha, Finset.sum_insert ha,
      EReal.left_distrib_of_nonneg_of_ne_top (by exact_mod_cast hc.le) (EReal.coe_ne_top c), ih]

/-- A positive real factor common to both parts of a quotient with a positive real divisor cancels. -/
theorem div_mul_left (c L : ℝ) (hc : 0 < c) (hL : 0 < L) (N : EReal) :
    Ideal.div ((c : EReal) * N) ((c : EReal) * (L : EReal)) = Ideal.div N (L : EReal) := by
  rw [← EReal.coe_mul, Ideal.div_coe (mul_pos hc hL).ne', Ideal.div_coe hL.ne', mul_comm (c : EReal) N, mul_assoc,
    ← EReal.coe_mul]
  congr 2
  field_simp

/-- The scaling of a score: the scale on each query entry, or once on the sum, for real entries. -/
theorem score_scale {n : Nat} (q k : Fin n → EReal) (s : EReal) (hq : ∀ i, IsReal (q i)) (hk : ∀ i, IsReal (k i)) (hs : IsReal s) :
    ∑ i, (q i * s) * k i = (∑ i, q i * k i) * s := by
  choose q' hq' using hq
  choose k' hk' using hk
  obtain ⟨s', rfl⟩ := hs
  simp only [hq', hk', ← EReal.coe_mul, ← coe_sum]
  rw [Finset.sum_mul]
  congr 1
  exact Finset.sum_congr rfl fun i _ => by ring

/-- The softmax average with the scores as they are. -/
def avg {n : Nat} (s : Fin n → EReal) (v : Fin n → EReal) : EReal :=
  Ideal.div (∑ j, Ideal.exp (s j) * v j) (∑ j, Ideal.exp (s j))

/-- Taking a real off every score leaves the softmax average as it is. -/
theorem avg_shift {n : Nat} (hn : 0 < n) (s v : Fin n → EReal) (M : EReal) (hs : ∀ j, IsReal (s j)) (hM : IsReal M) :
    Ideal.div (∑ j, v j * Ideal.exp (s j - M)) (∑ j, Ideal.exp (s j - M)) = avg s v := by
  choose s' hs' using hs
  obtain ⟨M', rfl⟩ := hM
  have he : ∀ j, Ideal.exp (s j - (M' : EReal)) = ((Real.exp (-M') : ℝ) : EReal) * ((Real.exp (s' j) : ℝ) : EReal) := fun j => by
    rw [hs', ← EReal.coe_sub, Ideal.exp_coe, ← EReal.coe_mul, ← Real.exp_add]
    congr 2; ring
  have he' : ∀ j, Ideal.exp (s j) = ((Real.exp (s' j) : ℝ) : EReal) := fun j => by rw [hs', Ideal.exp_coe]
  have hpos : 0 < ∑ j : Fin n, Real.exp (s' j) :=
    Finset.sum_pos (fun j _ => Real.exp_pos _) ⟨⟨0, hn⟩, Finset.mem_univ _⟩
  unfold avg
  simp only [he, he']
  rw [← mul_sum_pos _ _ (Real.exp_pos _), ← coe_sum]
  rw [← div_mul_left (Real.exp (-M')) _ (Real.exp_pos _) hpos]
  congr 1
  rw [mul_sum_pos _ _ (Real.exp_pos _)]
  exact Finset.sum_congr rfl fun j _ => by rw [mul_comm (v j), mul_assoc]

end Cert.Softmax

end
-- ==== Proof.Spec.lean ====
/-
  The attention layer as a formula over the extended reals: what both programs' result arrays are shown to hold.
-/
module

public import proofs.«01_k».proof.Proof.Softmax
public import Idealize.ShloMosaic.Lib.ValueIdxCore

@[expose] public section

noncomputable section

namespace Cert.Spec

open Idealize.ShloMosaic Idealize.ShloMosaic.ValueIdx Cert.Softmax

/-- The scale of the scores, the float nearest one over the square root of the head width. -/
def scale : EReal := Ideal.ofBits .f32 0x3DB504F3#32

/-- The scale is a real number. -/
theorem scale_real : IsReal scale := by
  unfold scale
  simp [Ideal.ofBits, Ideal.ieee]
  exact ⟨_, rfl⟩

/-- The column of the query weights that entry `e` of a head comes from, by a column of the head. -/
def colOf (k : Fin 8192) (e : Fin 128) : Fin 8192 := ⟨128 * (k.val / 128) + e.val, by have := k.isLt; have := e.isLt; omega⟩
/-- The head of a column. -/
def headOf (k : Fin 8192) : Fin 64 := ⟨k.val / 128, by have := k.isLt; omega⟩
/-- A column's place in its head. -/
def inHead (k : Fin 8192) : Fin 128 := ⟨k.val % 128, Nat.mod_lt _ (by decide)⟩
/-- The batch element of a row. -/
def batchOf (r : Fin 1024) : Fin 4 := ⟨r.val / 256, by have := r.isLt; omega⟩

/-- The arrays of the layer: `x`, the query weights, the output weights, the keys and the values. -/
abbrev Mat (a b : Nat) := (⟨2, ![a, b]⟩ : Shape).Idx → EReal
abbrev Cache := (⟨4, ![4, 1024, 64, 128]⟩ : Shape).Idx → EReal

/-- A query entry, before the scale. -/
def query (x : Mat 1024 1024) (wq : Mat 1024 8192) (r : Fin 1024) (k : Fin 8192) : EReal :=
  ∑ i : Fin 1024, x (ix2 r i) * wq (ix2 i k)

/-- The score of row `r` against key `j`, in the head of column `k`. -/
def score (x : Mat 1024 1024) (wq : Mat 1024 8192) (ks : Cache) (r : Fin 1024) (k : Fin 8192) (j : Fin 1024) : EReal :=
  ∑ e : Fin 128, (query x wq r (colOf k e) * scale) * ks (ix4 (batchOf r) j (headOf k) e)

/-- The attention at row `r` and column `k`. -/
def attn (x : Mat 1024 1024) (wq : Mat 1024 8192) (ks vs : Cache) (r : Fin 1024) (k : Fin 8192) : EReal :=
  avg (score x wq ks r k) fun j => vs (ix4 (batchOf r) j (headOf k) (inHead k))

/-- The layer's result. -/
def out (x : Mat 1024 1024) (wq : Mat 1024 8192) (wo : Mat 8192 1024) (ks vs : Cache) : Mat 1024 1024 := fun i =>
  ∑ k : Fin 8192, attn x wq ks vs (i 0) k * wo (ix2 k (i 1))

/-- Column `k` of device `c`'s block of the eight. -/
def colAt (c : Fin 8) (k : Fin 1024) : Fin 8192 := ⟨1024 * c.val + k.val, by have := c.isLt; have := k.isLt; omega⟩

/-- The sum over all columns is the sum over the eight blocks of the sums over each block's columns. -/
theorem sum_blocks (f : Fin 8192 → EReal) : ∑ k, f k = ∑ c : Fin 8, ∑ k : Fin 1024, f (colAt c k) := by
  rw [← Fintype.sum_prod_type', ← Equiv.sum_comp (finProdFinEquiv (m := 8) (n := 1024))]
  refine Finset.sum_congr rfl fun p _ => congrArg f (Fin.ext ?_)
  show p.2.val + 1024 * p.1.val = 1024 * p.1.val + p.2.val
  omega

end Cert.Spec

end
-- ==== Proof.KValue.lean ====
/-
  What the kernel leaves in the result array, at the extended reals: the layer's formula of the whole weights, by the
  blocks the devices hold.
-/
module

public import proofs.«01_k».proof.Proof.Launch
public import proofs.«01_k».proof.Proof.Spec
public import Idealize.ShloMosaic.Lib.MatmulPlain
public import Idealize.ShloMosaic.Lib.IdealHost
public import Idealize.ShloMosaic.Lib.Pipeline.Value
public import Idealize.ShloMosaic.Lib.Pipeline.ValueKit.Geometry

@[expose] public section

noncomputable section

namespace Cert.KernelIdeal.Hand

open Cert.KernelIdeal Cert.KernelIdeal.Gen Cert.Softmax
open Cert.Rows (ix2_ext ix4_ext unit_emb_of unit_emb_val reshape_11mn)
open Idealize.ShloMosaic Idealize.ShloMosaic.ValueIdx
open Idealize.ShloMosaic.TcCoe
open Idealize.SL.Sem

/-! ## The blocks at an index -/

/-- A zero constant read at an index. -/
theorem zeros_apply {s : Shape} (i : s.Idx) : constant (F := Ideal) s .f32 0x00000000#32 i = 0 := Ideal.ofBits_zero_f32

/-- A query at an index. -/
theorem qVal_apply (x wq : FVec Ideal S1024x1024 .f32) (r k : Fin 1024) :
    qVal x wq (ix2 r k) = (∑ i : Fin 1024, x (ix2 r i) * wq (ix2 i k)) * Cert.Spec.scale := by
  unfold qVal
  rw [cast_self, cast_self]
  show FloatOps.matmul (DotDims.plain 1024 1024 1024) none x wq (constant S1024x1024 .f32 0x00000000#32) (ix2 r k) * _ = _
  rw [Ideal.matmul_plain_apply, zeros_apply, zero_add]
  rfl

/-- A projection at an index. -/
theorem projVal_apply (a : FVec Ideal S256x1024 .bf16) (wo : FVec Ideal S1024x1024 .bf16) (r : Fin 256) (k : Fin 1024) :
    projVal a wo (ix2 r k) = ∑ i : Fin 1024, a (ix2 r i) * wo (ix2 i k) := by
  show FloatOps.matmul (DotDims.plain 256 1024 1024) none a wo (constant S256x1024 .f32 0x00000000#32) (ix2 r k) = _
  rw [Ideal.matmul_plain_apply, zeros_apply, zero_add]

/-- A head's scores at an index. -/
theorem scores_apply (q : FVec Ideal S256x128 .f32) (k : FVec Ideal S1024x128 .f32) (r : Fin 256) (j : Fin 1024) :
    matmul dot_S256x128_S1024x128_S256x1024_1_1_0_0_n_n none q k (constant S256x1024 .f32 0x00000000#32) (ix2 r j)
      = ∑ e : Fin 128, q (ix2 r e) * k (ix2 j e) := by
  show FloatOps.matmul (DotDims.transposedRhs 256 128 1024) none q k (constant S256x1024 .f32 0x00000000#32) (ix2 r j) = _
  rw [Ideal.matmul_transposedRhs_apply, zeros_apply, zero_add]

/-- The exponentials against the values, at an index. -/
theorem weighted_apply (p : FVec Ideal S256x1024 .f32) (v : FVec Ideal S1024x256 .f32) (r : Fin 256) (d : Fin 256) :
    matmul dot_S256x1024_S1024x256_S256x256_1_0_0_1_n_n none p v (constant S256x256 .f32 0x00000000#32) (ix2 r d)
      = ∑ j : Fin 1024, p (ix2 r j) * v (ix2 j d) := by
  show FloatOps.matmul (DotDims.plain 256 1024 256) none p v (constant S256x256 .f32 0x00000000#32) (ix2 r d) = _
  rw [Ideal.matmul_plain_apply, zeros_apply, zero_add]

/-- The columns of a block divided by its column 128, at an index. -/
theorem quot_apply (ov : FVec Ideal S256x256 .f32) (r : Fin 256) (d : Fin 128) :
    truncf (F := Ideal) .bf16 (divf (extractStridedSlice S256x128 ![0, 0] ov slices_S256x256_o0_0_S256x128)
      (broadcastTo S256x128 (extractStridedSlice S256x1 ![0, 128] ov slices_S256x256_o0_128_S256x1)
        broadcasts_S256x1_S256x128)) bitsLt_bf16_f32 (ix2 r d)
      = Ideal.div (ov (ix2 r (⟨d.val, by omega⟩ : Fin 256))) (ov (ix2 r (⟨128, by omega⟩ : Fin 256))) := by
  refine congrArg₂ Ideal.div ?_ ?_
  · exact extractStridedSlice_apply (s := S256x256) (t := S256x128) ![0, 0] ov slices_S256x256_o0_0_S256x128 _ _ (by
      intro a; match a with | ⟨0, _⟩ => exact (Nat.zero_add _).symm | ⟨1, _⟩ => exact (Nat.zero_add _).symm)
  · refine (broadcastTo_apply (s := S256x1) (t := S256x128) _ broadcasts_S256x1_S256x128 _ (ix2 r (0 : Fin 1)) (by
      intro a; match a with | ⟨0, _⟩ => rfl | ⟨1, _⟩ => rfl)).trans ?_
    exact extractStridedSlice_apply (s := S256x256) (t := S256x1) ![0, 128] ov slices_S256x256_o0_128_S256x1 _ _ (by
      intro a; match a with | ⟨0, _⟩ => exact (Nat.zero_add _).symm | ⟨1, _⟩ => rfl)

/-- A head's attention at an index. -/
theorem headVal_apply (q : FVec Ideal S256x128 .f32) (k : FVec Ideal S1024x128 .f32) (v : FVec Ideal S1024x256 .f32)
    (r : Fin 256) (d : Fin 128) :
    headVal q k v (ix2 r d)
      = Ideal.div (∑ j : Fin 1024, Ideal.exp (∑ e : Fin 128, q (ix2 r e) * k (ix2 j e)) * v (ix2 j (⟨d.val, by omega⟩ : Fin 256)))
          (∑ j : Fin 1024, Ideal.exp (∑ e : Fin 128, q (ix2 r e) * k (ix2 j e)) * v (ix2 j (⟨128, by omega⟩ : Fin 256))) := by
  refine (quot_apply _ r d).trans (congrArg₂ Ideal.div ?_ ?_) <;>
  · rw [weighted_apply]
    refine Finset.sum_congr rfl fun j _ => ?_
    show Ideal.exp (matmul dot_S256x128_S1024x128_S256x1024_1_1_0_0_n_n none q k (constant S256x1024 .f32 0x00000000#32) (ix2 r j)) * _ = _
    rw [scores_apply]

/-! ## The contents at an index -/

variable (m : (ℓ : Loc nD τ sig) → Buf (Elt Ideal) ℓ)

/-- The column beside the values that the quotient divides by holds ones. -/
theorem onesVal_zero (i : S2x8x1024x128.Idx) (h : (i 3).val = 0) : onesVal (F := Ideal) i = 1 := by
  have hc : cmpi .eq (iota .tc S2x8x1024x128 32 [3] iota_S2x8x1024x128_d3_w32) (broadcast S2x8x1024x128 0#32) i = 1#1 := by
    show IntOp.cmpi .eq (BitVec.ofNat 32 (0 * 128 + (i 3).val)) 0#32 = 1#1
    rw [h]; rfl
  unfold onesVal
  show (if cmpi .eq (iota .tc S2x8x1024x128 32 [3] iota_S2x8x1024x128_d3_w32) (broadcast S2x8x1024x128 0#32) i = 1#1
    then Ideal.ofBits .f32 0x3F800000#32 else Ideal.ofBits .f32 0x00000000#32) = 1
  rw [if_pos hc, Ideal.ofBits_one_f32]

/-- A device's argument arrays, as arrays of extended reals. -/
def aX (c : Dev nD) : Cert.Spec.Mat 1024 1024 := m ((c : Thread nD τ).loc main_arg0)
def aWq (c : Dev nD) : Cert.Spec.Mat 1024 1024 := m ((c : Thread nD τ).loc main_arg1)
def aWo (c : Dev nD) : Cert.Spec.Mat 1024 1024 := m ((c : Thread nD τ).loc main_arg2)
def aK (c : Dev nD) : Cert.Spec.Cache := m ((c : Thread nD τ).loc main_arg3)
def aV (c : Dev nD) : Cert.Spec.Cache := m ((c : Thread nD τ).loc main_arg4)

/-- The device's copy of `x` is its first argument. -/
theorem xC_eq (c : Dev nD) : xC m c = aX m c := by
  funext i
  refine congrArg (m ((c : Thread nD τ).loc main_arg0)) (funext fun a => Fin.ext ?_)
  match a with
  | ⟨0, _⟩ => show 0 * _ + 1 * (i 0).val = (i 0).val; omega
  | ⟨1, _⟩ => show 0 * _ + 1 * (i 1).val = (i 1).val; omega
/-- The device's block of the query weights is its second. -/
theorem wqC_eq (c : Dev nD) : wqC m c = aWq m c := by
  funext i
  refine congrArg (m ((c : Thread nD τ).loc main_arg1)) (funext fun a => Fin.ext ?_)
  match a with
  | ⟨0, _⟩ => show 0 * _ + 1 * (i 0).val = (i 0).val; omega
  | ⟨1, _⟩ => show 0 * _ + 1 * (i 1).val = (i 1).val; omega
/-- The device's block of the output weights is its third. -/
theorem woC_eq (c : Dev nD) : woC m c = aWo m c := by
  funext i
  refine congrArg (m ((c : Thread nD τ).loc main_arg2)) (funext fun a => Fin.ext ?_)
  match a with
  | ⟨0, _⟩ => show 0 * _ + 1 * (i 0).val = (i 0).val; omega
  | ⟨1, _⟩ => show 0 * _ + 1 * (i 1).val = (i 1).val; omega

/-- A window of a head's queries at an index. -/
theorem q_at (c : Dev nD) (p : Fin 4) (h : Fin 8) (r : Fin 256) (e : Fin 128) :
    bQ.view.readAt (Elt Ideal) (qR c p h).toLoadRect (qC m c) (ix2 r e)
      = qC m c (ix2 (⟨256 * bo c p + r.val, by have := bo_lt c p; omega⟩ : Fin 1024) (⟨128 * h.val + e.val, by omega⟩ : Fin 1024)) := by
  show qC m c ((qR c p h).emb (ix2 r e)) = _
  refine congrArg (qC m c) (ix2_ext ?_ ?_)
  · exact unit_emb_of (s := S1024x1024) (qOff_inb c p h) _ (qOff_eq c p h) _ 0
  · exact unit_emb_of (s := S1024x1024) (qOff_inb c p h) _ (qOff_eq c p h) _ 1

/-- A head's keys at an index. -/
theorem k_at (c : Dev nD) (p : Fin 4) (h : Fin 8) (j : Fin 1024) (e : Fin 128) :
    shapeCast S1024x128 (bKs.view.readAt (Elt Ideal) (kR p h).toLoadRect (ksC m c p)) shapeCasts_S1x1x1024x128_S1024x128 (ix2 j e)
      = aK m c (ix4 (ba c p) j (hd c h) e) := by
  show ksC m c p ((kR p h).emb (Shape.reshapeEquiv _ (ix2 j e))) = _
  rw [reshape_11mn 1024 128]
  unfold ksC
  refine congrArg (keyC m c) (ix4_ext rfl ?_ ?_ ?_)
  · refine (unit_emb_val _ _ 2).trans ?_; exact Nat.zero_add _
  · show 8 * c.val + _ = 8 * c.val + h.val
    refine congrArg (8 * c.val + ·) ((unit_emb_val _ _ 1).trans ?_); rfl
  · refine (unit_emb_val _ _ 3).trans ?_; exact Nat.zero_add _

/-- A head's values at an index. -/
theorem v_at (c : Dev nD) (p : Fin 4) (h : Fin 8) (j : Fin 1024) (d : Fin 128) :
    shapeCast S1024x256 (bVs.view.readAt (Elt Ideal) (vR p h).toLoadRect (vsC m c p)) shapeCasts_S1x1x1024x256_S1024x256
        (ix2 j (⟨d.val, by omega⟩ : Fin 256))
      = aV m c (ix4 (ba c p) j (hd c h) d) := by
  show vsC m c p ((vR p h).emb (Shape.reshapeEquiv _ (ix2 j _))) = _
  rw [reshape_11mn 1024 256]
  have h3 : ((vR p h).emb (Cert.Rows.ix4 (d := ![1, 1, 1024, 256]) (0 : Fin 1) (0 : Fin 1) j (⟨d.val, by omega⟩ : Fin 256)) 3).val = d.val :=
    (unit_emb_val _ _ 3).trans (Nat.zero_add _)
  unfold vsC
  refine (dif_pos (h3.trans_lt d.isLt)).trans ?_
  refine congrArg (valC m c) (ix4_ext rfl ?_ ?_ ?_)
  · refine (unit_emb_val _ _ 2).trans ?_; exact Nat.zero_add _
  · show 8 * c.val + _ = 8 * c.val + h.val
    refine congrArg (8 * c.val + ·) ((unit_emb_val _ _ 1).trans ?_); rfl
  · exact h3

/-- The column of ones beside a head's values. -/
theorem one_at (c : Dev nD) (p : Fin 4) (h : Fin 8) (j : Fin 1024) :
    shapeCast S1024x256 (bVs.view.readAt (Elt Ideal) (vR p h).toLoadRect (vsC m c p)) shapeCasts_S1x1x1024x256_S1024x256
        (ix2 j (⟨128, by omega⟩ : Fin 256)) = 1 := by
  show vsC m c p ((vR p h).emb (Shape.reshapeEquiv _ (ix2 j _))) = _
  rw [reshape_11mn 1024 256]
  have h3 : ((vR p h).emb (Cert.Rows.ix4 (d := ![1, 1, 1024, 256]) (0 : Fin 1) (0 : Fin 1) j (⟨128, by omega⟩ : Fin 256)) 3).val = 128 :=
    (unit_emb_val _ _ 3).trans (Nat.zero_add _)
  unfold vsC
  refine (dif_neg (by rw [show ((vR p h).emb _ 3).val = 128 from h3]; omega)).trans (onesVal_zero _ ?_)
  show ((vR p h).emb _ 3).val - 128 = 0
  rw [show ((vR p h).emb _ 3).val = 128 from h3]

/-- A head's attention at a place, at an index. -/
theorem headC_apply (c : Dev nD) (p : Fin 4) (h : Fin 8) (r : Fin 256) (d : Fin 128) :
    headC m c p h (ix2 r d)
      = avg (fun j => ∑ e : Fin 128,
          ((∑ i : Fin 1024, aX m c (ix2 (⟨256 * bo c p + r.val, by have := bo_lt c p; omega⟩ : Fin 1024) i)
            * aWq m c (ix2 i (⟨128 * h.val + e.val, by omega⟩ : Fin 1024))) * Cert.Spec.scale)
          * aK m c (ix4 (ba c p) j (hd c h) e))
        (fun j => aV m c (ix4 (ba c p) j (hd c h) d)) := by
  unfold headC
  refine (headVal_apply _ _ _ r d).trans ?_
  have hs : ∀ j : Fin 1024, (∑ e : Fin 128, bQ.view.readAt (Elt Ideal) (qR c p h).toLoadRect (qC m c) (ix2 r e)
      * shapeCast S1024x128 (bKs.view.readAt (Elt Ideal) (kR p h).toLoadRect (ksC m c p)) shapeCasts_S1x1x1024x128_S1024x128 (ix2 j e))
      = ∑ e : Fin 128,
          ((∑ i : Fin 1024, aX m c (ix2 (⟨256 * bo c p + r.val, by have := bo_lt c p; omega⟩ : Fin 1024) i)
            * aWq m c (ix2 i (⟨128 * h.val + e.val, by omega⟩ : Fin 1024))) * Cert.Spec.scale)
          * aK m c (ix4 (ba c p) j (hd c h) e) := fun j =>
    Finset.sum_congr rfl fun e _ => congrArg₂ (· * ·) ((q_at m c p h r e).trans (by
      unfold qC
      rw [qVal_apply, xC_eq, wqC_eq])) (k_at m c p h j e)
  refine congrArg₂ Ideal.div (Finset.sum_congr rfl fun j _ => congrArg₂ (· * ·) (congrArg Ideal.exp (hs j)) (v_at m c p h j d))
    (Finset.sum_congr rfl fun j _ => ?_)
  exact (congrArg₂ (· * ·) (congrArg Ideal.exp (hs j)) (one_at m c p h j)).trans (mul_one _)

/-- The device's arguments are the layer's arrays: the whole of `x`, the keys and the values, and the device's block of
    columns of the query weights and of rows of the output weights. -/
structure Laid (x : Cert.Spec.Mat 1024 1024) (wq : Cert.Spec.Mat 1024 8192) (wo : Cert.Spec.Mat 8192 1024)
    (ks vs : Cert.Spec.Cache) : Prop where
  x : ∀ c, aX m c = x
  wq : ∀ c i k, aWq m c (ix2 i k) = wq (ix2 i (Cert.Spec.colAt c k))
  wo : ∀ c k n, aWo m c (ix2 k n) = wo (ix2 (Cert.Spec.colAt c k) n)
  k : ∀ c, aK m c = ks
  v : ∀ c, aV m c = vs

variable {m} {x : Cert.Spec.Mat 1024 1024} {wq : Cert.Spec.Mat 1024 8192} {wo : Cert.Spec.Mat 8192 1024}
  {ks vs : Cert.Spec.Cache}

/-- A device's attention is the layer's, in the device's columns. -/
theorem attnC_spec (H : Laid m x wq wo ks vs) (c : Dev nD) (p : Fin 4) (r : Fin 256) (k : Fin 1024) :
    attnC m c p (ix2 r k)
      = Cert.Spec.attn x wq ks vs (⟨256 * bo c p + r.val, by have := bo_lt c p; omega⟩ : Fin 1024) (Cert.Spec.colAt c k) := by
  have hc : c.val < 8 := c.isLt
  have hk : k.val < 1024 := k.isLt
  have hb := bo_lt c p
  have hB : ba c p = Cert.Spec.batchOf (⟨256 * bo c p + r.val, by omega⟩ : Fin 1024) := Fin.ext (by
    show bo c p = (256 * bo c p + r.val) / 256
    omega)
  have hH : hd c (⟨k.val / 128, by omega⟩ : Fin 8) = Cert.Spec.headOf (Cert.Spec.colAt c k) := Fin.ext (by
    show 8 * c.val + k.val / 128 = (1024 * c.val + k.val) / 128
    omega)
  have hI : (⟨k.val % 128, Nat.mod_lt _ (by decide)⟩ : Fin 128) = Cert.Spec.inHead (Cert.Spec.colAt c k) := Fin.ext (by
    show k.val % 128 = (1024 * c.val + k.val) % 128
    omega)
  have hC : ∀ e : Fin 128, Cert.Spec.colAt c (⟨128 * (k.val / 128) + e.val, by omega⟩ : Fin 1024)
      = Cert.Spec.colOf (Cert.Spec.colAt c k) e := fun e => Fin.ext (by
    show 1024 * c.val + (128 * (k.val / 128) + e.val) = 128 * ((1024 * c.val + k.val) / 128) + e.val
    omega)
  show headC m c p (⟨k.val / 128, by omega⟩ : Fin 8) (Cert.Rows.ix2 (d := ![256, 128]) r (⟨k.val % 128, Nat.mod_lt _ (by decide)⟩ : Fin 128)) = _
  rw [show (Cert.Rows.ix2 (d := ![256, 128]) r (⟨k.val % 128, Nat.mod_lt _ (by decide)⟩ : Fin 128))
      = ix2 r (⟨k.val % 128, Nat.mod_lt _ (by decide)⟩ : Fin 128) from ix2_ext rfl rfl, headC_apply]
  simp only [H.x, H.wq, H.k, H.v]
  rw [hB, hH, hI]
  simp only [hC]
  rfl

theorem bo_po : ∀ (c : Dev nD) (b : Fin 4), bo c (po c b.val) = b.val := by decide

/-- A device's own projection is its columns' part of the layer's result. -/
theorem accA_spec (H : Laid m x wq wo ks vs) (c : Dev nD) (i : S1024x1024.Idx) :
    accA m c i = ∑ k : Fin 1024, Cert.Spec.attn x wq ks vs (i 0) (Cert.Spec.colAt c k) * wo (ix2 (Cert.Spec.colAt c k) (i 1)) := by
  have h0 : (i 0).val < 1024 := (i 0).isLt
  have hb : bo c (po c ((i 0).val / 256)) = (i 0).val / 256 := bo_po c ⟨(i 0).val / 256, by omega⟩
  unfold accA
  rw [show (Cert.Rows.ix2 (d := ![256, 1024]) (⟨(i 0).val % 256, Nat.mod_lt _ (by decide)⟩ : Fin 256) (i 1))
      = ix2 (⟨(i 0).val % 256, Nat.mod_lt _ (by decide)⟩ : Fin 256) (i 1) from ix2_ext rfl rfl]
  refine (projVal_apply _ _ _ (i 1)).trans (Finset.sum_congr rfl fun k _ => congrArg₂ (· * ·) ?_ ?_)
  · refine (attnC_spec H c _ _ k).trans (congrArg (fun r => Cert.Spec.attn x wq ks vs r _) (Fin.ext ?_))
    show 256 * bo c (po c ((i 0).val / 256)) + (i 0).val % 256 = (i 0).val
    rw [hb]; omega
  · show wobVal (woC m c) (ix2 k (i 1)) = _
    unfold wobVal
    rw [cast_self, woC_eq]
    exact H.wo c k (i 1)

/-- The three steps of the reduction, from any device and in either order of the bits, add up all eight devices' terms. -/
theorem tree_sum (g : Dev nD → EReal) (w : Fin 2) (c : Dev nD) :
    ((g c + g (par (dw w 0) c)) + (g (par (dw w 1) c) + g (par (dw w 0) (par (dw w 1) c))))
      + ((g (par (dw w 2) c) + g (par (dw w 0) (par (dw w 2) c)))
        + (g (par (dw w 1) (par (dw w 2) c)) + g (par (dw w 0) (par (dw w 1) (par (dw w 2) c))))) = ∑ d, g d := by
  have hs : ∀ (w : Fin 2) (c : Dev nD), (Multiset.ofList [c, par (dw w 0) c, par (dw w 1) c, par (dw w 0) (par (dw w 1) c),
      par (dw w 2) c, par (dw w 0) (par (dw w 2) c), par (dw w 1) (par (dw w 2) c), par (dw w 0) (par (dw w 1) (par (dw w 2) c))])
      = (Finset.univ : Finset (Dev nD)).val := by decide +kernel
  show _ = (Finset.univ.val.map g).sum
  rw [← hs w c]
  simp only [Multiset.map_coe, Multiset.sum_coe, List.map_cons, List.map_nil, List.sum_cons, List.sum_nil, add_zero, add_assoc]

/-- The kernel's result is the layer's. -/
theorem finC_spec (H : Laid m x wq wo ks vs) (c : Dev nD) : finC m c = Cert.Spec.out x wq wo ks vs := by
  funext i
  show _ = ∑ k : Fin 8192, _
  rw [Cert.Spec.sum_blocks]
  refine (tree_sum (fun d => accA m d i) (wOf i) (ow c (qOf i))).trans ?_
  exact Finset.sum_congr rfl fun d _ => accA_spec H d i

/-- The result array after the run holds the kernel's result. -/
theorem finalA_out (ρ : Dev nD → PrngReg) (c : Dev nD) : finalA m ρ c 3 = finC m c := by
  refine (dats m ρ 0 c).arrAt_eq_of_after_last (3 : Fin 4) t₀ (by decide +kernel) _ fun j => ?_
  show finC m c j = finC m c _
  exact congrArg (finC m c) (ix2_ext rfl rfl)

end Cert.KernelIdeal.Hand

end
-- ==== Proof.RValue.lean ====
/-
  What the reference leaves in the result array, at the extended reals: the layer's formula, as long as `x`, the query
  weights and the keys are real. The reference takes the largest score off every score of a row before it exponentiates,
  and starts its running sums from zeros scaled by the exponential of minus infinity; neither changes the quotient.
-/
module

public import proofs.«01_k».proof.Proof.Gen.ReferenceIdeal.Read
public import proofs.«01_k».proof.Proof.Spec
public import Idealize.ShloMosaic.Lib.IdealHost

@[expose] public section

noncomputable section

namespace Cert.ReferenceIdeal.Hand

open Cert.ReferenceIdeal Cert.ReferenceIdeal.Gen Cert.ReferenceIdeal.Read Cert.Softmax Cert.Spec
open Idealize.ShloMosaic Idealize.ShloMosaic.ValueIdx

variable (x : Mat 1024 1024) (wq : Mat 1024 8192) (wo : Mat 8192 1024) (ks vs : Cache)

/-- The row of a batch element's row. -/
def rowOf (b : Fin 4) (r : Fin 256) : Fin 1024 := ⟨256 * b.val + r.val, by omega⟩
/-- The column of a head's entry. -/
def colIn (h : Fin 64) (e : Fin 128) : Fin 8192 := ⟨128 * h.val + e.val, by omega⟩

/-- `x`, cut into the batch elements. -/
theorem v0_at (b : Fin 4) (r : Fin 256) (k : Fin 1024) :
    val_main_v0 (F := Ideal) x (ix3 b r k) = x (ix2 (rowOf b r) k) := by
  rw [val_main_v0_apply]
  refine congrArg x (funext fun a => Fin.ext ?_)
  match a with
  | ⟨0, _⟩ => show ((b.val * 256 + r.val) * 1024 + k.val) / 1024 = 256 * b.val + r.val; omega
  | ⟨1, _⟩ => show ((b.val * 256 + r.val) * 1024 + k.val) % 1024 = k.val; omega

/-- The queries. -/
theorem v1_at (b : Fin 4) (r : Fin 256) (n : Fin 8192) :
    val_main_v1 (F := Ideal) x wq (ix3 b r n) = query x wq (rowOf b r) n := by
  rw [val_main_v1_apply]
  refine Finset.sum_congr rfl fun k _ => congrArg₂ (· * ·) ?_ (congrArg wq ?_)
  · refine Eq.trans (congrArg (val_main_v0 (F := Ideal) x) ?_) (v0_at x b r k)
    funext a; match a with | ⟨0, _⟩ => rfl | ⟨1, _⟩ => rfl | ⟨2, _⟩ => rfl
  · funext a; match a with | ⟨0, _⟩ => rfl | ⟨1, _⟩ => rfl

/-- The queries, cut into the heads. -/
theorem v2_at (b : Fin 4) (r : Fin 256) (h : Fin 64) (e : Fin 128) :
    val_main_v2 (F := Ideal) x wq (ix4 b r h e) = query x wq (rowOf b r) (colIn h e) := by
  rw [val_main_v2_apply]
  refine Eq.trans (congrArg (val_main_v1 (F := Ideal) x wq) ?_) (v1_at x wq b r (colIn h e))
  funext a
  refine Fin.ext ?_
  match a with
  | ⟨0, _⟩ => show (((b.val * 256 + r.val) * 64 + h.val) * 128 + e.val) / 2097152 = b.val; omega
  | ⟨1, _⟩ => show (((b.val * 256 + r.val) * 64 + h.val) * 128 + e.val) / 8192 % 256 = r.val; omega
  | ⟨2, _⟩ => show (((b.val * 256 + r.val) * 64 + h.val) * 128 + e.val) % 8192 = 128 * h.val + e.val; omega

/-- The scores, as the reference scales them. -/
theorem v8_at (b : Fin 4) (h : Fin 64) (r : Fin 256) (j : Fin 1024) :
    val_main_v8 (F := Ideal) x wq ks (ix4 b h r j)
      = (∑ e : Fin 128, query x wq (rowOf b r) (colIn h e) * ks (ix4 b j h e)) * scale := by
  rw [val_main_v8_apply]
  refine congrArg₂ (· * ·) ?_ rfl
  rw [val_main_v6_apply]
  refine Finset.sum_congr rfl fun e _ => congrArg₂ (· * ·) ?_ (congrArg ks ?_)
  · refine Eq.trans (congrArg (val_main_v2 (F := Ideal) x wq) ?_) (v2_at x wq b r h e)
    funext a; match a with | ⟨0, _⟩ => rfl | ⟨1, _⟩ => rfl | ⟨2, _⟩ => rfl | ⟨3, _⟩ => rfl
  · funext a; match a with | ⟨0, _⟩ => rfl | ⟨1, _⟩ => rfl | ⟨2, _⟩ => rfl | ⟨3, _⟩ => rfl

variable (hx : ∀ i, IsReal (x i)) (hwq : ∀ i, IsReal (wq i)) (hks : ∀ i, IsReal (ks i))

include hx hwq in
theorem query_real (r : Fin 1024) (k : Fin 8192) : IsReal (query x wq r k) :=
  IsReal.sum _ fun i => (hx _).mul (hwq _)

include hx hwq hks in
theorem v8_real (i : S4x64x256x1024.Idx) : IsReal (val_main_v8 (F := Ideal) x wq ks i) := by
  refine (congrArg IsReal ((congrArg (val_main_v8 (F := Ideal) x wq ks) (eq_ix4 i)).trans
    (v8_at x wq ks (i 0) (i 1) (i 2) (i 3)))).mpr ?_
  exact (IsReal.sum _ fun e => (query_real x wq hx hwq _ _).mul (hks _)).mul scale_real

/-- A row's largest score, from minus infinity. -/
def top (b : Fin 4) (h : Fin 64) (r : Fin 256) : EReal := val_main_v11 (F := Ideal) x wq ks (ix4 b h r (0 : Fin 1))

/-- The float that stands for minus infinity. -/
theorem neg_inf : Ideal.ofBits .f32 0xFF800000#32 = ⊥ := by simp [Ideal.ofBits, Ideal.ieee]

include hx hwq hks in
/-- It is a real number. -/
theorem top_real (b : Fin 4) (h : Fin 64) (r : Fin 256) : IsReal (top x wq ks b h r) := by
  unfold top
  rw [val_main_v11_apply]
  show IsReal (max (Ideal.ofBits .f32 0xFF800000#32) (val_main_v10 (F := Ideal) x wq ks _))
  rw [neg_inf, max_bot_left, val_main_v10_apply]
  unfold val_main_v9
  refine (congrArg IsReal (Host.reduce_eq_fold_single (FloatOps.maximumf (F := Ideal) (φ := .f32)) (val_main_v8 (F := Ideal) x wq ks)
    (val_main_cst_3 (F := Ideal)) reducesTo_S4x64x256x1024_S4x64x256_d3 (by decide) h_S_ _)).mpr ?_
  show IsReal (Finset.univ.fold max (Ideal.ofBits .f32 0xFF800000#32) _)
  rw [neg_inf]
  exact isReal_fold_max _ ⟨(⟨0, by decide⟩ : Fin 1024), Finset.mem_univ _⟩ fun k => v8_real x wq ks hx hwq hks _

/-- A row's weights. -/
theorem v16_at (b : Fin 4) (h : Fin 64) (r : Fin 256) (j : Fin 1024) :
    val_main_v16 (F := Ideal) x wq ks (ix4 b h r j)
      = Ideal.exp (val_main_v8 (F := Ideal) x wq ks (ix4 b h r j) - top x wq ks b h r) := by
  rw [val_main_v16_apply, val_main_v15_apply, val_main_v14_apply]
  refine congrArg Ideal.exp (congrArg (val_main_v8 (F := Ideal) x wq ks (ix4 b h r j) - ·) (congrArg (val_main_v11 (F := Ideal) x wq ks) ?_))
  funext a; match a with | ⟨0, _⟩ => rfl | ⟨1, _⟩ => rfl | ⟨2, _⟩ => rfl | ⟨3, _⟩ => rfl

/-- The sum of a row's weights. -/
theorem v20_at (b : Fin 4) (h : Fin 64) (r : Fin 256) :
    val_main_v20 (F := Ideal) x wq ks (ix4 b h r (0 : Fin 1))
      = ∑ j : Fin 1024, Ideal.exp (val_main_v8 (F := Ideal) x wq ks (ix4 b h r j) - top x wq ks b h r) := by
  rw [val_main_v20_apply, val_main_v17_apply, val_main_v19_apply, val_main_v18_apply]
  show Ideal.ofBits .f32 0x00000000#32 * _ + (Ideal.ofBits .f32 0x00000000#32 + _) = _
  rw [Ideal.ofBits_zero_f32, zero_mul, zero_add, zero_add]
  refine Finset.sum_congr rfl fun j _ => Eq.trans (congrArg (val_main_v16 (F := Ideal) x wq ks) ?_) (v16_at x wq ks b h r j)
  funext a; match a with | ⟨0, _⟩ => rfl | ⟨1, _⟩ => rfl | ⟨2, _⟩ => rfl | ⟨3, _⟩ => rfl

/-- The weighted sum of a head's values. -/
theorem v26_at (b : Fin 4) (r : Fin 256) (h : Fin 64) (d : Fin 128) :
    val_main_v26 (F := Ideal) x wq ks vs (ix4 b r h d)
      = ∑ j : Fin 1024, vs (ix4 b j h d) * Ideal.exp (val_main_v8 (F := Ideal) x wq ks (ix4 b h r j) - top x wq ks b h r) := by
  rw [val_main_v26_apply, val_main_v23_apply, val_main_v25_apply, val_main_v24_apply]
  show Ideal.ofBits .f32 0x00000000#32 * _ + _ = _
  rw [Ideal.ofBits_zero_f32, zero_mul, zero_add]
  refine Finset.sum_congr rfl fun j _ => congrArg₂ (· * ·) (congrArg vs ?_)
    (Eq.trans (congrArg (val_main_v16 (F := Ideal) x wq ks) ?_) (v16_at x wq ks b h r j)) <;>
  · funext a; match a with | ⟨0, _⟩ => rfl | ⟨1, _⟩ => rfl | ⟨2, _⟩ => rfl | ⟨3, _⟩ => rfl

include hx hwq hks in
/-- The attention at an index. -/
theorem v29_at (b : Fin 4) (r : Fin 256) (h : Fin 64) (d : Fin 128) :
    val_main_v29 (F := Ideal) x wq ks vs (ix4 b r h d) = attn x wq ks vs (rowOf b r) (colIn h d) := by
  rw [val_main_v29_apply, val_main_v28_apply, val_main_v27_apply, v26_at]
  rw [show idx_main_v27 (idx_main_v28 (ix4 b r h d)) = ix4 b h r (0 : Fin 1) from by
    funext a; match a with | ⟨0, _⟩ => rfl | ⟨1, _⟩ => rfl | ⟨2, _⟩ => rfl | ⟨3, _⟩ => rfl, v20_at]
  refine (avg_shift (by decide) (fun j => val_main_v8 (F := Ideal) x wq ks (ix4 b h r j)) (fun j => vs (ix4 b j h d)) _
    (fun j => v8_real x wq ks hx hwq hks _) (top_real x wq ks hx hwq hks b h r)).trans ?_
  unfold attn
  have hB : batchOf (rowOf b r) = b := Fin.ext (by show (256 * b.val + r.val) / 256 = b.val; omega)
  have hH : headOf (colIn h d) = h := Fin.ext (by show (128 * h.val + d.val) / 128 = h.val; omega)
  have hI : inHead (colIn h d) = d := Fin.ext (by show (128 * h.val + d.val) % 128 = d.val; omega)
  have hC : ∀ e, colOf (colIn h d) e = colIn h e := fun e => Fin.ext (by
    show 128 * ((128 * h.val + d.val) / 128) + e.val = 128 * h.val + e.val; omega)
  rw [hB, hH, hI]
  congr 1
  funext j
  rw [v8_at]
  unfold score
  rw [hB, hH]
  simp only [hC]
  exact (score_scale _ _ _ (fun e => query_real x wq hx hwq _ _) (fun e => hks _) scale_real).symm

include hx hwq hks in
/-- The reference's result is the layer's. -/
theorem v33_spec : val_main_v33 (F := Ideal) x wq wo ks vs = out x wq wo ks vs := by
  funext i
  have h0 : (i 0).val < 1024 := (i 0).isLt
  have h1 : (i 1).val < 1024 := (i 1).isLt
  rw [val_main_v33_apply]
  show val_main_v32 (F := Ideal) x wq wo ks vs i = ∑ k : Fin 8192, _
  rw [val_main_v32_apply, val_main_v31_apply]
  refine Finset.sum_congr rfl fun k _ => congrArg₂ (· * ·) ?_ (congrArg wo ?_)
  · rw [val_main_v30_apply]
    have hk := k.isLt
    refine (congrArg (val_main_v29 (F := Ideal) x wq ks vs) (a₂ := ix4 (batchOf (i 0)) (⟨(i 0).val % 256, Nat.mod_lt _ (by decide)⟩ : Fin 256)
      (headOf k) (inHead k)) ?_).trans ((v29_at x wq ks vs hx hwq hks _ _ _ _).trans (congrArg₂ (attn x wq ks vs) ?_ ?_))
    · have e0 : ((i 0).val * 1024 + (i 1).val) / 262144 = (i 0).val / 256 := by omega
      have e1 : ((i 0).val * 1024 + (i 1).val) / 1024 % 256 = (i 0).val % 256 := by omega
      funext a
      refine Fin.ext ?_
      match a with
      | ⟨0, _⟩ =>
        show ((((i 0).val * 1024 + (i 1).val) / 262144 * 256 + ((i 0).val * 1024 + (i 1).val) / 1024 % 256) * 8192 + k.val) / 2097152
          = (i 0).val / 256
        rw [e0, e1]; omega
      | ⟨1, _⟩ =>
        show ((((i 0).val * 1024 + (i 1).val) / 262144 * 256 + ((i 0).val * 1024 + (i 1).val) / 1024 % 256) * 8192 + k.val) / 8192 % 256
          = (i 0).val % 256
        rw [e0, e1]; omega
      | ⟨2, _⟩ =>
        show ((((i 0).val * 1024 + (i 1).val) / 262144 * 256 + ((i 0).val * 1024 + (i 1).val) / 1024 % 256) * 8192 + k.val) / 128 % 64
          = k.val / 128
        rw [e0, e1]; omega
      | ⟨3, _⟩ =>
        show ((((i 0).val * 1024 + (i 1).val) / 262144 * 256 + ((i 0).val * 1024 + (i 1).val) / 1024 % 256) * 8192 + k.val) % 128
          = k.val % 128
        rw [e0, e1]; omega
    · refine Fin.ext ?_
      show 256 * ((i 0).val / 256) + (i 0).val % 256 = (i 0).val; omega
    · refine Fin.ext ?_
      show 128 * (k.val / 128) + k.val % 128 = k.val; omega
  · funext a
    refine Fin.ext ?_
    match a with
    | ⟨0, _⟩ => rfl
    | ⟨1, _⟩ => show ((i 0).val * 1024 + (i 1).val) % 1024 = (i 1).val; omega

end Cert.ReferenceIdeal.Hand

end
-- ==== Proof.Pre.lean ====
/-
  The precondition, read: the device's `x`, block of the query weights and keys hold real numbers.
-/
module

public import proofs.«01_k».proof.Pre_finite_KernelIdeal
public import proofs.«01_k».proof.Proof.Softmax
public import Idealize.ShloMosaic.Lib.ReduceAll
public import Idealize.ShloMosaic.PureOps.Ideal.Laws

@[expose] public section

noncomputable section

namespace Cert.Pre_finite_KernelIdeal.Hand

open Cert.Pre_finite_KernelIdeal Cert.Softmax
open Idealize.ShloMosaic

/-- The float that stands for infinity. -/
theorem pos_inf : Ideal.ofBits .f32 0x7F800000#32 = ⊤ := by simp [Ideal.ofBits, Ideal.ieee]

/-- An extended real whose absolute value is below infinity is a real. -/
theorem real_of_abs (a : EReal) (h : BitVec.ofBool (decide (max a (-a) < Ideal.ofBits .f32 0x7F800000#32)) = 1#1) : IsReal a := by
  rw [pos_inf] at h
  have h' : max a (-a) < ⊤ := by
    by_contra hn
    rw [decide_eq_false hn] at h
    exact absurd h (by decide)
  induction a with
  | bot => exact absurd h' (by simp)
  | top => exact absurd h' (by simp)
  | coe r => exact ⟨r, rfl⟩

instance : Subsingleton S_.Idx := ⟨fun a b => funext fun x => x.elim0⟩

variable [Facts]
open Facts

/-- The three arrays the precondition speaks of hold real numbers. -/
theorem reals (x wq wo : FVec Ideal S1024x1024 .f32) (ks vs : FVec Ideal S4x1024x64x128 .f32)
    (h : fn (F := Ideal) x wq wo ks vs = fun _ => 1#1) :
    (∀ i, IsReal (x i)) ∧ (∀ i, IsReal (wq i)) ∧ ∀ i, IsReal (ks i) := by
  have h0 := congrFun h (fun a => a.elim0)
  dsimp only [fn] at h0
  obtain ⟨h1, h3⟩ := IntOp.andi_eq_one.1 h0
  obtain ⟨h1, h2⟩ := IntOp.andi_eq_one.1 h1
  exact ⟨fun i => real_of_abs _ (Host.reduce_andi_all _ _ _ _ _ h1 i), fun i => real_of_abs _ (Host.reduce_andi_all _ _ _ _ _ h2 i),
    fun i => real_of_abs _ (Host.reduce_andi_all _ _ _ _ _ h3 i)⟩

end Cert.Pre_finite_KernelIdeal.Hand

end
-- ==== Proof.lean ====
/-
The certificate: both programs' runs and the reference's, put together as the claim.
-/
module

public import proofs.«01_k».proof.Defs
public import proofs.«01_k».proof.Proof.Launch
public import proofs.«01_k».proof.Proof.Bits.Launch
public import proofs.«01_k».proof.Proof.Gen.Pre_finite_KernelIdeal
public import proofs.«01_k».proof.Proof.Gen.Pre_finite_ReferenceIdeal
public import proofs.«01_k».proof.Proof.Gen.ReferenceIdeal
public import proofs.«01_k».proof.Proof.Gen.ReferenceIdeal.Run
public import proofs.«01_k».proof.Proof.KValue
public import proofs.«01_k».proof.Proof.RValue
public import proofs.«01_k».proof.Proof.Pre

@[expose] public section

noncomputable section

namespace Cert.Proof

open Idealize.ShloMosaic Idealize.SL.Sem

/-- The printed program runs, its arguments end unchanged and its counters at zero. -/
theorem frame_bits : Cert.quiescent_Kernel := fun m g _ => Cert.Kernel.Hand.run_kept m g

/-- The idealized program runs, its arguments end unchanged and its counters at zero. -/
theorem frame_ideal : Cert.quiescent_KernelIdeal := fun m g _ => Cert.KernelIdeal.Hand.run_kept m g

/-- The reference runs, its arguments end unchanged and its counters at zero: it names no semaphore. -/
theorem frame_reference : Cert.quiescent_ReferenceIdeal := fun m g _ =>
  (θ_run _ _ _).mono (fun r h => ⟨fun c => (h c).2, sem_eq_zero_of_no_sems rfl r.2⟩) (Cert.ReferenceIdeal.Value.run m g)

/-- A device's block of columns of the query weights, at an index. -/
theorem block_columns (c : Fin 8) (w : Cert.Spec.Mat 1024 8192) (i k : Fin 1024) :
    Layout.block ⟨2, ![1024, 1024]⟩ ⟨2, ![1024, 8192]⟩ 1 8 c w (by decide) (ValueIdx.ix2 i k)
      = w (ValueIdx.ix2 i (Cert.Spec.colAt c k)) := by
  refine congrArg w (funext fun a => Fin.ext ?_)
  match a with
  | ⟨0, _⟩ => rfl
  | ⟨1, _⟩ => exact congrArg (· + k.val) (Nat.mul_comm c.val 1024)

/-- A device's block of rows of the output weights, at an index. -/
theorem block_rows (c : Fin 8) (w : Cert.Spec.Mat 8192 1024) (k n : Fin 1024) :
    Layout.block ⟨2, ![1024, 1024]⟩ ⟨2, ![8192, 1024]⟩ 0 8 c w (by decide) (ValueIdx.ix2 k n)
      = w (ValueIdx.ix2 (Cert.Spec.colAt c k) n) := by
  refine congrArg w (funext fun a => Fin.ext ?_)
  match a with
  | ⟨0, _⟩ => exact congrArg (· + k.val) (Nat.mul_comm c.val 1024)
  | ⟨1, _⟩ => rfl

/-- Every entry of the query weights lies in one of the devices' blocks. -/
theorem column_eq (i : (⟨2, ![1024, 8192]⟩ : Shape).Idx) :
    ∃ (c : Fin 8) (r k : Fin 1024), i = ValueIdx.ix2 r (Cert.Spec.colAt c k) := by
  have h1 : (i 1).val < 8192 := (i 1).isLt
  refine ⟨⟨(i 1).val / 1024, by omega⟩, i 0, ⟨(i 1).val % 1024, Nat.mod_lt _ (by decide)⟩, funext fun a => Fin.ext ?_⟩
  match a with
  | ⟨0, _⟩ => rfl
  | ⟨1, _⟩ => show (i 1).val = 1024 * ((i 1).val / 1024) + (i 1).val % 1024; omega

section
variable (m' : (ℓ : Loc Cert.ReferenceIdeal.nD Cert.ReferenceIdeal.τ Cert.ReferenceIdeal.sig) → Buf (Elt Ideal) ℓ)

/-- The reference's argument arrays, as arrays of extended reals. -/
def rX : Cert.Spec.Mat 1024 1024 :=
  m' (((0 : Dev Cert.ReferenceIdeal.nD).tc : Thread Cert.ReferenceIdeal.nD Cert.ReferenceIdeal.τ).loc Cert.ReferenceIdeal.main_arg0)
def rWq : Cert.Spec.Mat 1024 8192 :=
  m' (((0 : Dev Cert.ReferenceIdeal.nD).tc : Thread Cert.ReferenceIdeal.nD Cert.ReferenceIdeal.τ).loc Cert.ReferenceIdeal.main_arg1)
def rWo : Cert.Spec.Mat 8192 1024 :=
  m' (((0 : Dev Cert.ReferenceIdeal.nD).tc : Thread Cert.ReferenceIdeal.nD Cert.ReferenceIdeal.τ).loc Cert.ReferenceIdeal.main_arg2)
def rK : Cert.Spec.Cache :=
  m' (((0 : Dev Cert.ReferenceIdeal.nD).tc : Thread Cert.ReferenceIdeal.nD Cert.ReferenceIdeal.τ).loc Cert.ReferenceIdeal.main_arg3)
def rV : Cert.Spec.Cache :=
  m' (((0 : Dev Cert.ReferenceIdeal.nD).tc : Thread Cert.ReferenceIdeal.nD Cert.ReferenceIdeal.τ).loc Cert.ReferenceIdeal.main_arg4)
end

/-- On arguments that are the layer's, whole or by blocks, with `x`, the query weights and the keys finite, both programs
    run and leave the same result, the kernel on every device. -/
theorem value : Cert.algebraic_KernelIdeal_ReferenceIdeal_pre_finite_KernelIdeal := by
  intro m g m' g' hpre hagree
  have H : Cert.KernelIdeal.Hand.Laid m
      (rX m') (rWq m') (rWo m') (rK m') (rV m') :=
    { x := fun c => (hagree c).1
      wq := fun c i k => (congrFun (hagree c).2.1 (ValueIdx.ix2 i k)).trans (block_columns c _ i k)
      wo := fun c k n => (congrFun (hagree c).2.2.1 (ValueIdx.ix2 k n)).trans (block_rows c _ k n)
      k := fun c => (hagree c).2.2.2.1
      v := fun c => (hagree c).2.2.2.2 }
  have hr := fun c => Cert.Pre_finite_KernelIdeal.Hand.reals _ _ _ _ _ (hpre c)
  refine ⟨Cert.Spec.out (rX m') (rWq m') (rWo m') (rK m') (rV m'), ?_, ?_⟩
  · refine (θ_run _ _ _).mono (fun r h c => ⟨(h c).1.trans ?_, (h c).2⟩) (Cert.KernelIdeal.Hand.run_value m g)
    exact (Cert.KernelIdeal.Hand.finalA_out g c).trans (Cert.KernelIdeal.Hand.finC_spec H c)
  · refine (θ_run _ _ _).mono (fun r h => ⟨(h 0).1.trans ?_, (h 0).2⟩) (Cert.ReferenceIdeal.Value.run m' g')
    rw [Cert.ReferenceIdeal.Read.val_main_v33_eq]
    refine Cert.ReferenceIdeal.Hand.v33_spec (rX m') (rWq m') (rWo m') (rK m') (rV m') (fun i => ?_) (fun i => ?_) (fun i => ?_)
    · rw [← H.x 0]; exact (hr 0).1 i
    · obtain ⟨c, r, k, rfl⟩ := column_eq i
      rw [← H.wq c r k]; exact (hr c).2.1 _
    · rw [← H.k 0]; exact (hr 0).2.2 i

theorem claim : Cert.Claim :=
  ⟨Cert.Kernel.Gen.facts, Cert.KernelIdeal.Gen.facts, Cert.ReferenceIdeal.Gen.facts, Cert.Pre_finite_KernelIdeal.Gen.facts,
    Cert.Pre_finite_ReferenceIdeal.Gen.facts, frame_bits, frame_ideal, fun m g _ => frame_ideal m g trivial, frame_reference,
    fun m g _ => frame_reference m g trivial, trivial, value⟩

end Cert.Proof

end
